-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_chars_in_table [hPre_chars_in_table : Cert.Pre_chars_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_chars_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_chars_in_table [hPre_chars_in_table : Cert.Pre_chars_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chars_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_chars_in_table [hKernelIdeal : Cert.KernelIdeal.Facts] [hPre_chars_in_table : Cert.Pre_chars_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chars_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_chars_in_table [hReferenceIdeal : Cert.ReferenceIdeal.Facts] [hPre_chars_in_table : Cert.Pre_chars_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chars_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_chars_in_table [hKernelIdeal : Cert.KernelIdeal.Facts] [hReferenceIdeal : Cert.ReferenceIdeal.Facts] [hPre_chars_in_table : Cert.Pre_chars_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chars_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v673) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_chars_in_table : Cert.Pre_chars_in_table.Facts),
    quiescent_Kernel (hKernel := hKernel)
    ∧ quiescent_KernelIdeal (hKernelIdeal := hKernelIdeal)
    ∧ quiescent_KernelIdeal_pre_chars_in_table (hKernelIdeal := hKernelIdeal) (hPre_chars_in_table := hPre_chars_in_table)
    ∧ quiescent_ReferenceIdeal (hReferenceIdeal := hReferenceIdeal)
    ∧ quiescent_ReferenceIdeal_pre_chars_in_table (hReferenceIdeal := hReferenceIdeal) (hPre_chars_in_table := hPre_chars_in_table)
    ∧ preserves_Kernel_KernelIdeal
    ∧ algebraic_KernelIdeal_ReferenceIdeal_pre_chars_in_table (hKernelIdeal := hKernelIdeal) (hReferenceIdeal := hReferenceIdeal) (hPre_chars_in_table := hPre_chars_in_table)
-- ==== Pre_chars_in_table.lean ====
abbrev S8192x16 : Shape := ⟨2, ![8192, 16]⟩
abbrev S8192 : Shape := ⟨1, ![8192]⟩
abbrev S64x128x1024 : Shape := ⟨3, ![64, 128, 1024]⟩
abbrev S64x128x300 : Shape := ⟨3, ![64, 128, 300]⟩
abbrev S64x128x7 : Shape := ⟨3, ![64, 128, 7]⟩
abbrev S128x64 : Shape := ⟨2, ![128, 64]⟩
abbrev S192x64 : Shape := ⟨2, ![192, 64]⟩
abbrev S192 : Shape := ⟨1, ![192]⟩
abbrev S768x1395 : Shape := ⟨2, ![768, 1395]⟩
abbrev S768x256 : Shape := ⟨2, ![768, 256]⟩
abbrev S768 : Shape := ⟨1, ![768]⟩
abbrev S_ : Shape := ⟨0, ![]⟩

class Facts : Prop where
  bcast_S_S8192x16 : S_.BroadcastsInDim S8192x16 (![] : Fin 0 → Fin S8192x16.rank)

variable [Facts]

def fn {F : FTy → Type} [FloatOps F] (main_arg0 : IVec S8192x16 32) (main_arg1 : IVec S8192 32) (main_arg2 : FVec F S64x128x1024 .f32) (main_arg3 : FVec F S64x128x300 .f32) (main_arg4 : FVec F S64x128x7 .f32) (main_arg5 : FVec F S128x64 .f32) (main_arg6 : FVec F S192x64 .f32) (main_arg7 : FVec F S192x64 .f32) (main_arg8 : FVec F S192 .f32) (main_arg9 : FVec F S192 .f32) (main_arg10 : FVec F S768x1395 .f32) (main_arg11 : FVec F S768x256 .f32) (main_arg12 : FVec F S768 .f32) (main_arg13 : FVec F S768 .f32) (main_arg14 : FVec F S768x1395 .f32) (main_arg15 : FVec F S768x256 .f32) (main_arg16 : FVec F S768 .f32) (main_arg17 : FVec F S768 .f32) : IVec S8192x16 1 :=
  let main_c : IVec S_ 32 := constantI S_ 32 0#32
  let main_v0 : IVec S8192x16 32 := broadcastInDim S8192x16 ![] bcast_S_S8192x16 main_c
  let main_v1 : IVec S8192x16 1 := cmpi .sge main_arg0 main_v0
  let main_c_0 : IVec S_ 32 := constantI S_ 32 128#32
  let main_v2 : IVec S8192x16 32 := broadcastInDim S8192x16 ![] bcast_S_S8192x16 main_c_0
  let main_v3 : IVec S8192x16 1 := cmpi .slt main_arg0 main_v2
  let main_v4 : IVec S8192x16 1 := andi main_v1 main_v3
  main_v4
-- ==== Kernel.lean ====
abbrev S8192x16 : Shape := ⟨2, ![8192, 16]⟩
abbrev S8192 : Shape := ⟨1, ![8192]⟩
abbrev S64x128x1024 : Shape := ⟨3, ![64, 128, 1024]⟩
abbrev S64x128x300 : Shape := ⟨3, ![64, 128, 300]⟩
abbrev S64x128x7 : Shape := ⟨3, ![64, 128, 7]⟩
abbrev S128x64 : Shape := ⟨2, ![128, 64]⟩
abbrev S192x64 : Shape := ⟨2, ![192, 64]⟩
abbrev S192 : Shape := ⟨1, ![192]⟩
abbrev S768x1395 : Shape := ⟨2, ![768, 1395]⟩
abbrev S768x256 : Shape := ⟨2, ![768, 256]⟩
abbrev S768 : Shape := ⟨1, ![768]⟩
abbrev S_ : Shape := ⟨0, ![]⟩
abbrev S8192x1 : Shape := ⟨2, ![8192, 1]⟩
abbrev S8192x64 : Shape := ⟨2, ![8192, 64]⟩
abbrev S1395x768 : Shape := ⟨2, ![1395, 768]⟩
abbrev S1395x1536 : Shape := ⟨2, ![1395, 1536]⟩
abbrev S1024x1536 : Shape := ⟨2, ![1024, 1536]⟩
abbrev S300x1536 : Shape := ⟨2, ![300, 1536]⟩
abbrev S64x1536 : Shape := ⟨2, ![64, 1536]⟩
abbrev S7x1536 : Shape := ⟨2, ![7, 1536]⟩
abbrev S1536 : Shape := ⟨1, ![1536]⟩
abbrev S1x1536 : Shape := ⟨2, ![1, 1536]⟩
abbrev S64x192 : Shape := ⟨2, ![64, 192]⟩
abbrev S1x192 : Shape := ⟨2, ![1, 192]⟩
abbrev S8192x1024 : Shape := ⟨2, ![8192, 1024]⟩
abbrev S8192x300 : Shape := ⟨2, ![8192, 300]⟩
abbrev S8192x7 : Shape := ⟨2, ![8192, 7]⟩
abbrev S8192x1536 : Shape := ⟨2, ![8192, 1536]⟩
abbrev S1024x16 : Shape := ⟨2, ![1024, 16]⟩
abbrev S1024x64 : Shape := ⟨2, ![1024, 64]⟩
abbrev S1024x1024 : Shape := ⟨2, ![1024, 1024]⟩
abbrev S1024x300 : Shape := ⟨2, ![1024, 300]⟩
abbrev S1024x7 : Shape := ⟨2, ![1024, 7]⟩
abbrev S128x192 : Shape := ⟨2, ![128, 192]⟩
abbrev S1024x128 : Shape := ⟨2, ![1024, 128]⟩
abbrev S1024x1 : Shape := ⟨2, ![1024, 1]⟩
abbrev S1024x192 : Shape := ⟨2, ![1024, 192]⟩
abbrev S64x128x1536 : Shape := ⟨3, ![64, 128, 1536]⟩
abbrev S256x768 : Shape := ⟨2, ![256, 768]⟩
abbrev S1x768 : Shape := ⟨2, ![1, 768]⟩
abbrev S64x128x512 : Shape := ⟨3, ![64, 128, 512]⟩
abbrev S8x128x768 : Shape := ⟨3, ![8, 128, 768]⟩
abbrev S128x256 : Shape := ⟨2, ![128, 256]⟩
abbrev S1x128x768 : Shape := ⟨3, ![1, 128, 768]⟩
abbrev S128x768 : Shape := ⟨2, ![128, 768]⟩
abbrev S1x128x256 : Shape := ⟨3, ![1, 128, 256]⟩

abbrev nBuf : Space → Nat
  | .hbm => 60
  | .vmem => 33
  | .smem => 0
  | _ => 0

abbrev bufTy : (tb : Table) → Fin (tcTables nBuf tb) → BufTy
  | .hbm, ⟨0, _⟩ => ⟨S8192x16, .i32⟩
  | .hbm, ⟨1, _⟩ => ⟨S8192, .i32⟩
  | .hbm, ⟨2, _⟩ => ⟨S64x128x1024, .f32⟩
  | .hbm, ⟨3, _⟩ => ⟨S64x128x300, .f32⟩
  | .hbm, ⟨4, _⟩ => ⟨S64x128x7, .f32⟩
  | .hbm, ⟨5, _⟩ => ⟨S128x64, .f32⟩
  | .hbm, ⟨6, _⟩ => ⟨S192x64, .f32⟩
  | .hbm, ⟨7, _⟩ => ⟨S192x64, .f32⟩
  | .hbm, ⟨8, _⟩ => ⟨S192, .f32⟩
  | .hbm, ⟨9, _⟩ => ⟨S192, .f32⟩
  | .hbm, ⟨10, _⟩ => ⟨S768x1395, .f32⟩
  | .hbm, ⟨11, _⟩ => ⟨S768x256, .f32⟩
  | .hbm, ⟨12, _⟩ => ⟨S768, .f32⟩
  | .hbm, ⟨13, _⟩ => ⟨S768, .f32⟩
  | .hbm, ⟨14, _⟩ => ⟨S768x1395, .f32⟩
  | .hbm, ⟨15, _⟩ => ⟨S768x256, .f32⟩
  | .hbm, ⟨16, _⟩ => ⟨S768, .f32⟩
  | .hbm, ⟨17, _⟩ => ⟨S768, .f32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .bf16⟩
  | .hbm, ⟨30, _⟩ => ⟨S8192x1, .bf16⟩
  | .hbm, ⟨31, _⟩ => ⟨S8192x64, .bf16⟩
  | .hbm, ⟨32, _⟩ => ⟨S1395x768, .f32⟩
  | .hbm, ⟨33, _⟩ => ⟨S1395x768, .f32⟩
  | .hbm, ⟨34, _⟩ => ⟨S1395x1536, .f32⟩
  | .hbm, ⟨35, _⟩ => ⟨S1395x1536, .bf16⟩
  | .hbm, ⟨36, _⟩ => ⟨S1024x1536, .bf16⟩
  | .hbm, ⟨37, _⟩ => ⟨S300x1536, .bf16⟩
  | .hbm, ⟨38, _⟩ => ⟨S64x1536, .bf16⟩
  | .hbm, ⟨39, _⟩ => ⟨S7x1536, .bf16⟩
  | .hbm, ⟨40, _⟩ => ⟨S1536, .f32⟩
  | .hbm, ⟨41, _⟩ => ⟨S1x1536, .f32⟩
  | .hbm, ⟨42, _⟩ => ⟨S8192x16, .bf16⟩
  | .hbm, ⟨43, _⟩ => ⟨S64x192, .f32⟩
  | .hbm, ⟨44, _⟩ => ⟨S64x192, .f32⟩
  | .hbm, ⟨45, _⟩ => ⟨S64x192, .bf16⟩
  | .hbm, ⟨46, _⟩ => ⟨S1x192, .f32⟩
  | .hbm, ⟨47, _⟩ => ⟨S1x192, .f32⟩
  | .hbm, ⟨48, _⟩ => ⟨S8192x1024, .f32⟩
  | .hbm, ⟨49, _⟩ => ⟨S8192x300, .f32⟩
  | .hbm, ⟨50, _⟩ => ⟨S8192x7, .f32⟩
  | .hbm, ⟨51, _⟩ => ⟨S8192x1536, .bf16⟩
  | .hbm, ⟨52, _⟩ => ⟨S64x128x1536, .bf16⟩
  | .hbm, ⟨53, _⟩ => ⟨S256x768, .f32⟩
  | .hbm, ⟨54, _⟩ => ⟨S256x768, .bf16⟩
  | .hbm, ⟨55, _⟩ => ⟨S256x768, .f32⟩
  | .hbm, ⟨56, _⟩ => ⟨S256x768, .bf16⟩
  | .hbm, ⟨57, _⟩ => ⟨S1x768, .f32⟩
  | .hbm, ⟨58, _⟩ => ⟨S1x768, .f32⟩
  | .hbm, ⟨59, _⟩ => ⟨S64x128x512, .f32⟩
  | .local _ .vmem, ⟨0, _⟩ => ⟨S1024x16, .bf16⟩
  | .local _ .vmem, ⟨1, _⟩ => ⟨S1024x16, .bf16⟩
  | .local _ .vmem, ⟨2, _⟩ => ⟨S1024x64, .bf16⟩
  | .local _ .vmem, ⟨3, _⟩ => ⟨S1024x64, .bf16⟩
  | .local _ .vmem, ⟨4, _⟩ => ⟨S128x64, .f32⟩
  | .local _ .vmem, ⟨5, _⟩ => ⟨S64x192, .f32⟩
  | .local _ .vmem, ⟨6, _⟩ => ⟨S64x192, .bf16⟩
  | .local _ .vmem, ⟨7, _⟩ => ⟨S1x192, .f32⟩
  | .local _ .vmem, ⟨8, _⟩ => ⟨S1x192, .f32⟩
  | .local _ .vmem, ⟨9, _⟩ => ⟨S1024x1024, .f32⟩
  | .local _ .vmem, ⟨10, _⟩ => ⟨S1024x1024, .f32⟩
  | .local _ .vmem, ⟨11, _⟩ => ⟨S1024x300, .f32⟩
  | .local _ .vmem, ⟨12, _⟩ => ⟨S1024x300, .f32⟩
  | .local _ .vmem, ⟨13, _⟩ => ⟨S1024x7, .f32⟩
  | .local _ .vmem, ⟨14, _⟩ => ⟨S1024x7, .f32⟩
  | .local _ .vmem, ⟨15, _⟩ => ⟨S1024x1536, .bf16⟩
  | .local _ .vmem, ⟨16, _⟩ => ⟨S300x1536, .bf16⟩
  | .local _ .vmem, ⟨17, _⟩ => ⟨S64x1536, .bf16⟩
  | .local _ .vmem, ⟨18, _⟩ => ⟨S7x1536, .bf16⟩
  | .local _ .vmem, ⟨19, _⟩ => ⟨S1x1536, .f32⟩
  | .local _ .vmem, ⟨20, _⟩ => ⟨S1024x1536, .bf16⟩
  | .local _ .vmem, ⟨21, _⟩ => ⟨S1024x1536, .bf16⟩
  | .local _ .vmem, ⟨22, _⟩ => ⟨S8x128x768, .bf16⟩
  | .local _ .vmem, ⟨23, _⟩ => ⟨S8x128x768, .bf16⟩
  | .local _ .vmem, ⟨24, _⟩ => ⟨S8x128x768, .bf16⟩
  | .local _ .vmem, ⟨25, _⟩ => ⟨S8x128x768, .bf16⟩
  | .local _ .vmem, ⟨26, _⟩ => ⟨S256x768, .bf16⟩
  | .local _ .vmem, ⟨27, _⟩ => ⟨S256x768, .bf16⟩
  | .local _ .vmem, ⟨28, _⟩ => ⟨S1x768, .f32⟩
  | .local _ .vmem, ⟨29, _⟩ => ⟨S1x768, .f32⟩
  | .local _ .vmem, ⟨30, _⟩ => ⟨S64x128x512, .f32⟩
  | .local _ .vmem, ⟨31, _⟩ => ⟨S128x256, .f32⟩
  | .local _ .vmem, ⟨32, _⟩ => ⟨S128x256, .f32⟩
  | _, _ => ⟨S8192x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_scratch0 : Ref sig .tc := ⟨.vmem, 31, rfl⟩
abbrev cc1_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x300 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x7 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S300x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S7x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![8], ![false]⟩

def k1_off1 (i : grid1.Coords) (c0_i32_12 : BitVec 32) : Fin 3 → Nat :=
  let arg0 : BitVec 32 := BitVec.ofNat 32 (i 0).val
  let c8_i32 : BitVec 32 := 8#32
  let v35 : BitVec 32 := Scalar.muli arg0 c8_i32
  let v36 : BitVec 32 := Scalar.addi v35 c0_i32_12
  let v37 : Index := Scalar.indexCast v36
  let c0_13 : Index := 0#32
  let c0_14 : Index := 0#32
  ![v37.toNat, 0, 0]
def k1_off2 (i : grid1.Coords) (c0_i32_24 : BitVec 32) : Fin 3 → Nat :=
  let c63_i32 : BitVec 32 := 63#32
  let arg0 : BitVec 32 := BitVec.ofNat 32 (i 0).val
  let c8_i32_23 : BitVec 32 := 8#32
  let v69 : BitVec 32 := Scalar.muli arg0 c8_i32_23
  let v70 : BitVec 32 := Scalar.subi c63_i32 v69
  let v71 : BitVec 32 := Scalar.subi v70 c0_i32_24
  let v72 : Index := Scalar.indexCast v71
  let c0_25 : Index := 0#32
  let c256 : Index := 256#32
  ![v72.toNat, 0, 256]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c1_i32 : BitVec 32 := 1#32
  let c0_i32_0 : BitVec 32 := 0#32
  ![v0.toNat, c0_i32.toNat, c1_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S8x128x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S8192x16 : Shape := ⟨2, ![8192, 16]⟩
abbrev S8192 : Shape := ⟨1, ![8192]⟩
abbrev S64x128x1024 : Shape := ⟨3, ![64, 128, 1024]⟩
abbrev S64x128x300 : Shape := ⟨3, ![64, 128, 300]⟩
abbrev S64x128x7 : Shape := ⟨3, ![64, 128, 7]⟩
abbrev S128x64 : Shape := ⟨2, ![128, 64]⟩
abbrev S192x64 : Shape := ⟨2, ![192, 64]⟩
abbrev S192 : Shape := ⟨1, ![192]⟩
abbrev S768x1395 : Shape := ⟨2, ![768, 1395]⟩
abbrev S768x256 : Shape := ⟨2, ![768, 256]⟩
abbrev S768 : Shape := ⟨1, ![768]⟩
abbrev S_ : Shape := ⟨0, ![]⟩
abbrev S8192x16x1 : Shape := ⟨3, ![8192, 16, 1]⟩
abbrev S1 : Shape := ⟨1, ![1]⟩
abbrev S1x1x1 : Shape := ⟨3, ![1, 1, 1]⟩
abbrev S8192x16x64 : Shape := ⟨3, ![8192, 16, 64]⟩
abbrev S8192x64 : Shape := ⟨2, ![8192, 64]⟩
abbrev S8192x1x64 : Shape := ⟨3, ![8192, 1, 64]⟩
abbrev S64x192 : Shape := ⟨2, ![64, 192]⟩
abbrev S8192x192 : Shape := ⟨2, ![8192, 192]⟩
abbrev S1x192 : Shape := ⟨2, ![1, 192]⟩
abbrev S8192x1x1 : Shape := ⟨3, ![8192, 1, 1]⟩
abbrev S8192x1 : Shape := ⟨2, ![8192, 1]⟩
abbrev S64x128x64 : Shape := ⟨3, ![64, 128, 64]⟩
abbrev S64x128x1395 : Shape := ⟨3, ![64, 128, 1395]⟩
abbrev S128x256 : Shape := ⟨2, ![128, 256]⟩
abbrev S64x128x256 : Shape := ⟨3, ![64, 128, 256]⟩
abbrev S1x128x1395 : Shape := ⟨3, ![1, 128, 1395]⟩
abbrev S128x1395 : Shape := ⟨2, ![128, 1395]⟩
abbrev S1395x768 : Shape := ⟨2, ![1395, 768]⟩
abbrev S128x768 : Shape := ⟨2, ![128, 768]⟩
abbrev S1x768 : Shape := ⟨2, ![1, 768]⟩
abbrev S256x768 : Shape := ⟨2, ![256, 768]⟩
abbrev S1x128x256 : Shape := ⟨3, ![1, 128, 256]⟩
abbrev S64x128x512 : Shape := ⟨3, ![64, 128, 512]⟩

abbrev nBuf : Space → Nat
  | .hbm => 948
  | .vmem => 0
  | .smem => 0
  | _ => 0

abbrev hbmTy0_0 (i : Nat) : BufTy := match i % 128 with
  | 0 => ⟨S8192x16, .i32⟩
  | 1 => ⟨S8192, .i32⟩
  | 2 => ⟨S64x128x1024, .f32⟩
  | 3 => ⟨S64x128x300, .f32⟩
  | 4 => ⟨S64x128x7, .f32⟩
  | 5 => ⟨S128x64, .f32⟩
  | 6 => ⟨S192x64, .f32⟩
  | 7 => ⟨S192x64, .f32⟩
  | 8 => ⟨S192, .f32⟩
  | 9 => ⟨S192, .f32⟩
  | 10 => ⟨S768x1395, .f32⟩
  | 11 => ⟨S768x256, .f32⟩
  | 12 => ⟨S768, .f32⟩
  | 13 => ⟨S768, .f32⟩
  | 14 => ⟨S768x1395, .f32⟩
  | 15 => ⟨S768x256, .f32⟩
  | 16 => ⟨S768, .f32⟩
  | 17 => ⟨S768, .f32⟩
  | 18 => ⟨S_, .i32⟩
  | 19 => ⟨S8192x16, .i32⟩
  | 20 => ⟨S8192x16, .i1⟩
  | 21 => ⟨S_, .i32⟩
  | 22 => ⟨S8192x16, .i32⟩
  | 23 => ⟨S8192x16, .i32⟩
  | 24 => ⟨S8192x16, .i32⟩
  | 25 => ⟨S8192x16x1, .i32⟩
  | 26 => ⟨S1, .i32⟩
  | 27 => ⟨S_, .i32⟩
  | 28 => ⟨S8192x16x1, .i32⟩
  | 29 => ⟨S8192x16x1, .i1⟩
  | 30 => ⟨S1x1x1, .i32⟩
  | 31 => ⟨S8192x16x1, .i32⟩
  | 32 => ⟨S8192x16x1, .i1⟩
  | 33 => ⟨S8192x16x1, .i1⟩
  | 34 => ⟨S_, .i1⟩
  | 35 => ⟨S8192x16, .i1⟩
  | 36 => ⟨S8192x16x64, .f32⟩
  | 37 => ⟨S8192x16x64, .i1⟩
  | 38 => ⟨S_, .f32⟩
  | 39 => ⟨S8192x16x64, .f32⟩
  | 40 => ⟨S8192x16x64, .f32⟩
  | 41 => ⟨S_, .f32⟩
  | 42 => ⟨S8192x64, .f32⟩
  | 43 => ⟨S8192x1x64, .f32⟩
  | 44 => ⟨S8192x64, .f32⟩
  | 45 => ⟨S64x192, .f32⟩
  | 46 => ⟨S8192x192, .f32⟩
  | 47 => ⟨S1x192, .f32⟩
  | 48 => ⟨S8192x192, .f32⟩
  | 49 => ⟨S8192x192, .f32⟩
  | 50 => ⟨S64x192, .f32⟩
  | 51 => ⟨S8192x192, .f32⟩
  | 52 => ⟨S1x192, .f32⟩
  | 53 => ⟨S8192x192, .f32⟩
  | 54 => ⟨S8192x192, .f32⟩
  | 55 => ⟨S8192x64, .f32⟩
  | 56 => ⟨S8192x64, .f32⟩
  | 57 => ⟨S8192x64, .f32⟩
  | 58 => ⟨S8192x64, .f32⟩
  | 59 => ⟨S8192x64, .f32⟩
  | 60 => ⟨S8192x64, .f32⟩
  | 61 => ⟨S8192x64, .f32⟩
  | 62 => ⟨S8192x64, .f32⟩
  | 63 => ⟨S8192x64, .f32⟩
  | 64 => ⟨S_, .f32⟩
  | 65 => ⟨S8192x64, .f32⟩
  | 66 => ⟨S8192x64, .f32⟩
  | 67 => ⟨S_, .f32⟩
  | 68 => ⟨S8192x64, .f32⟩
  | 69 => ⟨S8192x64, .f32⟩
  | 70 => ⟨S8192x64, .f32⟩
  | 71 => ⟨S8192x64, .f32⟩
  | 72 => ⟨S8192x64, .f32⟩
  | 73 => ⟨S_, .f32⟩
  | 74 => ⟨S8192x64, .f32⟩
  | 75 => ⟨S8192x64, .f32⟩
  | 76 => ⟨S_, .f32⟩
  | 77 => ⟨S8192x64, .f32⟩
  | 78 => ⟨S8192x64, .f32⟩
  | 79 => ⟨S8192x64, .f32⟩
  | 80 => ⟨S8192x64, .f32⟩
  | 81 => ⟨S8192x64, .f32⟩
  | 82 => ⟨S_, .f32⟩
  | 83 => ⟨S8192x64, .f32⟩
  | 84 => ⟨S8192x64, .f32⟩
  | 85 => ⟨S8192x64, .f32⟩
  | 86 => ⟨S8192x64, .f32⟩
  | 87 => ⟨S8192x64, .f32⟩
  | 88 => ⟨S8192x1x64, .f32⟩
  | 89 => ⟨S8192x64, .f32⟩
  | 90 => ⟨S64x192, .f32⟩
  | 91 => ⟨S8192x192, .f32⟩
  | 92 => ⟨S1x192, .f32⟩
  | 93 => ⟨S8192x192, .f32⟩
  | 94 => ⟨S8192x192, .f32⟩
  | 95 => ⟨S64x192, .f32⟩
  | 96 => ⟨S8192x192, .f32⟩
  | 97 => ⟨S1x192, .f32⟩
  | 98 => ⟨S8192x192, .f32⟩
  | 99 => ⟨S8192x192, .f32⟩
  | 100 => ⟨S8192x64, .f32⟩
  | 101 => ⟨S8192x64, .f32⟩
  | 102 => ⟨S8192x64, .f32⟩
  | 103 => ⟨S8192x64, .f32⟩
  | 104 => ⟨S8192x64, .f32⟩
  | 105 => ⟨S8192x64, .f32⟩
  | 106 => ⟨S8192x64, .f32⟩
  | 107 => ⟨S8192x64, .f32⟩
  | 108 => ⟨S8192x64, .f32⟩
  | 109 => ⟨S_, .f32⟩
  | 110 => ⟨S8192x64, .f32⟩
  | 111 => ⟨S8192x64, .f32⟩
  | 112 => ⟨S_, .f32⟩
  | 113 => ⟨S8192x64, .f32⟩
  | 114 => ⟨S8192x64, .f32⟩
  | 115 => ⟨S8192x64, .f32⟩
  | 116 => ⟨S8192x64, .f32⟩
  | 117 => ⟨S8192x64, .f32⟩
  | 118 => ⟨S_, .f32⟩
  | 119 => ⟨S8192x64, .f32⟩
  | 120 => ⟨S8192x64, .f32⟩
  | 121 => ⟨S_, .f32⟩
  | 122 => ⟨S8192x64, .f32⟩
  | 123 => ⟨S8192x64, .f32⟩
  | 124 => ⟨S8192x64, .f32⟩
  | 125 => ⟨S8192x64, .f32⟩
  | 126 => ⟨S8192x64, .f32⟩
  | 127 => ⟨S_, .f32⟩
  | _ => ⟨S8192x16, .i32⟩

abbrev hbmTy0_1 (i : Nat) : BufTy := match i % 128 with
  | 0 => ⟨S8192x64, .f32⟩
  | 1 => ⟨S8192x64, .f32⟩
  | 2 => ⟨S8192x64, .f32⟩
  | 3 => ⟨S8192x64, .f32⟩
  | 4 => ⟨S8192x64, .f32⟩
  | 5 => ⟨S8192x1x64, .f32⟩
  | 6 => ⟨S8192x64, .f32⟩
  | 7 => ⟨S64x192, .f32⟩
  | 8 => ⟨S8192x192, .f32⟩
  | 9 => ⟨S1x192, .f32⟩
  | 10 => ⟨S8192x192, .f32⟩
  | 11 => ⟨S8192x192, .f32⟩
  | 12 => ⟨S64x192, .f32⟩
  | 13 => ⟨S8192x192, .f32⟩
  | 14 => ⟨S1x192, .f32⟩
  | 15 => ⟨S8192x192, .f32⟩
  | 16 => ⟨S8192x192, .f32⟩
  | 17 => ⟨S8192x64, .f32⟩
  | 18 => ⟨S8192x64, .f32⟩
  | 19 => ⟨S8192x64, .f32⟩
  | 20 => ⟨S8192x64, .f32⟩
  | 21 => ⟨S8192x64, .f32⟩
  | 22 => ⟨S8192x64, .f32⟩
  | 23 => ⟨S8192x64, .f32⟩
  | 24 => ⟨S8192x64, .f32⟩
  | 25 => ⟨S8192x64, .f32⟩
  | 26 => ⟨S_, .f32⟩
  | 27 => ⟨S8192x64, .f32⟩
  | 28 => ⟨S8192x64, .f32⟩
  | 29 => ⟨S_, .f32⟩
  | 30 => ⟨S8192x64, .f32⟩
  | 31 => ⟨S8192x64, .f32⟩
  | 32 => ⟨S8192x64, .f32⟩
  | 33 => ⟨S8192x64, .f32⟩
  | 34 => ⟨S8192x64, .f32⟩
  | 35 => ⟨S_, .f32⟩
  | 36 => ⟨S8192x64, .f32⟩
  | 37 => ⟨S8192x64, .f32⟩
  | 38 => ⟨S_, .f32⟩
  | 39 => ⟨S8192x64, .f32⟩
  | 40 => ⟨S8192x64, .f32⟩
  | 41 => ⟨S8192x64, .f32⟩
  | 42 => ⟨S8192x64, .f32⟩
  | 43 => ⟨S8192x64, .f32⟩
  | 44 => ⟨S_, .f32⟩
  | 45 => ⟨S8192x64, .f32⟩
  | 46 => ⟨S8192x64, .f32⟩
  | 47 => ⟨S8192x64, .f32⟩
  | 48 => ⟨S8192x64, .f32⟩
  | 49 => ⟨S8192x64, .f32⟩
  | 50 => ⟨S8192x1x64, .f32⟩
  | 51 => ⟨S8192x64, .f32⟩
  | 52 => ⟨S64x192, .f32⟩
  | 53 => ⟨S8192x192, .f32⟩
  | 54 => ⟨S1x192, .f32⟩
  | 55 => ⟨S8192x192, .f32⟩
  | 56 => ⟨S8192x192, .f32⟩
  | 57 => ⟨S64x192, .f32⟩
  | 58 => ⟨S8192x192, .f32⟩
  | 59 => ⟨S1x192, .f32⟩
  | 60 => ⟨S8192x192, .f32⟩
  | 61 => ⟨S8192x192, .f32⟩
  | 62 => ⟨S8192x64, .f32⟩
  | 63 => ⟨S8192x64, .f32⟩
  | 64 => ⟨S8192x64, .f32⟩
  | 65 => ⟨S8192x64, .f32⟩
  | 66 => ⟨S8192x64, .f32⟩
  | 67 => ⟨S8192x64, .f32⟩
  | 68 => ⟨S8192x64, .f32⟩
  | 69 => ⟨S8192x64, .f32⟩
  | 70 => ⟨S8192x64, .f32⟩
  | 71 => ⟨S_, .f32⟩
  | 72 => ⟨S8192x64, .f32⟩
  | 73 => ⟨S8192x64, .f32⟩
  | 74 => ⟨S_, .f32⟩
  | 75 => ⟨S8192x64, .f32⟩
  | 76 => ⟨S8192x64, .f32⟩
  | 77 => ⟨S8192x64, .f32⟩
  | 78 => ⟨S8192x64, .f32⟩
  | 79 => ⟨S8192x64, .f32⟩
  | 80 => ⟨S_, .f32⟩
  | 81 => ⟨S8192x64, .f32⟩
  | 82 => ⟨S8192x64, .f32⟩
  | 83 => ⟨S_, .f32⟩
  | 84 => ⟨S8192x64, .f32⟩
  | 85 => ⟨S8192x64, .f32⟩
  | 86 => ⟨S8192x64, .f32⟩
  | 87 => ⟨S8192x64, .f32⟩
  | 88 => ⟨S8192x64, .f32⟩
  | 89 => ⟨S_, .f32⟩
  | 90 => ⟨S8192x64, .f32⟩
  | 91 => ⟨S8192x64, .f32⟩
  | 92 => ⟨S8192x64, .f32⟩
  | 93 => ⟨S8192x64, .f32⟩
  | 94 => ⟨S8192x64, .f32⟩
  | 95 => ⟨S8192x1x64, .f32⟩
  | 96 => ⟨S8192x64, .f32⟩
  | 97 => ⟨S64x192, .f32⟩
  | 98 => ⟨S8192x192, .f32⟩
  | 99 => ⟨S1x192, .f32⟩
  | 100 => ⟨S8192x192, .f32⟩
  | 101 => ⟨S8192x192, .f32⟩
  | 102 => ⟨S64x192, .f32⟩
  | 103 => ⟨S8192x192, .f32⟩
  | 104 => ⟨S1x192, .f32⟩
  | 105 => ⟨S8192x192, .f32⟩
  | 106 => ⟨S8192x192, .f32⟩
  | 107 => ⟨S8192x64, .f32⟩
  | 108 => ⟨S8192x64, .f32⟩
  | 109 => ⟨S8192x64, .f32⟩
  | 110 => ⟨S8192x64, .f32⟩
  | 111 => ⟨S8192x64, .f32⟩
  | 112 => ⟨S8192x64, .f32⟩
  | 113 => ⟨S8192x64, .f32⟩
  | 114 => ⟨S8192x64, .f32⟩
  | 115 => ⟨S8192x64, .f32⟩
  | 116 => ⟨S_, .f32⟩
  | 117 => ⟨S8192x64, .f32⟩
  | 118 => ⟨S8192x64, .f32⟩
  | 119 => ⟨S_, .f32⟩
  | 120 => ⟨S8192x64, .f32⟩
  | 121 => ⟨S8192x64, .f32⟩
  | 122 => ⟨S8192x64, .f32⟩
  | 123 => ⟨S8192x64, .f32⟩
  | 124 => ⟨S8192x64, .f32⟩
  | 125 => ⟨S_, .f32⟩
  | 126 => ⟨S8192x64, .f32⟩
  | 127 => ⟨S8192x64, .f32⟩
  | _ => ⟨S8192x16, .i32⟩

abbrev hbmTy0_2 (i : Nat) : BufTy := match i % 128 with
  | 0 => ⟨S_, .f32⟩
  | 1 => ⟨S8192x64, .f32⟩
  | 2 => ⟨S8192x64, .f32⟩
  | 3 => ⟨S8192x64, .f32⟩
  | 4 => ⟨S8192x64, .f32⟩
  | 5 => ⟨S8192x64, .f32⟩
  | 6 => ⟨S_, .f32⟩
  | 7 => ⟨S8192x64, .f32⟩
  | 8 => ⟨S8192x64, .f32⟩
  | 9 => ⟨S8192x64, .f32⟩
  | 10 => ⟨S8192x64, .f32⟩
  | 11 => ⟨S8192x64, .f32⟩
  | 12 => ⟨S8192x1x64, .f32⟩
  | 13 => ⟨S8192x64, .f32⟩
  | 14 => ⟨S64x192, .f32⟩
  | 15 => ⟨S8192x192, .f32⟩
  | 16 => ⟨S1x192, .f32⟩
  | 17 => ⟨S8192x192, .f32⟩
  | 18 => ⟨S8192x192, .f32⟩
  | 19 => ⟨S64x192, .f32⟩
  | 20 => ⟨S8192x192, .f32⟩
  | 21 => ⟨S1x192, .f32⟩
  | 22 => ⟨S8192x192, .f32⟩
  | 23 => ⟨S8192x192, .f32⟩
  | 24 => ⟨S8192x64, .f32⟩
  | 25 => ⟨S8192x64, .f32⟩
  | 26 => ⟨S8192x64, .f32⟩
  | 27 => ⟨S8192x64, .f32⟩
  | 28 => ⟨S8192x64, .f32⟩
  | 29 => ⟨S8192x64, .f32⟩
  | 30 => ⟨S8192x64, .f32⟩
  | 31 => ⟨S8192x64, .f32⟩
  | 32 => ⟨S8192x64, .f32⟩
  | 33 => ⟨S_, .f32⟩
  | 34 => ⟨S8192x64, .f32⟩
  | 35 => ⟨S8192x64, .f32⟩
  | 36 => ⟨S_, .f32⟩
  | 37 => ⟨S8192x64, .f32⟩
  | 38 => ⟨S8192x64, .f32⟩
  | 39 => ⟨S8192x64, .f32⟩
  | 40 => ⟨S8192x64, .f32⟩
  | 41 => ⟨S8192x64, .f32⟩
  | 42 => ⟨S_, .f32⟩
  | 43 => ⟨S8192x64, .f32⟩
  | 44 => ⟨S8192x64, .f32⟩
  | 45 => ⟨S_, .f32⟩
  | 46 => ⟨S8192x64, .f32⟩
  | 47 => ⟨S8192x64, .f32⟩
  | 48 => ⟨S8192x64, .f32⟩
  | 49 => ⟨S8192x64, .f32⟩
  | 50 => ⟨S8192x64, .f32⟩
  | 51 => ⟨S_, .f32⟩
  | 52 => ⟨S8192x64, .f32⟩
  | 53 => ⟨S8192x64, .f32⟩
  | 54 => ⟨S8192x64, .f32⟩
  | 55 => ⟨S8192x64, .f32⟩
  | 56 => ⟨S8192x64, .f32⟩
  | 57 => ⟨S8192x1x64, .f32⟩
  | 58 => ⟨S8192x64, .f32⟩
  | 59 => ⟨S64x192, .f32⟩
  | 60 => ⟨S8192x192, .f32⟩
  | 61 => ⟨S1x192, .f32⟩
  | 62 => ⟨S8192x192, .f32⟩
  | 63 => ⟨S8192x192, .f32⟩
  | 64 => ⟨S64x192, .f32⟩
  | 65 => ⟨S8192x192, .f32⟩
  | 66 => ⟨S1x192, .f32⟩
  | 67 => ⟨S8192x192, .f32⟩
  | 68 => ⟨S8192x192, .f32⟩
  | 69 => ⟨S8192x64, .f32⟩
  | 70 => ⟨S8192x64, .f32⟩
  | 71 => ⟨S8192x64, .f32⟩
  | 72 => ⟨S8192x64, .f32⟩
  | 73 => ⟨S8192x64, .f32⟩
  | 74 => ⟨S8192x64, .f32⟩
  | 75 => ⟨S8192x64, .f32⟩
  | 76 => ⟨S8192x64, .f32⟩
  | 77 => ⟨S8192x64, .f32⟩
  | 78 => ⟨S_, .f32⟩
  | 79 => ⟨S8192x64, .f32⟩
  | 80 => ⟨S8192x64, .f32⟩
  | 81 => ⟨S_, .f32⟩
  | 82 => ⟨S8192x64, .f32⟩
  | 83 => ⟨S8192x64, .f32⟩
  | 84 => ⟨S8192x64, .f32⟩
  | 85 => ⟨S8192x64, .f32⟩
  | 86 => ⟨S8192x64, .f32⟩
  | 87 => ⟨S_, .f32⟩
  | 88 => ⟨S8192x64, .f32⟩
  | 89 => ⟨S8192x64, .f32⟩
  | 90 => ⟨S_, .f32⟩
  | 91 => ⟨S8192x64, .f32⟩
  | 92 => ⟨S8192x64, .f32⟩
  | 93 => ⟨S8192x64, .f32⟩
  | 94 => ⟨S8192x64, .f32⟩
  | 95 => ⟨S8192x64, .f32⟩
  | 96 => ⟨S_, .f32⟩
  | 97 => ⟨S8192x64, .f32⟩
  | 98 => ⟨S8192x64, .f32⟩
  | 99 => ⟨S8192x64, .f32⟩
  | 100 => ⟨S8192x64, .f32⟩
  | 101 => ⟨S8192x64, .f32⟩
  | 102 => ⟨S8192x1x64, .f32⟩
  | 103 => ⟨S8192x64, .f32⟩
  | 104 => ⟨S64x192, .f32⟩
  | 105 => ⟨S8192x192, .f32⟩
  | 106 => ⟨S1x192, .f32⟩
  | 107 => ⟨S8192x192, .f32⟩
  | 108 => ⟨S8192x192, .f32⟩
  | 109 => ⟨S64x192, .f32⟩
  | 110 => ⟨S8192x192, .f32⟩
  | 111 => ⟨S1x192, .f32⟩
  | 112 => ⟨S8192x192, .f32⟩
  | 113 => ⟨S8192x192, .f32⟩
  | 114 => ⟨S8192x64, .f32⟩
  | 115 => ⟨S8192x64, .f32⟩
  | 116 => ⟨S8192x64, .f32⟩
  | 117 => ⟨S8192x64, .f32⟩
  | 118 => ⟨S8192x64, .f32⟩
  | 119 => ⟨S8192x64, .f32⟩
  | 120 => ⟨S8192x64, .f32⟩
  | 121 => ⟨S8192x64, .f32⟩
  | 122 => ⟨S8192x64, .f32⟩
  | 123 => ⟨S_, .f32⟩
  | 124 => ⟨S8192x64, .f32⟩
  | 125 => ⟨S8192x64, .f32⟩
  | 126 => ⟨S_, .f32⟩
  | 127 => ⟨S8192x64, .f32⟩
  | _ => ⟨S8192x16, .i32⟩

abbrev hbmTy0_3 (i : Nat) : BufTy := match i % 128 with
  | 0 => ⟨S8192x64, .f32⟩
  | 1 => ⟨S8192x64, .f32⟩
  | 2 => ⟨S8192x64, .f32⟩
  | 3 => ⟨S8192x64, .f32⟩
  | 4 => ⟨S_, .f32⟩
  | 5 => ⟨S8192x64, .f32⟩
  | 6 => ⟨S8192x64, .f32⟩
  | 7 => ⟨S_, .f32⟩
  | 8 => ⟨S8192x64, .f32⟩
  | 9 => ⟨S8192x64, .f32⟩
  | 10 => ⟨S8192x64, .f32⟩
  | 11 => ⟨S8192x64, .f32⟩
  | 12 => ⟨S8192x64, .f32⟩
  | 13 => ⟨S_, .f32⟩
  | 14 => ⟨S8192x64, .f32⟩
  | 15 => ⟨S8192x64, .f32⟩
  | 16 => ⟨S8192x64, .f32⟩
  | 17 => ⟨S8192x64, .f32⟩
  | 18 => ⟨S8192x64, .f32⟩
  | 19 => ⟨S8192x1x64, .f32⟩
  | 20 => ⟨S8192x64, .f32⟩
  | 21 => ⟨S64x192, .f32⟩
  | 22 => ⟨S8192x192, .f32⟩
  | 23 => ⟨S1x192, .f32⟩
  | 24 => ⟨S8192x192, .f32⟩
  | 25 => ⟨S8192x192, .f32⟩
  | 26 => ⟨S64x192, .f32⟩
  | 27 => ⟨S8192x192, .f32⟩
  | 28 => ⟨S1x192, .f32⟩
  | 29 => ⟨S8192x192, .f32⟩
  | 30 => ⟨S8192x192, .f32⟩
  | 31 => ⟨S8192x64, .f32⟩
  | 32 => ⟨S8192x64, .f32⟩
  | 33 => ⟨S8192x64, .f32⟩
  | 34 => ⟨S8192x64, .f32⟩
  | 35 => ⟨S8192x64, .f32⟩
  | 36 => ⟨S8192x64, .f32⟩
  | 37 => ⟨S8192x64, .f32⟩
  | 38 => ⟨S8192x64, .f32⟩
  | 39 => ⟨S8192x64, .f32⟩
  | 40 => ⟨S_, .f32⟩
  | 41 => ⟨S8192x64, .f32⟩
  | 42 => ⟨S8192x64, .f32⟩
  | 43 => ⟨S_, .f32⟩
  | 44 => ⟨S8192x64, .f32⟩
  | 45 => ⟨S8192x64, .f32⟩
  | 46 => ⟨S8192x64, .f32⟩
  | 47 => ⟨S8192x64, .f32⟩
  | 48 => ⟨S8192x64, .f32⟩
  | 49 => ⟨S_, .f32⟩
  | 50 => ⟨S8192x64, .f32⟩
  | 51 => ⟨S8192x64, .f32⟩
  | 52 => ⟨S_, .f32⟩
  | 53 => ⟨S8192x64, .f32⟩
  | 54 => ⟨S8192x64, .f32⟩
  | 55 => ⟨S8192x64, .f32⟩
  | 56 => ⟨S8192x64, .f32⟩
  | 57 => ⟨S8192x64, .f32⟩
  | 58 => ⟨S_, .f32⟩
  | 59 => ⟨S8192x64, .f32⟩
  | 60 => ⟨S8192x64, .f32⟩
  | 61 => ⟨S8192x64, .f32⟩
  | 62 => ⟨S8192x64, .f32⟩
  | 63 => ⟨S8192x64, .f32⟩
  | 64 => ⟨S8192x1x64, .f32⟩
  | 65 => ⟨S8192x64, .f32⟩
  | 66 => ⟨S64x192, .f32⟩
  | 67 => ⟨S8192x192, .f32⟩
  | 68 => ⟨S1x192, .f32⟩
  | 69 => ⟨S8192x192, .f32⟩
  | 70 => ⟨S8192x192, .f32⟩
  | 71 => ⟨S64x192, .f32⟩
  | 72 => ⟨S8192x192, .f32⟩
  | 73 => ⟨S1x192, .f32⟩
  | 74 => ⟨S8192x192, .f32⟩
  | 75 => ⟨S8192x192, .f32⟩
  | 76 => ⟨S8192x64, .f32⟩
  | 77 => ⟨S8192x64, .f32⟩
  | 78 => ⟨S8192x64, .f32⟩
  | 79 => ⟨S8192x64, .f32⟩
  | 80 => ⟨S8192x64, .f32⟩
  | 81 => ⟨S8192x64, .f32⟩
  | 82 => ⟨S8192x64, .f32⟩
  | 83 => ⟨S8192x64, .f32⟩
  | 84 => ⟨S8192x64, .f32⟩
  | 85 => ⟨S_, .f32⟩
  | 86 => ⟨S8192x64, .f32⟩
  | 87 => ⟨S8192x64, .f32⟩
  | 88 => ⟨S_, .f32⟩
  | 89 => ⟨S8192x64, .f32⟩
  | 90 => ⟨S8192x64, .f32⟩
  | 91 => ⟨S8192x64, .f32⟩
  | 92 => ⟨S8192x64, .f32⟩
  | 93 => ⟨S8192x64, .f32⟩
  | 94 => ⟨S_, .f32⟩
  | 95 => ⟨S8192x64, .f32⟩
  | 96 => ⟨S8192x64, .f32⟩
  | 97 => ⟨S_, .f32⟩
  | 98 => ⟨S8192x64, .f32⟩
  | 99 => ⟨S8192x64, .f32⟩
  | 100 => ⟨S8192x64, .f32⟩
  | 101 => ⟨S8192x64, .f32⟩
  | 102 => ⟨S8192x64, .f32⟩
  | 103 => ⟨S_, .f32⟩
  | 104 => ⟨S8192x64, .f32⟩
  | 105 => ⟨S8192x64, .f32⟩
  | 106 => ⟨S8192x64, .f32⟩
  | 107 => ⟨S8192x64, .f32⟩
  | 108 => ⟨S8192x64, .f32⟩
  | 109 => ⟨S8192x1x64, .f32⟩
  | 110 => ⟨S8192x64, .f32⟩
  | 111 => ⟨S64x192, .f32⟩
  | 112 => ⟨S8192x192, .f32⟩
  | 113 => ⟨S1x192, .f32⟩
  | 114 => ⟨S8192x192, .f32⟩
  | 115 => ⟨S8192x192, .f32⟩
  | 116 => ⟨S64x192, .f32⟩
  | 117 => ⟨S8192x192, .f32⟩
  | 118 => ⟨S1x192, .f32⟩
  | 119 => ⟨S8192x192, .f32⟩
  | 120 => ⟨S8192x192, .f32⟩
  | 121 => ⟨S8192x64, .f32⟩
  | 122 => ⟨S8192x64, .f32⟩
  | 123 => ⟨S8192x64, .f32⟩
  | 124 => ⟨S8192x64, .f32⟩
  | 125 => ⟨S8192x64, .f32⟩
  | 126 => ⟨S8192x64, .f32⟩
  | 127 => ⟨S8192x64, .f32⟩
  | _ => ⟨S8192x16, .i32⟩

abbrev hbmTy0_4 (i : Nat) : BufTy := match i % 128 with
  | 0 => ⟨S8192x64, .f32⟩
  | 1 => ⟨S8192x64, .f32⟩
  | 2 => ⟨S_, .f32⟩
  | 3 => ⟨S8192x64, .f32⟩
  | 4 => ⟨S8192x64, .f32⟩
  | 5 => ⟨S_, .f32⟩
  | 6 => ⟨S8192x64, .f32⟩
  | 7 => ⟨S8192x64, .f32⟩
  | 8 => ⟨S8192x64, .f32⟩
  | 9 => ⟨S8192x64, .f32⟩
  | 10 => ⟨S8192x64, .f32⟩
  | 11 => ⟨S_, .f32⟩
  | 12 => ⟨S8192x64, .f32⟩
  | 13 => ⟨S8192x64, .f32⟩
  | 14 => ⟨S_, .f32⟩
  | 15 => ⟨S8192x64, .f32⟩
  | 16 => ⟨S8192x64, .f32⟩
  | 17 => ⟨S8192x64, .f32⟩
  | 18 => ⟨S8192x64, .f32⟩
  | 19 => ⟨S8192x64, .f32⟩
  | 20 => ⟨S_, .f32⟩
  | 21 => ⟨S8192x64, .f32⟩
  | 22 => ⟨S8192x64, .f32⟩
  | 23 => ⟨S8192x64, .f32⟩
  | 24 => ⟨S8192x64, .f32⟩
  | 25 => ⟨S8192x64, .f32⟩
  | 26 => ⟨S8192x1x64, .f32⟩
  | 27 => ⟨S8192x64, .f32⟩
  | 28 => ⟨S64x192, .f32⟩
  | 29 => ⟨S8192x192, .f32⟩
  | 30 => ⟨S1x192, .f32⟩
  | 31 => ⟨S8192x192, .f32⟩
  | 32 => ⟨S8192x192, .f32⟩
  | 33 => ⟨S64x192, .f32⟩
  | 34 => ⟨S8192x192, .f32⟩
  | 35 => ⟨S1x192, .f32⟩
  | 36 => ⟨S8192x192, .f32⟩
  | 37 => ⟨S8192x192, .f32⟩
  | 38 => ⟨S8192x64, .f32⟩
  | 39 => ⟨S8192x64, .f32⟩
  | 40 => ⟨S8192x64, .f32⟩
  | 41 => ⟨S8192x64, .f32⟩
  | 42 => ⟨S8192x64, .f32⟩
  | 43 => ⟨S8192x64, .f32⟩
  | 44 => ⟨S8192x64, .f32⟩
  | 45 => ⟨S8192x64, .f32⟩
  | 46 => ⟨S8192x64, .f32⟩
  | 47 => ⟨S_, .f32⟩
  | 48 => ⟨S8192x64, .f32⟩
  | 49 => ⟨S8192x64, .f32⟩
  | 50 => ⟨S_, .f32⟩
  | 51 => ⟨S8192x64, .f32⟩
  | 52 => ⟨S8192x64, .f32⟩
  | 53 => ⟨S8192x64, .f32⟩
  | 54 => ⟨S8192x64, .f32⟩
  | 55 => ⟨S8192x64, .f32⟩
  | 56 => ⟨S_, .f32⟩
  | 57 => ⟨S8192x64, .f32⟩
  | 58 => ⟨S8192x64, .f32⟩
  | 59 => ⟨S_, .f32⟩
  | 60 => ⟨S8192x64, .f32⟩
  | 61 => ⟨S8192x64, .f32⟩
  | 62 => ⟨S8192x64, .f32⟩
  | 63 => ⟨S8192x64, .f32⟩
  | 64 => ⟨S8192x64, .f32⟩
  | 65 => ⟨S_, .f32⟩
  | 66 => ⟨S8192x64, .f32⟩
  | 67 => ⟨S8192x64, .f32⟩
  | 68 => ⟨S8192x64, .f32⟩
  | 69 => ⟨S8192x64, .f32⟩
  | 70 => ⟨S8192x64, .f32⟩
  | 71 => ⟨S8192x1x64, .f32⟩
  | 72 => ⟨S8192x64, .f32⟩
  | 73 => ⟨S64x192, .f32⟩
  | 74 => ⟨S8192x192, .f32⟩
  | 75 => ⟨S1x192, .f32⟩
  | 76 => ⟨S8192x192, .f32⟩
  | 77 => ⟨S8192x192, .f32⟩
  | 78 => ⟨S64x192, .f32⟩
  | 79 => ⟨S8192x192, .f32⟩
  | 80 => ⟨S1x192, .f32⟩
  | 81 => ⟨S8192x192, .f32⟩
  | 82 => ⟨S8192x192, .f32⟩
  | 83 => ⟨S8192x64, .f32⟩
  | 84 => ⟨S8192x64, .f32⟩
  | 85 => ⟨S8192x64, .f32⟩
  | 86 => ⟨S8192x64, .f32⟩
  | 87 => ⟨S8192x64, .f32⟩
  | 88 => ⟨S8192x64, .f32⟩
  | 89 => ⟨S8192x64, .f32⟩
  | 90 => ⟨S8192x64, .f32⟩
  | 91 => ⟨S8192x64, .f32⟩
  | 92 => ⟨S_, .f32⟩
  | 93 => ⟨S8192x64, .f32⟩
  | 94 => ⟨S8192x64, .f32⟩
  | 95 => ⟨S_, .f32⟩
  | 96 => ⟨S8192x64, .f32⟩
  | 97 => ⟨S8192x64, .f32⟩
  | 98 => ⟨S8192x64, .f32⟩
  | 99 => ⟨S8192x64, .f32⟩
  | 100 => ⟨S8192x64, .f32⟩
  | 101 => ⟨S_, .f32⟩
  | 102 => ⟨S8192x64, .f32⟩
  | 103 => ⟨S8192x64, .f32⟩
  | 104 => ⟨S_, .f32⟩
  | 105 => ⟨S8192x64, .f32⟩
  | 106 => ⟨S8192x64, .f32⟩
  | 107 => ⟨S8192x64, .f32⟩
  | 108 => ⟨S8192x64, .f32⟩
  | 109 => ⟨S8192x64, .f32⟩
  | 110 => ⟨S_, .f32⟩
  | 111 => ⟨S8192x64, .f32⟩
  | 112 => ⟨S8192x64, .f32⟩
  | 113 => ⟨S8192x64, .f32⟩
  | 114 => ⟨S8192x64, .f32⟩
  | 115 => ⟨S8192x64, .f32⟩
  | 116 => ⟨S8192x1x64, .f32⟩
  | 117 => ⟨S8192x64, .f32⟩
  | 118 => ⟨S64x192, .f32⟩
  | 119 => ⟨S8192x192, .f32⟩
  | 120 => ⟨S1x192, .f32⟩
  | 121 => ⟨S8192x192, .f32⟩
  | 122 => ⟨S8192x192, .f32⟩
  | 123 => ⟨S64x192, .f32⟩
  | 124 => ⟨S8192x192, .f32⟩
  | 125 => ⟨S1x192, .f32⟩
  | 126 => ⟨S8192x192, .f32⟩
  | 127 => ⟨S8192x192, .f32⟩
  | _ => ⟨S8192x16, .i32⟩

abbrev hbmTy0_5 (i : Nat) : BufTy := match i % 128 with
  | 0 => ⟨S8192x64, .f32⟩
  | 1 => ⟨S8192x64, .f32⟩
  | 2 => ⟨S8192x64, .f32⟩
  | 3 => ⟨S8192x64, .f32⟩
  | 4 => ⟨S8192x64, .f32⟩
  | 5 => ⟨S8192x64, .f32⟩
  | 6 => ⟨S8192x64, .f32⟩
  | 7 => ⟨S8192x64, .f32⟩
  | 8 => ⟨S8192x64, .f32⟩
  | 9 => ⟨S_, .f32⟩
  | 10 => ⟨S8192x64, .f32⟩
  | 11 => ⟨S8192x64, .f32⟩
  | 12 => ⟨S_, .f32⟩
  | 13 => ⟨S8192x64, .f32⟩
  | 14 => ⟨S8192x64, .f32⟩
  | 15 => ⟨S8192x64, .f32⟩
  | 16 => ⟨S8192x64, .f32⟩
  | 17 => ⟨S8192x64, .f32⟩
  | 18 => ⟨S_, .f32⟩
  | 19 => ⟨S8192x64, .f32⟩
  | 20 => ⟨S8192x64, .f32⟩
  | 21 => ⟨S_, .f32⟩
  | 22 => ⟨S8192x64, .f32⟩
  | 23 => ⟨S8192x64, .f32⟩
  | 24 => ⟨S8192x64, .f32⟩
  | 25 => ⟨S8192x64, .f32⟩
  | 26 => ⟨S8192x64, .f32⟩
  | 27 => ⟨S_, .f32⟩
  | 28 => ⟨S8192x64, .f32⟩
  | 29 => ⟨S8192x64, .f32⟩
  | 30 => ⟨S8192x64, .f32⟩
  | 31 => ⟨S8192x64, .f32⟩
  | 32 => ⟨S8192x64, .f32⟩
  | 33 => ⟨S8192x1x64, .f32⟩
  | 34 => ⟨S8192x64, .f32⟩
  | 35 => ⟨S64x192, .f32⟩
  | 36 => ⟨S8192x192, .f32⟩
  | 37 => ⟨S1x192, .f32⟩
  | 38 => ⟨S8192x192, .f32⟩
  | 39 => ⟨S8192x192, .f32⟩
  | 40 => ⟨S64x192, .f32⟩
  | 41 => ⟨S8192x192, .f32⟩
  | 42 => ⟨S1x192, .f32⟩
  | 43 => ⟨S8192x192, .f32⟩
  | 44 => ⟨S8192x192, .f32⟩
  | 45 => ⟨S8192x64, .f32⟩
  | 46 => ⟨S8192x64, .f32⟩
  | 47 => ⟨S8192x64, .f32⟩
  | 48 => ⟨S8192x64, .f32⟩
  | 49 => ⟨S8192x64, .f32⟩
  | 50 => ⟨S8192x64, .f32⟩
  | 51 => ⟨S8192x64, .f32⟩
  | 52 => ⟨S8192x64, .f32⟩
  | 53 => ⟨S8192x64, .f32⟩
  | 54 => ⟨S_, .f32⟩
  | 55 => ⟨S8192x64, .f32⟩
  | 56 => ⟨S8192x64, .f32⟩
  | 57 => ⟨S_, .f32⟩
  | 58 => ⟨S8192x64, .f32⟩
  | 59 => ⟨S8192x64, .f32⟩
  | 60 => ⟨S8192x64, .f32⟩
  | 61 => ⟨S8192x64, .f32⟩
  | 62 => ⟨S8192x64, .f32⟩
  | 63 => ⟨S_, .f32⟩
  | 64 => ⟨S8192x64, .f32⟩
  | 65 => ⟨S8192x64, .f32⟩
  | 66 => ⟨S_, .f32⟩
  | 67 => ⟨S8192x64, .f32⟩
  | 68 => ⟨S8192x64, .f32⟩
  | 69 => ⟨S8192x64, .f32⟩
  | 70 => ⟨S8192x64, .f32⟩
  | 71 => ⟨S8192x64, .f32⟩
  | 72 => ⟨S_, .f32⟩
  | 73 => ⟨S8192x64, .f32⟩
  | 74 => ⟨S8192x64, .f32⟩
  | 75 => ⟨S8192x64, .f32⟩
  | 76 => ⟨S8192x64, .f32⟩
  | 77 => ⟨S8192x64, .f32⟩
  | 78 => ⟨S8192x1x64, .f32⟩
  | 79 => ⟨S8192x64, .f32⟩
  | 80 => ⟨S64x192, .f32⟩
  | 81 => ⟨S8192x192, .f32⟩
  | 82 => ⟨S1x192, .f32⟩
  | 83 => ⟨S8192x192, .f32⟩
  | 84 => ⟨S8192x192, .f32⟩
  | 85 => ⟨S64x192, .f32⟩
  | 86 => ⟨S8192x192, .f32⟩
  | 87 => ⟨S1x192, .f32⟩
  | 88 => ⟨S8192x192, .f32⟩
  | 89 => ⟨S8192x192, .f32⟩
  | 90 => ⟨S8192x64, .f32⟩
  | 91 => ⟨S8192x64, .f32⟩
  | 92 => ⟨S8192x64, .f32⟩
  | 93 => ⟨S8192x64, .f32⟩
  | 94 => ⟨S8192x64, .f32⟩
  | 95 => ⟨S8192x64, .f32⟩
  | 96 => ⟨S8192x64, .f32⟩
  | 97 => ⟨S8192x64, .f32⟩
  | 98 => ⟨S8192x64, .f32⟩
  | 99 => ⟨S_, .f32⟩
  | 100 => ⟨S8192x64, .f32⟩
  | 101 => ⟨S8192x64, .f32⟩
  | 102 => ⟨S_, .f32⟩
  | 103 => ⟨S8192x64, .f32⟩
  | 104 => ⟨S8192x64, .f32⟩
  | 105 => ⟨S8192x64, .f32⟩
  | 106 => ⟨S8192x64, .f32⟩
  | 107 => ⟨S8192x64, .f32⟩
  | 108 => ⟨S_, .f32⟩
  | 109 => ⟨S8192x64, .f32⟩
  | 110 => ⟨S8192x64, .f32⟩
  | 111 => ⟨S_, .f32⟩
  | 112 => ⟨S8192x64, .f32⟩
  | 113 => ⟨S8192x64, .f32⟩
  | 114 => ⟨S8192x64, .f32⟩
  | 115 => ⟨S8192x64, .f32⟩
  | 116 => ⟨S8192x64, .f32⟩
  | 117 => ⟨S_, .f32⟩
  | 118 => ⟨S8192x64, .f32⟩
  | 119 => ⟨S8192x64, .f32⟩
  | 120 => ⟨S8192x64, .f32⟩
  | 121 => ⟨S8192x64, .f32⟩
  | 122 => ⟨S8192x64, .f32⟩
  | 123 => ⟨S8192x1x64, .f32⟩
  | 124 => ⟨S8192x1x64, .f32⟩
  | 125 => ⟨S8192x1x64, .f32⟩
  | 126 => ⟨S8192x1x64, .f32⟩
  | 127 => ⟨S8192x1x64, .f32⟩
  | _ => ⟨S8192x16, .i32⟩

abbrev hbmTy0_6 (i : Nat) : BufTy := match i % 128 with
  | 0 => ⟨S8192x1x64, .f32⟩
  | 1 => ⟨S8192x1x64, .f32⟩
  | 2 => ⟨S8192x1x64, .f32⟩
  | 3 => ⟨S8192x1x64, .f32⟩
  | 4 => ⟨S8192x1x64, .f32⟩
  | 5 => ⟨S8192x1x64, .f32⟩
  | 6 => ⟨S8192x1x64, .f32⟩
  | 7 => ⟨S8192x1x64, .f32⟩
  | 8 => ⟨S8192x1x64, .f32⟩
  | 9 => ⟨S8192x1x64, .f32⟩
  | 10 => ⟨S8192x1x64, .f32⟩
  | 11 => ⟨S8192x16x64, .f32⟩
  | 12 => ⟨S_, .i32⟩
  | 13 => ⟨S8192, .i32⟩
  | 14 => ⟨S8192, .i32⟩
  | 15 => ⟨S_, .i32⟩
  | 16 => ⟨S_, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S8192x1x1, .i32⟩
  | 24 => ⟨S_, .i32⟩
  | 25 => ⟨S8192x1x1, .i32⟩
  | 26 => ⟨S8192x1x1, .i1⟩
  | 27 => ⟨S_, .i32⟩
  | 28 => ⟨S8192x1x1, .i32⟩
  | 29 => ⟨S8192x1x1, .i32⟩
  | 30 => ⟨S8192x1x1, .i32⟩
  | 31 => ⟨S1, .i32⟩
  | 32 => ⟨S_, .i32⟩
  | 33 => ⟨S8192x1x1, .i32⟩
  | 34 => ⟨S8192x1x1, .i1⟩
  | 35 => ⟨S1x1x1, .i32⟩
  | 36 => ⟨S8192x1x1, .i32⟩
  | 37 => ⟨S8192x1x1, .i1⟩
  | 38 => ⟨S8192x1x1, .i1⟩
  | 39 => ⟨S_, .i1⟩
  | 40 => ⟨S8192x1, .i1⟩
  | 41 => ⟨S8192x1x64, .f32⟩
  | 42 => ⟨S8192x1x64, .i1⟩
  | 43 => ⟨S_, .f32⟩
  | 44 => ⟨S8192x1x64, .f32⟩
  | 45 => ⟨S8192x1x64, .f32⟩
  | 46 => ⟨S8192x64, .f32⟩
  | 47 => ⟨S64x128x64, .f32⟩
  | 48 => ⟨S64x128x1395, .f32⟩
  | 49 => ⟨S_, .f32⟩
  | 50 => ⟨S128x256, .f32⟩
  | 51 => ⟨S64x128x1395, .f32⟩
  | 52 => ⟨S_, .f32⟩
  | 53 => ⟨S64x128x256, .f32⟩
  | 54 => ⟨S_, .f32⟩
  | 55 => ⟨S64x128x256, .f32⟩
  | 56 => ⟨S_, .i32⟩
  | 57 => ⟨S64x128x1395, .f32⟩
  | 58 => ⟨S64x128x1395, .f32⟩
  | 59 => ⟨S768x1395, .f32⟩
  | 60 => ⟨S768, .f32⟩
  | 61 => ⟨S768x256, .f32⟩
  | 62 => ⟨S768, .f32⟩
  | 63 => ⟨S768x1395, .f32⟩
  | 64 => ⟨S768, .f32⟩
  | 65 => ⟨S768x256, .f32⟩
  | 66 => ⟨S768, .f32⟩
  | 67 => ⟨S_, .i32⟩
  | 68 => ⟨S128x256, .f32⟩
  | 69 => ⟨S128x256, .f32⟩
  | 70 => ⟨S64x128x256, .f32⟩
  | 71 => ⟨S64x128x256, .f32⟩
  | 72 => ⟨S_, .i32⟩
  | 73 => ⟨S_, .i1⟩
  | 74 => ⟨S_, .i32⟩
  | 75 => ⟨S_, .i32⟩
  | 76 => ⟨S1x128x1395, .f32⟩
  | 77 => ⟨S128x1395, .f32⟩
  | 78 => ⟨S_, .i32⟩
  | 79 => ⟨S_, .i32⟩
  | 80 => ⟨S1x128x1395, .f32⟩
  | 81 => ⟨S128x1395, .f32⟩
  | 82 => ⟨S1395x768, .f32⟩
  | 83 => ⟨S128x768, .f32⟩
  | 84 => ⟨S1x768, .f32⟩
  | 85 => ⟨S128x768, .f32⟩
  | 86 => ⟨S128x768, .f32⟩
  | 87 => ⟨S256x768, .f32⟩
  | 88 => ⟨S128x768, .f32⟩
  | 89 => ⟨S1x768, .f32⟩
  | 90 => ⟨S128x768, .f32⟩
  | 91 => ⟨S128x768, .f32⟩
  | 92 => ⟨S128x256, .f32⟩
  | 93 => ⟨S128x256, .f32⟩
  | 94 => ⟨S128x256, .f32⟩
  | 95 => ⟨S128x256, .f32⟩
  | 96 => ⟨S128x256, .f32⟩
  | 97 => ⟨S128x256, .f32⟩
  | 98 => ⟨S128x256, .f32⟩
  | 99 => ⟨S128x256, .f32⟩
  | 100 => ⟨S128x256, .f32⟩
  | 101 => ⟨S_, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S128x256, .f32⟩
  | 108 => ⟨S128x256, .f32⟩
  | 109 => ⟨S128x256, .f32⟩
  | 110 => ⟨S_, .f32⟩
  | 111 => ⟨S128x256, .f32⟩
  | 112 => ⟨S128x256, .f32⟩
  | 113 => ⟨S_, .f32⟩
  | 114 => ⟨S128x256, .f32⟩
  | 115 => ⟨S128x256, .f32⟩
  | 116 => ⟨S128x256, .f32⟩
  | 117 => ⟨S128x256, .f32⟩
  | 118 => ⟨S128x256, .f32⟩
  | 119 => ⟨S_, .f32⟩
  | 120 => ⟨S128x256, .f32⟩
  | 121 => ⟨S128x256, .f32⟩
  | 122 => ⟨S128x256, .f32⟩
  | 123 => ⟨S128x256, .f32⟩
  | 124 => ⟨S128x256, .f32⟩
  | 125 => ⟨S1395x768, .f32⟩
  | 126 => ⟨S128x768, .f32⟩
  | 127 => ⟨S1x768, .f32⟩
  | _ => ⟨S8192x16, .i32⟩

abbrev hbmTy0_7 (i : Nat) : BufTy := match i % 128 with
  | 0 => ⟨S128x768, .f32⟩
  | 1 => ⟨S128x768, .f32⟩
  | 2 => ⟨S256x768, .f32⟩
  | 3 => ⟨S128x768, .f32⟩
  | 4 => ⟨S1x768, .f32⟩
  | 5 => ⟨S128x768, .f32⟩
  | 6 => ⟨S128x768, .f32⟩
  | 7 => ⟨S128x256, .f32⟩
  | 8 => ⟨S128x256, .f32⟩
  | 9 => ⟨S128x256, .f32⟩
  | 10 => ⟨S128x256, .f32⟩
  | 11 => ⟨S128x256, .f32⟩
  | 12 => ⟨S128x256, .f32⟩
  | 13 => ⟨S128x256, .f32⟩
  | 14 => ⟨S128x256, .f32⟩
  | 15 => ⟨S128x256, .f32⟩
  | 16 => ⟨S_, .f32⟩
  | 17 => ⟨S128x256, .f32⟩
  | 18 => ⟨S128x256, .f32⟩
  | 19 => ⟨S_, .f32⟩
  | 20 => ⟨S128x256, .f32⟩
  | 21 => ⟨S128x256, .f32⟩
  | 22 => ⟨S128x256, .f32⟩
  | 23 => ⟨S128x256, .f32⟩
  | 24 => ⟨S128x256, .f32⟩
  | 25 => ⟨S_, .f32⟩
  | 26 => ⟨S128x256, .f32⟩
  | 27 => ⟨S128x256, .f32⟩
  | 28 => ⟨S_, .f32⟩
  | 29 => ⟨S128x256, .f32⟩
  | 30 => ⟨S128x256, .f32⟩
  | 31 => ⟨S128x256, .f32⟩
  | 32 => ⟨S128x256, .f32⟩
  | 33 => ⟨S128x256, .f32⟩
  | 34 => ⟨S_, .f32⟩
  | 35 => ⟨S128x256, .f32⟩
  | 36 => ⟨S128x256, .f32⟩
  | 37 => ⟨S128x256, .f32⟩
  | 38 => ⟨S128x256, .f32⟩
  | 39 => ⟨S128x256, .f32⟩
  | 40 => ⟨S1x128x256, .f32⟩
  | 41 => ⟨S_, .i32⟩
  | 42 => ⟨S_, .i32⟩
  | 43 => ⟨S64x128x256, .f32⟩
  | 44 => ⟨S1x128x256, .f32⟩
  | 45 => ⟨S_, .i32⟩
  | 46 => ⟨S_, .i32⟩
  | 47 => ⟨S64x128x256, .f32⟩
  | 48 => ⟨S_, .i32⟩
  | 49 => ⟨S_, .i32⟩
  | 50 => ⟨S64x128x256, .f32⟩
  | 51 => ⟨S64x128x512, .f32⟩
  | _ => ⟨S8192x16, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8192x16, .i32⟩

abbrev bufTy : (tb : Table) → Fin (tcTables nBuf tb) → BufTy
  | .hbm, ⟨i, _⟩ => hbmTy i
  | _, _ => ⟨S8192x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_cst : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_0 : Ref sig .tc := ⟨.hbm, 64, rfl⟩
abbrev main_v23 : Ref sig .tc := ⟨.hbm, 65, rfl⟩
abbrev main_v24 : Ref sig .tc := ⟨.hbm, 66, rfl⟩
abbrev main_cst_1 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_2 : Ref sig .tc := ⟨.hbm, 73, rfl⟩
abbrev main_v30 : Ref sig .tc := ⟨.hbm, 74, rfl⟩
abbrev main_v31 : Ref sig .tc := ⟨.hbm, 75, rfl⟩
abbrev main_cst_3 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_4 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_5 : Ref sig .tc := ⟨.hbm, 109, rfl⟩
abbrev main_v63 : Ref sig .tc := ⟨.hbm, 110, rfl⟩
abbrev main_v64 : Ref sig .tc := ⟨.hbm, 111, rfl⟩
abbrev main_cst_6 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_7 : Ref sig .tc := ⟨.hbm, 118, rfl⟩
abbrev main_v70 : Ref sig .tc := ⟨.hbm, 119, rfl⟩
abbrev main_v71 : Ref sig .tc := ⟨.hbm, 120, rfl⟩
abbrev main_cst_8 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_9 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_10 : Ref sig .tc := ⟨.hbm, 154, rfl⟩
abbrev main_v103 : Ref sig .tc := ⟨.hbm, 155, rfl⟩
abbrev main_v104 : Ref sig .tc := ⟨.hbm, 156, rfl⟩
abbrev main_cst_11 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_12 : Ref sig .tc := ⟨.hbm, 163, rfl⟩
abbrev main_v110 : Ref sig .tc := ⟨.hbm, 164, rfl⟩
abbrev main_v111 : Ref sig .tc := ⟨.hbm, 165, rfl⟩
abbrev main_cst_13 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_14 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_15 : Ref sig .tc := ⟨.hbm, 199, rfl⟩
abbrev main_v143 : Ref sig .tc := ⟨.hbm, 200, rfl⟩
abbrev main_v144 : Ref sig .tc := ⟨.hbm, 201, rfl⟩
abbrev main_cst_16 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_17 : Ref sig .tc := ⟨.hbm, 208, rfl⟩
abbrev main_v150 : Ref sig .tc := ⟨.hbm, 209, rfl⟩
abbrev main_v151 : Ref sig .tc := ⟨.hbm, 210, rfl⟩
abbrev main_cst_18 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_cst_19 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_cst_20 : Ref sig .tc := ⟨.hbm, 244, rfl⟩
abbrev main_v183 : Ref sig .tc := ⟨.hbm, 245, rfl⟩
abbrev main_v184 : Ref sig .tc := ⟨.hbm, 246, rfl⟩
abbrev main_cst_21 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_cst_22 : Ref sig .tc := ⟨.hbm, 253, rfl⟩
abbrev main_v190 : Ref sig .tc := ⟨.hbm, 254, rfl⟩
abbrev main_v191 : Ref sig .tc := ⟨.hbm, 255, rfl⟩
abbrev main_cst_23 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_cst_24 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_cst_25 : Ref sig .tc := ⟨.hbm, 289, rfl⟩
abbrev main_v223 : Ref sig .tc := ⟨.hbm, 290, rfl⟩
abbrev main_v224 : Ref sig .tc := ⟨.hbm, 291, rfl⟩
abbrev main_cst_26 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_cst_27 : Ref sig .tc := ⟨.hbm, 298, rfl⟩
abbrev main_v230 : Ref sig .tc := ⟨.hbm, 299, rfl⟩
abbrev main_v231 : Ref sig .tc := ⟨.hbm, 300, rfl⟩
abbrev main_cst_28 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_cst_29 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_cst_30 : Ref sig .tc := ⟨.hbm, 334, rfl⟩
abbrev main_v263 : Ref sig .tc := ⟨.hbm, 335, rfl⟩
abbrev main_v264 : Ref sig .tc := ⟨.hbm, 336, rfl⟩
abbrev main_cst_31 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_cst_32 : Ref sig .tc := ⟨.hbm, 343, rfl⟩
abbrev main_v270 : Ref sig .tc := ⟨.hbm, 344, rfl⟩
abbrev main_v271 : Ref sig .tc := ⟨.hbm, 345, rfl⟩
abbrev main_cst_33 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_cst_34 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_cst_35 : Ref sig .tc := ⟨.hbm, 379, rfl⟩
abbrev main_v303 : Ref sig .tc := ⟨.hbm, 380, rfl⟩
abbrev main_v304 : Ref sig .tc := ⟨.hbm, 381, rfl⟩
abbrev main_cst_36 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_cst_37 : Ref sig .tc := ⟨.hbm, 388, rfl⟩
abbrev main_v310 : Ref sig .tc := ⟨.hbm, 389, rfl⟩
abbrev main_v311 : Ref sig .tc := ⟨.hbm, 390, rfl⟩
abbrev main_cst_38 : Ref sig .tc := ⟨.hbm, 391, rfl⟩
abbrev main_v312 : Ref sig .tc := ⟨.hbm, 392, rfl⟩
abbrev main_v313 : Ref sig .tc := ⟨.hbm, 393, rfl⟩
abbrev main_v314 : Ref sig .tc := ⟨.hbm, 394, rfl⟩
abbrev main_v315 : Ref sig .tc := ⟨.hbm, 395, rfl⟩
abbrev main_v316 : Ref sig .tc := ⟨.hbm, 396, rfl⟩
abbrev main_cst_39 : Ref sig .tc := ⟨.hbm, 397, rfl⟩
abbrev main_v317 : Ref sig .tc := ⟨.hbm, 398, rfl⟩
abbrev main_v318 : Ref sig .tc := ⟨.hbm, 399, rfl⟩
abbrev main_v319 : Ref sig .tc := ⟨.hbm, 400, rfl⟩
abbrev main_v320 : Ref sig .tc := ⟨.hbm, 401, rfl⟩
abbrev main_v321 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩
abbrev main_cst_40 : Ref sig .tc := ⟨.hbm, 424, rfl⟩
abbrev main_v343 : Ref sig .tc := ⟨.hbm, 425, rfl⟩
abbrev main_v344 : Ref sig .tc := ⟨.hbm, 426, rfl⟩
abbrev main_cst_41 : Ref sig .tc := ⟨.hbm, 427, rfl⟩
abbrev main_v345 : Ref sig .tc := ⟨.hbm, 428, rfl⟩
abbrev main_v346 : Ref sig .tc := ⟨.hbm, 429, rfl⟩
abbrev main_v347 : Ref sig .tc := ⟨.hbm, 430, rfl⟩
abbrev main_v348 : Ref sig .tc := ⟨.hbm, 431, rfl⟩
abbrev main_v349 : Ref sig .tc := ⟨.hbm, 432, rfl⟩
abbrev main_cst_42 : Ref sig .tc := ⟨.hbm, 433, rfl⟩
abbrev main_v350 : Ref sig .tc := ⟨.hbm, 434, rfl⟩
abbrev main_v351 : Ref sig .tc := ⟨.hbm, 435, rfl⟩
abbrev main_cst_43 : Ref sig .tc := ⟨.hbm, 436, rfl⟩
abbrev main_v352 : Ref sig .tc := ⟨.hbm, 437, rfl⟩
abbrev main_v353 : Ref sig .tc := ⟨.hbm, 438, rfl⟩
abbrev main_v354 : Ref sig .tc := ⟨.hbm, 439, rfl⟩
abbrev main_v355 : Ref sig .tc := ⟨.hbm, 440, rfl⟩
abbrev main_v356 : Ref sig .tc := ⟨.hbm, 441, rfl⟩
abbrev main_cst_44 : Ref sig .tc := ⟨.hbm, 442, rfl⟩
abbrev main_v357 : Ref sig .tc := ⟨.hbm, 443, rfl⟩
abbrev main_v358 : Ref sig .tc := ⟨.hbm, 444, rfl⟩
abbrev main_v359 : Ref sig .tc := ⟨.hbm, 445, rfl⟩
abbrev main_v360 : Ref sig .tc := ⟨.hbm, 446, rfl⟩
abbrev main_v361 : Ref sig .tc := ⟨.hbm, 447, rfl⟩
abbrev main_v362 : Ref sig .tc := ⟨.hbm, 448, rfl⟩
abbrev main_v363 : Ref sig .tc := ⟨.hbm, 449, rfl⟩
abbrev main_v364 : Ref sig .tc := ⟨.hbm, 450, rfl⟩
abbrev main_v365 : Ref sig .tc := ⟨.hbm, 451, rfl⟩
abbrev main_v366 : Ref sig .tc := ⟨.hbm, 452, rfl⟩
abbrev main_v367 : Ref sig .tc := ⟨.hbm, 453, rfl⟩
abbrev main_v368 : Ref sig .tc := ⟨.hbm, 454, rfl⟩
abbrev main_v369 : Ref sig .tc := ⟨.hbm, 455, rfl⟩
abbrev main_v370 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_v376 : Ref sig .tc := ⟨.hbm, 462, rfl⟩
abbrev main_v377 : Ref sig .tc := ⟨.hbm, 463, rfl⟩
abbrev main_v378 : Ref sig .tc := ⟨.hbm, 464, rfl⟩
abbrev main_v379 : Ref sig .tc := ⟨.hbm, 465, rfl⟩
abbrev main_v380 : Ref sig .tc := ⟨.hbm, 466, rfl⟩
abbrev main_v381 : Ref sig .tc := ⟨.hbm, 467, rfl⟩
abbrev main_v382 : Ref sig .tc := ⟨.hbm, 468, rfl⟩
abbrev main_cst_45 : Ref sig .tc := ⟨.hbm, 469, rfl⟩
abbrev main_v383 : Ref sig .tc := ⟨.hbm, 470, rfl⟩
abbrev main_v384 : Ref sig .tc := ⟨.hbm, 471, rfl⟩
abbrev main_cst_46 : Ref sig .tc := ⟨.hbm, 472, rfl⟩
abbrev main_v385 : Ref sig .tc := ⟨.hbm, 473, rfl⟩
abbrev main_v386 : Ref sig .tc := ⟨.hbm, 474, rfl⟩
abbrev main_v387 : Ref sig .tc := ⟨.hbm, 475, rfl⟩
abbrev main_v388 : Ref sig .tc := ⟨.hbm, 476, rfl⟩
abbrev main_v389 : Ref sig .tc := ⟨.hbm, 477, rfl⟩
abbrev main_cst_47 : Ref sig .tc := ⟨.hbm, 478, rfl⟩
abbrev main_v390 : Ref sig .tc := ⟨.hbm, 479, rfl⟩
abbrev main_v391 : Ref sig .tc := ⟨.hbm, 480, rfl⟩
abbrev main_cst_48 : Ref sig .tc := ⟨.hbm, 481, rfl⟩
abbrev main_v392 : Ref sig .tc := ⟨.hbm, 482, rfl⟩
abbrev main_v393 : Ref sig .tc := ⟨.hbm, 483, rfl⟩
abbrev main_v394 : Ref sig .tc := ⟨.hbm, 484, rfl⟩
abbrev main_v395 : Ref sig .tc := ⟨.hbm, 485, rfl⟩
abbrev main_v396 : Ref sig .tc := ⟨.hbm, 486, rfl⟩
abbrev main_cst_49 : Ref sig .tc := ⟨.hbm, 487, rfl⟩
abbrev main_v397 : Ref sig .tc := ⟨.hbm, 488, rfl⟩
abbrev main_v398 : Ref sig .tc := ⟨.hbm, 489, rfl⟩
abbrev main_v399 : Ref sig .tc := ⟨.hbm, 490, rfl⟩
abbrev main_v400 : Ref sig .tc := ⟨.hbm, 491, rfl⟩
abbrev main_v401 : Ref sig .tc := ⟨.hbm, 492, rfl⟩
abbrev main_v402 : Ref sig .tc := ⟨.hbm, 493, rfl⟩
abbrev main_v403 : Ref sig .tc := ⟨.hbm, 494, rfl⟩
abbrev main_v404 : Ref sig .tc := ⟨.hbm, 495, rfl⟩
abbrev main_v405 : Ref sig .tc := ⟨.hbm, 496, rfl⟩
abbrev main_v406 : Ref sig .tc := ⟨.hbm, 497, rfl⟩
abbrev main_v407 : Ref sig .tc := ⟨.hbm, 498, rfl⟩
abbrev main_v408 : Ref sig .tc := ⟨.hbm, 499, rfl⟩
abbrev main_v409 : Ref sig .tc := ⟨.hbm, 500, rfl⟩
abbrev main_v410 : Ref sig .tc := ⟨.hbm, 501, rfl⟩
abbrev main_v411 : Ref sig .tc := ⟨.hbm, 502, rfl⟩
abbrev main_v412 : Ref sig .tc := ⟨.hbm, 503, rfl⟩
abbrev main_v413 : Ref sig .tc := ⟨.hbm, 504, rfl⟩
abbrev main_v414 : Ref sig .tc := ⟨.hbm, 505, rfl⟩
abbrev main_v415 : Ref sig .tc := ⟨.hbm, 506, rfl⟩
abbrev main_v416 : Ref sig .tc := ⟨.hbm, 507, rfl⟩
abbrev main_v417 : Ref sig .tc := ⟨.hbm, 508, rfl⟩
abbrev main_v418 : Ref sig .tc := ⟨.hbm, 509, rfl⟩
abbrev main_v419 : Ref sig .tc := ⟨.hbm, 510, rfl⟩
abbrev main_v420 : Ref sig .tc := ⟨.hbm, 511, rfl⟩
abbrev main_v421 : Ref sig .tc := ⟨.hbm, 512, rfl⟩
abbrev main_v422 : Ref sig .tc := ⟨.hbm, 513, rfl⟩
abbrev main_cst_50 : Ref sig .tc := ⟨.hbm, 514, rfl⟩
abbrev main_v423 : Ref sig .tc := ⟨.hbm, 515, rfl⟩
abbrev main_v424 : Ref sig .tc := ⟨.hbm, 516, rfl⟩
abbrev main_cst_51 : Ref sig .tc := ⟨.hbm, 517, rfl⟩
abbrev main_v425 : Ref sig .tc := ⟨.hbm, 518, rfl⟩
abbrev main_v426 : Ref sig .tc := ⟨.hbm, 519, rfl⟩
abbrev main_v427 : Ref sig .tc := ⟨.hbm, 520, rfl⟩
abbrev main_v428 : Ref sig .tc := ⟨.hbm, 521, rfl⟩
abbrev main_v429 : Ref sig .tc := ⟨.hbm, 522, rfl⟩
abbrev main_cst_52 : Ref sig .tc := ⟨.hbm, 523, rfl⟩
abbrev main_v430 : Ref sig .tc := ⟨.hbm, 524, rfl⟩
abbrev main_v431 : Ref sig .tc := ⟨.hbm, 525, rfl⟩
abbrev main_cst_53 : Ref sig .tc := ⟨.hbm, 526, rfl⟩
abbrev main_v432 : Ref sig .tc := ⟨.hbm, 527, rfl⟩
abbrev main_v433 : Ref sig .tc := ⟨.hbm, 528, rfl⟩
abbrev main_v434 : Ref sig .tc := ⟨.hbm, 529, rfl⟩
abbrev main_v435 : Ref sig .tc := ⟨.hbm, 530, rfl⟩
abbrev main_v436 : Ref sig .tc := ⟨.hbm, 531, rfl⟩
abbrev main_cst_54 : Ref sig .tc := ⟨.hbm, 532, rfl⟩
abbrev main_v437 : Ref sig .tc := ⟨.hbm, 533, rfl⟩
abbrev main_v438 : Ref sig .tc := ⟨.hbm, 534, rfl⟩
abbrev main_v439 : Ref sig .tc := ⟨.hbm, 535, rfl⟩
abbrev main_v440 : Ref sig .tc := ⟨.hbm, 536, rfl⟩
abbrev main_v441 : Ref sig .tc := ⟨.hbm, 537, rfl⟩
abbrev main_v442 : Ref sig .tc := ⟨.hbm, 538, rfl⟩
abbrev main_v443 : Ref sig .tc := ⟨.hbm, 539, rfl⟩
abbrev main_v444 : Ref sig .tc := ⟨.hbm, 540, rfl⟩
abbrev main_v445 : Ref sig .tc := ⟨.hbm, 541, rfl⟩
abbrev main_v446 : Ref sig .tc := ⟨.hbm, 542, rfl⟩
abbrev main_v447 : Ref sig .tc := ⟨.hbm, 543, rfl⟩
abbrev main_v448 : Ref sig .tc := ⟨.hbm, 544, rfl⟩
abbrev main_v449 : Ref sig .tc := ⟨.hbm, 545, rfl⟩
abbrev main_v450 : Ref sig .tc := ⟨.hbm, 546, rfl⟩
abbrev main_v451 : Ref sig .tc := ⟨.hbm, 547, rfl⟩
abbrev main_v452 : Ref sig .tc := ⟨.hbm, 548, rfl⟩
abbrev main_v453 : Ref sig .tc := ⟨.hbm, 549, rfl⟩
abbrev main_v454 : Ref sig .tc := ⟨.hbm, 550, rfl⟩
abbrev main_v455 : Ref sig .tc := ⟨.hbm, 551, rfl⟩
abbrev main_v456 : Ref sig .tc := ⟨.hbm, 552, rfl⟩
abbrev main_v457 : Ref sig .tc := ⟨.hbm, 553, rfl⟩
abbrev main_v458 : Ref sig .tc := ⟨.hbm, 554, rfl⟩
abbrev main_v459 : Ref sig .tc := ⟨.hbm, 555, rfl⟩
abbrev main_v460 : Ref sig .tc := ⟨.hbm, 556, rfl⟩
abbrev main_v461 : Ref sig .tc := ⟨.hbm, 557, rfl⟩
abbrev main_v462 : Ref sig .tc := ⟨.hbm, 558, rfl⟩
abbrev main_cst_55 : Ref sig .tc := ⟨.hbm, 559, rfl⟩
abbrev main_v463 : Ref sig .tc := ⟨.hbm, 560, rfl⟩
abbrev main_v464 : Ref sig .tc := ⟨.hbm, 561, rfl⟩
abbrev main_cst_56 : Ref sig .tc := ⟨.hbm, 562, rfl⟩
abbrev main_v465 : Ref sig .tc := ⟨.hbm, 563, rfl⟩
abbrev main_v466 : Ref sig .tc := ⟨.hbm, 564, rfl⟩
abbrev main_v467 : Ref sig .tc := ⟨.hbm, 565, rfl⟩
abbrev main_v468 : Ref sig .tc := ⟨.hbm, 566, rfl⟩
abbrev main_v469 : Ref sig .tc := ⟨.hbm, 567, rfl⟩
abbrev main_cst_57 : Ref sig .tc := ⟨.hbm, 568, rfl⟩
abbrev main_v470 : Ref sig .tc := ⟨.hbm, 569, rfl⟩
abbrev main_v471 : Ref sig .tc := ⟨.hbm, 570, rfl⟩
abbrev main_cst_58 : Ref sig .tc := ⟨.hbm, 571, rfl⟩
abbrev main_v472 : Ref sig .tc := ⟨.hbm, 572, rfl⟩
abbrev main_v473 : Ref sig .tc := ⟨.hbm, 573, rfl⟩
abbrev main_v474 : Ref sig .tc := ⟨.hbm, 574, rfl⟩
abbrev main_v475 : Ref sig .tc := ⟨.hbm, 575, rfl⟩
abbrev main_v476 : Ref sig .tc := ⟨.hbm, 576, rfl⟩
abbrev main_cst_59 : Ref sig .tc := ⟨.hbm, 577, rfl⟩
abbrev main_v477 : Ref sig .tc := ⟨.hbm, 578, rfl⟩
abbrev main_v478 : Ref sig .tc := ⟨.hbm, 579, rfl⟩
abbrev main_v479 : Ref sig .tc := ⟨.hbm, 580, rfl⟩
abbrev main_v480 : Ref sig .tc := ⟨.hbm, 581, rfl⟩
abbrev main_v481 : Ref sig .tc := ⟨.hbm, 582, rfl⟩
abbrev main_v482 : Ref sig .tc := ⟨.hbm, 583, rfl⟩
abbrev main_v483 : Ref sig .tc := ⟨.hbm, 584, rfl⟩
abbrev main_v484 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_v488 : Ref sig .tc := ⟨.hbm, 589, rfl⟩
abbrev main_v489 : Ref sig .tc := ⟨.hbm, 590, rfl⟩
abbrev main_v490 : Ref sig .tc := ⟨.hbm, 591, rfl⟩
abbrev main_v491 : Ref sig .tc := ⟨.hbm, 592, rfl⟩
abbrev main_v492 : Ref sig .tc := ⟨.hbm, 593, rfl⟩
abbrev main_v493 : Ref sig .tc := ⟨.hbm, 594, rfl⟩
abbrev main_v494 : Ref sig .tc := ⟨.hbm, 595, rfl⟩
abbrev main_v495 : Ref sig .tc := ⟨.hbm, 596, rfl⟩
abbrev main_v496 : Ref sig .tc := ⟨.hbm, 597, rfl⟩
abbrev main_v497 : Ref sig .tc := ⟨.hbm, 598, rfl⟩
abbrev main_v498 : Ref sig .tc := ⟨.hbm, 599, rfl⟩
abbrev main_v499 : Ref sig .tc := ⟨.hbm, 600, rfl⟩
abbrev main_v500 : Ref sig .tc := ⟨.hbm, 601, rfl⟩
abbrev main_v501 : Ref sig .tc := ⟨.hbm, 602, rfl⟩
abbrev main_v502 : Ref sig .tc := ⟨.hbm, 603, rfl⟩
abbrev main_cst_60 : Ref sig .tc := ⟨.hbm, 604, rfl⟩
abbrev main_v503 : Ref sig .tc := ⟨.hbm, 605, rfl⟩
abbrev main_v504 : Ref sig .tc := ⟨.hbm, 606, rfl⟩
abbrev main_cst_61 : Ref sig .tc := ⟨.hbm, 607, rfl⟩
abbrev main_v505 : Ref sig .tc := ⟨.hbm, 608, rfl⟩
abbrev main_v506 : Ref sig .tc := ⟨.hbm, 609, rfl⟩
abbrev main_v507 : Ref sig .tc := ⟨.hbm, 610, rfl⟩
abbrev main_v508 : Ref sig .tc := ⟨.hbm, 611, rfl⟩
abbrev main_v509 : Ref sig .tc := ⟨.hbm, 612, rfl⟩
abbrev main_cst_62 : Ref sig .tc := ⟨.hbm, 613, rfl⟩
abbrev main_v510 : Ref sig .tc := ⟨.hbm, 614, rfl⟩
abbrev main_v511 : Ref sig .tc := ⟨.hbm, 615, rfl⟩
abbrev main_cst_63 : Ref sig .tc := ⟨.hbm, 616, rfl⟩
abbrev main_v512 : Ref sig .tc := ⟨.hbm, 617, rfl⟩
abbrev main_v513 : Ref sig .tc := ⟨.hbm, 618, rfl⟩
abbrev main_v514 : Ref sig .tc := ⟨.hbm, 619, rfl⟩
abbrev main_v515 : Ref sig .tc := ⟨.hbm, 620, rfl⟩
abbrev main_v516 : Ref sig .tc := ⟨.hbm, 621, rfl⟩
abbrev main_cst_64 : Ref sig .tc := ⟨.hbm, 622, rfl⟩
abbrev main_v517 : Ref sig .tc := ⟨.hbm, 623, rfl⟩
abbrev main_v518 : Ref sig .tc := ⟨.hbm, 624, rfl⟩
abbrev main_v519 : Ref sig .tc := ⟨.hbm, 625, rfl⟩
abbrev main_v520 : Ref sig .tc := ⟨.hbm, 626, rfl⟩
abbrev main_v521 : Ref sig .tc := ⟨.hbm, 627, rfl⟩
abbrev main_v522 : Ref sig .tc := ⟨.hbm, 628, rfl⟩
abbrev main_v523 : Ref sig .tc := ⟨.hbm, 629, rfl⟩
abbrev main_v524 : Ref sig .tc := ⟨.hbm, 630, rfl⟩
abbrev main_v525 : Ref sig .tc := ⟨.hbm, 631, rfl⟩
abbrev main_v526 : Ref sig .tc := ⟨.hbm, 632, rfl⟩
abbrev main_v527 : Ref sig .tc := ⟨.hbm, 633, rfl⟩
abbrev main_v528 : Ref sig .tc := ⟨.hbm, 634, rfl⟩
abbrev main_v529 : Ref sig .tc := ⟨.hbm, 635, rfl⟩
abbrev main_v530 : Ref sig .tc := ⟨.hbm, 636, rfl⟩
abbrev main_v531 : Ref sig .tc := ⟨.hbm, 637, rfl⟩
abbrev main_v532 : Ref sig .tc := ⟨.hbm, 638, rfl⟩
abbrev main_v533 : Ref sig .tc := ⟨.hbm, 639, rfl⟩
abbrev main_v534 : Ref sig .tc := ⟨.hbm, 640, rfl⟩
abbrev main_v535 : Ref sig .tc := ⟨.hbm, 641, rfl⟩
abbrev main_v536 : Ref sig .tc := ⟨.hbm, 642, rfl⟩
abbrev main_v537 : Ref sig .tc := ⟨.hbm, 643, rfl⟩
abbrev main_v538 : Ref sig .tc := ⟨.hbm, 644, rfl⟩
abbrev main_v539 : Ref sig .tc := ⟨.hbm, 645, rfl⟩
abbrev main_v540 : Ref sig .tc := ⟨.hbm, 646, rfl⟩
abbrev main_v541 : Ref sig .tc := ⟨.hbm, 647, rfl⟩
abbrev main_v542 : Ref sig .tc := ⟨.hbm, 648, rfl⟩
abbrev main_cst_65 : Ref sig .tc := ⟨.hbm, 649, rfl⟩
abbrev main_v543 : Ref sig .tc := ⟨.hbm, 650, rfl⟩
abbrev main_v544 : Ref sig .tc := ⟨.hbm, 651, rfl⟩
abbrev main_cst_66 : Ref sig .tc := ⟨.hbm, 652, rfl⟩
abbrev main_v545 : Ref sig .tc := ⟨.hbm, 653, rfl⟩
abbrev main_v546 : Ref sig .tc := ⟨.hbm, 654, rfl⟩
abbrev main_v547 : Ref sig .tc := ⟨.hbm, 655, rfl⟩
abbrev main_v548 : Ref sig .tc := ⟨.hbm, 656, rfl⟩
abbrev main_v549 : Ref sig .tc := ⟨.hbm, 657, rfl⟩
abbrev main_cst_67 : Ref sig .tc := ⟨.hbm, 658, rfl⟩
abbrev main_v550 : Ref sig .tc := ⟨.hbm, 659, rfl⟩
abbrev main_v551 : Ref sig .tc := ⟨.hbm, 660, rfl⟩
abbrev main_cst_68 : Ref sig .tc := ⟨.hbm, 661, rfl⟩
abbrev main_v552 : Ref sig .tc := ⟨.hbm, 662, rfl⟩
abbrev main_v553 : Ref sig .tc := ⟨.hbm, 663, rfl⟩
abbrev main_v554 : Ref sig .tc := ⟨.hbm, 664, rfl⟩
abbrev main_v555 : Ref sig .tc := ⟨.hbm, 665, rfl⟩
abbrev main_v556 : Ref sig .tc := ⟨.hbm, 666, rfl⟩
abbrev main_cst_69 : Ref sig .tc := ⟨.hbm, 667, rfl⟩
abbrev main_v557 : Ref sig .tc := ⟨.hbm, 668, rfl⟩
abbrev main_v558 : Ref sig .tc := ⟨.hbm, 669, rfl⟩
abbrev main_v559 : Ref sig .tc := ⟨.hbm, 670, rfl⟩
abbrev main_v560 : Ref sig .tc := ⟨.hbm, 671, rfl⟩
abbrev main_v561 : Ref sig .tc := ⟨.hbm, 672, rfl⟩
abbrev main_v562 : Ref sig .tc := ⟨.hbm, 673, rfl⟩
abbrev main_v563 : Ref sig .tc := ⟨.hbm, 674, rfl⟩
abbrev main_v564 : Ref sig .tc := ⟨.hbm, 675, rfl⟩
abbrev main_v565 : Ref sig .tc := ⟨.hbm, 676, rfl⟩
abbrev main_v566 : Ref sig .tc := ⟨.hbm, 677, rfl⟩
abbrev main_v567 : Ref sig .tc := ⟨.hbm, 678, rfl⟩
abbrev main_v568 : Ref sig .tc := ⟨.hbm, 679, rfl⟩
abbrev main_v569 : Ref sig .tc := ⟨.hbm, 680, rfl⟩
abbrev main_v570 : Ref sig .tc := ⟨.hbm, 681, rfl⟩
abbrev main_v571 : Ref sig .tc := ⟨.hbm, 682, rfl⟩
abbrev main_v572 : Ref sig .tc := ⟨.hbm, 683, rfl⟩
abbrev main_v573 : Ref sig .tc := ⟨.hbm, 684, rfl⟩
abbrev main_v574 : Ref sig .tc := ⟨.hbm, 685, rfl⟩
abbrev main_v575 : Ref sig .tc := ⟨.hbm, 686, rfl⟩
abbrev main_v576 : Ref sig .tc := ⟨.hbm, 687, rfl⟩
abbrev main_v577 : Ref sig .tc := ⟨.hbm, 688, rfl⟩
abbrev main_v578 : Ref sig .tc := ⟨.hbm, 689, rfl⟩
abbrev main_v579 : Ref sig .tc := ⟨.hbm, 690, rfl⟩
abbrev main_v580 : Ref sig .tc := ⟨.hbm, 691, rfl⟩
abbrev main_v581 : Ref sig .tc := ⟨.hbm, 692, rfl⟩
abbrev main_v582 : Ref sig .tc := ⟨.hbm, 693, rfl⟩
abbrev main_cst_70 : Ref sig .tc := ⟨.hbm, 694, rfl⟩
abbrev main_v583 : Ref sig .tc := ⟨.hbm, 695, rfl⟩
abbrev main_v584 : Ref sig .tc := ⟨.hbm, 696, rfl⟩
abbrev main_cst_71 : Ref sig .tc := ⟨.hbm, 697, rfl⟩
abbrev main_v585 : Ref sig .tc := ⟨.hbm, 698, rfl⟩
abbrev main_v586 : Ref sig .tc := ⟨.hbm, 699, rfl⟩
abbrev main_v587 : Ref sig .tc := ⟨.hbm, 700, rfl⟩
abbrev main_v588 : Ref sig .tc := ⟨.hbm, 701, rfl⟩
abbrev main_v589 : Ref sig .tc := ⟨.hbm, 702, rfl⟩
abbrev main_cst_72 : Ref sig .tc := ⟨.hbm, 703, rfl⟩
abbrev main_v590 : Ref sig .tc := ⟨.hbm, 704, rfl⟩
abbrev main_v591 : Ref sig .tc := ⟨.hbm, 705, rfl⟩
abbrev main_cst_73 : Ref sig .tc := ⟨.hbm, 706, rfl⟩
abbrev main_v592 : Ref sig .tc := ⟨.hbm, 707, rfl⟩
abbrev main_v593 : Ref sig .tc := ⟨.hbm, 708, rfl⟩
abbrev main_v594 : Ref sig .tc := ⟨.hbm, 709, rfl⟩
abbrev main_v595 : Ref sig .tc := ⟨.hbm, 710, rfl⟩
abbrev main_v596 : Ref sig .tc := ⟨.hbm, 711, rfl⟩
abbrev main_cst_74 : Ref sig .tc := ⟨.hbm, 712, rfl⟩
abbrev main_v597 : Ref sig .tc := ⟨.hbm, 713, rfl⟩
abbrev main_v598 : Ref sig .tc := ⟨.hbm, 714, rfl⟩
abbrev main_v599 : Ref sig .tc := ⟨.hbm, 715, rfl⟩
abbrev main_v600 : Ref sig .tc := ⟨.hbm, 716, rfl⟩
abbrev main_v601 : Ref sig .tc := ⟨.hbm, 717, rfl⟩
abbrev main_v602 : Ref sig .tc := ⟨.hbm, 718, rfl⟩
abbrev main_v603 : Ref sig .tc := ⟨.hbm, 719, rfl⟩
abbrev main_v604 : Ref sig .tc := ⟨.hbm, 720, rfl⟩
abbrev main_v605 : Ref sig .tc := ⟨.hbm, 721, rfl⟩
abbrev main_v606 : Ref sig .tc := ⟨.hbm, 722, rfl⟩
abbrev main_v607 : Ref sig .tc := ⟨.hbm, 723, rfl⟩
abbrev main_v608 : Ref sig .tc := ⟨.hbm, 724, rfl⟩
abbrev main_v609 : Ref sig .tc := ⟨.hbm, 725, rfl⟩
abbrev main_v610 : Ref sig .tc := ⟨.hbm, 726, rfl⟩
abbrev main_v611 : Ref sig .tc := ⟨.hbm, 727, rfl⟩
abbrev main_v612 : Ref sig .tc := ⟨.hbm, 728, rfl⟩
abbrev main_v613 : Ref sig .tc := ⟨.hbm, 729, rfl⟩
abbrev main_v614 : Ref sig .tc := ⟨.hbm, 730, rfl⟩
abbrev main_v615 : Ref sig .tc := ⟨.hbm, 731, rfl⟩
abbrev main_v616 : Ref sig .tc := ⟨.hbm, 732, rfl⟩
abbrev main_v617 : Ref sig .tc := ⟨.hbm, 733, rfl⟩
abbrev main_v618 : Ref sig .tc := ⟨.hbm, 734, rfl⟩
abbrev main_v619 : Ref sig .tc := ⟨.hbm, 735, rfl⟩
abbrev main_v620 : Ref sig .tc := ⟨.hbm, 736, rfl⟩
abbrev main_v621 : Ref sig .tc := ⟨.hbm, 737, rfl⟩
abbrev main_v622 : Ref sig .tc := ⟨.hbm, 738, rfl⟩
abbrev main_cst_75 : Ref sig .tc := ⟨.hbm, 739, rfl⟩
abbrev main_v623 : Ref sig .tc := ⟨.hbm, 740, rfl⟩
abbrev main_v624 : Ref sig .tc := ⟨.hbm, 741, rfl⟩
abbrev main_cst_76 : Ref sig .tc := ⟨.hbm, 742, rfl⟩
abbrev main_v625 : Ref sig .tc := ⟨.hbm, 743, rfl⟩
abbrev main_v626 : Ref sig .tc := ⟨.hbm, 744, rfl⟩
abbrev main_v627 : Ref sig .tc := ⟨.hbm, 745, rfl⟩
abbrev main_v628 : Ref sig .tc := ⟨.hbm, 746, rfl⟩
abbrev main_v629 : Ref sig .tc := ⟨.hbm, 747, rfl⟩
abbrev main_cst_77 : Ref sig .tc := ⟨.hbm, 748, rfl⟩
abbrev main_v630 : Ref sig .tc := ⟨.hbm, 749, rfl⟩
abbrev main_v631 : Ref sig .tc := ⟨.hbm, 750, rfl⟩
abbrev main_cst_78 : Ref sig .tc := ⟨.hbm, 751, rfl⟩
abbrev main_v632 : Ref sig .tc := ⟨.hbm, 752, rfl⟩
abbrev main_v633 : Ref sig .tc := ⟨.hbm, 753, rfl⟩
abbrev main_v634 : Ref sig .tc := ⟨.hbm, 754, rfl⟩
abbrev main_v635 : Ref sig .tc := ⟨.hbm, 755, rfl⟩
abbrev main_v636 : Ref sig .tc := ⟨.hbm, 756, rfl⟩
abbrev main_cst_79 : Ref sig .tc := ⟨.hbm, 757, rfl⟩
abbrev main_v637 : Ref sig .tc := ⟨.hbm, 758, rfl⟩
abbrev main_v638 : Ref sig .tc := ⟨.hbm, 759, rfl⟩
abbrev main_v639 : Ref sig .tc := ⟨.hbm, 760, rfl⟩
abbrev main_v640 : Ref sig .tc := ⟨.hbm, 761, rfl⟩
abbrev main_v641 : Ref sig .tc := ⟨.hbm, 762, rfl⟩
abbrev main_v642 : Ref sig .tc := ⟨.hbm, 763, rfl⟩
abbrev main_v643 : Ref sig .tc := ⟨.hbm, 764, rfl⟩
abbrev main_v644 : Ref sig .tc := ⟨.hbm, 765, rfl⟩
abbrev main_v645 : Ref sig .tc := ⟨.hbm, 766, rfl⟩
abbrev main_v646 : Ref sig .tc := ⟨.hbm, 767, rfl⟩
abbrev main_v647 : Ref sig .tc := ⟨.hbm, 768, rfl⟩
abbrev main_v648 : Ref sig .tc := ⟨.hbm, 769, rfl⟩
abbrev main_v649 : Ref sig .tc := ⟨.hbm, 770, rfl⟩
abbrev main_v650 : Ref sig .tc := ⟨.hbm, 771, rfl⟩
abbrev main_v651 : Ref sig .tc := ⟨.hbm, 772, rfl⟩
abbrev main_v652 : Ref sig .tc := ⟨.hbm, 773, rfl⟩
abbrev main_v653 : Ref sig .tc := ⟨.hbm, 774, rfl⟩
abbrev main_v654 : Ref sig .tc := ⟨.hbm, 775, rfl⟩
abbrev main_v655 : Ref sig .tc := ⟨.hbm, 776, rfl⟩
abbrev main_v656 : Ref sig .tc := ⟨.hbm, 777, rfl⟩
abbrev main_v657 : Ref sig .tc := ⟨.hbm, 778, rfl⟩
abbrev main_v658 : Ref sig .tc := ⟨.hbm, 779, rfl⟩
abbrev main_c : Ref sig .tc := ⟨.hbm, 780, rfl⟩
abbrev main_v659 : Ref sig .tc := ⟨.hbm, 781, rfl⟩
abbrev main_v660 : Ref sig .tc := ⟨.hbm, 782, rfl⟩
abbrev main_c_80 : Ref sig .tc := ⟨.hbm, 783, rfl⟩
abbrev main_c_81 : Ref sig .tc := ⟨.hbm, 784, rfl⟩
abbrev main_call1_v0 : Ref sig .tc := ⟨.hbm, 785, rfl⟩
abbrev main_call1_v1 : Ref sig .tc := ⟨.hbm, 786, rfl⟩
abbrev main_call1_v2 : Ref sig .tc := ⟨.hbm, 787, rfl⟩
abbrev main_call1_v3 : Ref sig .tc := ⟨.hbm, 788, rfl⟩
abbrev main_call1_v4 : Ref sig .tc := ⟨.hbm, 789, rfl⟩
abbrev main_v661 : Ref sig .tc := ⟨.hbm, 790, rfl⟩
abbrev main_v662 : Ref sig .tc := ⟨.hbm, 791, rfl⟩
abbrev main_call2_c : Ref sig .tc := ⟨.hbm, 792, rfl⟩
abbrev main_call2_v0 : Ref sig .tc := ⟨.hbm, 793, rfl⟩
abbrev main_call2_v1 : Ref sig .tc := ⟨.hbm, 794, rfl⟩
abbrev main_call2_c_0 : Ref sig .tc := ⟨.hbm, 795, rfl⟩
abbrev main_call2_v2 : Ref sig .tc := ⟨.hbm, 796, rfl⟩
abbrev main_call2_v3 : Ref sig .tc := ⟨.hbm, 797, rfl⟩
abbrev main_call2_v4 : Ref sig .tc := ⟨.hbm, 798, rfl⟩
abbrev main_call2_c_1 : Ref sig .tc := ⟨.hbm, 799, rfl⟩
abbrev main_call2_c_2 : Ref sig .tc := ⟨.hbm, 800, rfl⟩
abbrev main_call2_v5 : Ref sig .tc := ⟨.hbm, 801, rfl⟩
abbrev main_call2_v6 : Ref sig .tc := ⟨.hbm, 802, rfl⟩
abbrev main_call2_v7 : Ref sig .tc := ⟨.hbm, 803, rfl⟩
abbrev main_call2_v8 : Ref sig .tc := ⟨.hbm, 804, rfl⟩
abbrev main_call2_v9 : Ref sig .tc := ⟨.hbm, 805, rfl⟩
abbrev main_call2_v10 : Ref sig .tc := ⟨.hbm, 806, rfl⟩
abbrev main_call2_c_3 : Ref sig .tc := ⟨.hbm, 807, rfl⟩
abbrev main_call2_v11 : Ref sig .tc := ⟨.hbm, 808, rfl⟩
abbrev main_call2_v12 : Ref sig .tc := ⟨.hbm, 809, rfl⟩
abbrev main_call2_v13 : Ref sig .tc := ⟨.hbm, 810, rfl⟩
abbrev main_call2_cst : Ref sig .tc := ⟨.hbm, 811, rfl⟩
abbrev main_call2_v14 : Ref sig .tc := ⟨.hbm, 812, rfl⟩
abbrev main_v663 : Ref sig .tc := ⟨.hbm, 813, rfl⟩
abbrev main_v664 : Ref sig .tc := ⟨.hbm, 814, rfl⟩
abbrev main_v665 : Ref sig .tc := ⟨.hbm, 815, rfl⟩
abbrev main_v666 : Ref sig .tc := ⟨.hbm, 816, rfl⟩
abbrev main_cst_82 : Ref sig .tc := ⟨.hbm, 817, rfl⟩
abbrev main_v667 : Ref sig .tc := ⟨.hbm, 818, rfl⟩
abbrev main_v668 : Ref sig .tc := ⟨.hbm, 819, rfl⟩
abbrev main_cst_83 : Ref sig .tc := ⟨.hbm, 820, rfl⟩
abbrev main_v669 : Ref sig .tc := ⟨.hbm, 821, rfl⟩
abbrev main_cst_84 : Ref sig .tc := ⟨.hbm, 822, rfl⟩
abbrev main_v670 : Ref sig .tc := ⟨.hbm, 823, rfl⟩
abbrev main_c_85 : Ref sig .tc := ⟨.hbm, 824, rfl⟩
abbrev main_v671_0 : Ref sig .tc := ⟨.hbm, 825, rfl⟩
abbrev main_v671_1 : Ref sig .tc := ⟨.hbm, 826, rfl⟩
abbrev main_v671_2 : Ref sig .tc := ⟨.hbm, 827, rfl⟩
abbrev main_v671_3 : Ref sig .tc := ⟨.hbm, 828, rfl⟩
abbrev main_v671_4 : Ref sig .tc := ⟨.hbm, 829, rfl⟩
abbrev main_v671_5 : Ref sig .tc := ⟨.hbm, 830, rfl⟩
abbrev main_v671_6 : Ref sig .tc := ⟨.hbm, 831, rfl⟩
abbrev main_v671_7 : Ref sig .tc := ⟨.hbm, 832, rfl⟩
abbrev main_v671_8 : Ref sig .tc := ⟨.hbm, 833, rfl⟩
abbrev main_v671_9 : Ref sig .tc := ⟨.hbm, 834, rfl⟩
abbrev main_v671_10 : Ref sig .tc := ⟨.hbm, 835, rfl⟩
abbrev main_v671_11 : Ref sig .tc := ⟨.hbm, 836, rfl⟩
abbrev main_v671_12 : Ref sig .tc := ⟨.hbm, 837, rfl⟩
abbrev main_v671_13 : Ref sig .tc := ⟨.hbm, 838, rfl⟩
abbrev main_v671_14 : Ref sig .tc := ⟨.hbm, 839, rfl⟩
abbrev main_while0c_c_100 : Ref sig .tc := ⟨.hbm, 840, rfl⟩
abbrev main_while0c_v674 : Ref sig .tc := ⟨.hbm, 841, rfl⟩
abbrev main_while0b_call3_c : Ref sig .tc := ⟨.hbm, 842, rfl⟩
abbrev main_while0b_call3_c_0 : Ref sig .tc := ⟨.hbm, 843, rfl⟩
abbrev main_while0b_call3_v0 : Ref sig .tc := ⟨.hbm, 844, rfl⟩
abbrev main_while0b_v674 : Ref sig .tc := ⟨.hbm, 845, rfl⟩
abbrev main_while0b_call4_c : Ref sig .tc := ⟨.hbm, 846, rfl⟩
abbrev main_while0b_call4_c_0 : Ref sig .tc := ⟨.hbm, 847, rfl⟩
abbrev main_while0b_call4_v0 : Ref sig .tc := ⟨.hbm, 848, rfl⟩
abbrev main_while0b_v675 : Ref sig .tc := ⟨.hbm, 849, rfl⟩
abbrev main_while0b_v676 : Ref sig .tc := ⟨.hbm, 850, rfl⟩
abbrev main_while0b_v677 : Ref sig .tc := ⟨.hbm, 851, rfl⟩
abbrev main_while0b_v678 : Ref sig .tc := ⟨.hbm, 852, rfl⟩
abbrev main_while0b_v679 : Ref sig .tc := ⟨.hbm, 853, rfl⟩
abbrev main_while0b_v680 : Ref sig .tc := ⟨.hbm, 854, rfl⟩
abbrev main_while0b_v681 : Ref sig .tc := ⟨.hbm, 855, rfl⟩
abbrev main_while0b_v682 : Ref sig .tc := ⟨.hbm, 856, rfl⟩
abbrev main_while0b_v683 : Ref sig .tc := ⟨.hbm, 857, rfl⟩
abbrev main_while0b_v684 : Ref sig .tc := ⟨.hbm, 858, rfl⟩
abbrev main_while0b_v685 : Ref sig .tc := ⟨.hbm, 859, rfl⟩
abbrev main_while0b_v686 : Ref sig .tc := ⟨.hbm, 860, rfl⟩
abbrev main_while0b_v687 : Ref sig .tc := ⟨.hbm, 861, rfl⟩
abbrev main_while0b_v688 : Ref sig .tc := ⟨.hbm, 862, rfl⟩
abbrev main_while0b_v689 : Ref sig .tc := ⟨.hbm, 863, rfl⟩
abbrev main_while0b_v690 : Ref sig .tc := ⟨.hbm, 864, rfl⟩
abbrev main_while0b_v691 : Ref sig .tc := ⟨.hbm, 865, rfl⟩
abbrev main_while0b_v692 : Ref sig .tc := ⟨.hbm, 866, rfl⟩
abbrev main_while0b_v693 : Ref sig .tc := ⟨.hbm, 867, rfl⟩
abbrev main_while0b_v694 : Ref sig .tc := ⟨.hbm, 868, rfl⟩
abbrev main_while0b_cst_100 : Ref sig .tc := ⟨.hbm, 869, rfl⟩
abbrev main_while0b_v695 : Ref sig .tc := ⟨.hbm, 870, rfl⟩
abbrev main_while0b_v696 : Ref sig .tc := ⟨.hbm, 871, rfl⟩
abbrev main_while0b_cst_101 : Ref sig .tc := ⟨.hbm, 872, rfl⟩
abbrev main_while0b_v697 : Ref sig .tc := ⟨.hbm, 873, rfl⟩
abbrev main_while0b_v698 : Ref sig .tc := ⟨.hbm, 874, rfl⟩
abbrev main_while0b_v699 : Ref sig .tc := ⟨.hbm, 875, rfl⟩
abbrev main_while0b_v700 : Ref sig .tc := ⟨.hbm, 876, rfl⟩
abbrev main_while0b_v701 : Ref sig .tc := ⟨.hbm, 877, rfl⟩
abbrev main_while0b_cst_102 : Ref sig .tc := ⟨.hbm, 878, rfl⟩
abbrev main_while0b_v702 : Ref sig .tc := ⟨.hbm, 879, rfl⟩
abbrev main_while0b_v703 : Ref sig .tc := ⟨.hbm, 880, rfl⟩
abbrev main_while0b_cst_103 : Ref sig .tc := ⟨.hbm, 881, rfl⟩
abbrev main_while0b_v704 : Ref sig .tc := ⟨.hbm, 882, rfl⟩
abbrev main_while0b_v705 : Ref sig .tc := ⟨.hbm, 883, rfl⟩
abbrev main_while0b_v706 : Ref sig .tc := ⟨.hbm, 884, rfl⟩
abbrev main_while0b_v707 : Ref sig .tc := ⟨.hbm, 885, rfl⟩
abbrev main_while0b_v708 : Ref sig .tc := ⟨.hbm, 886, rfl⟩
abbrev main_while0b_cst_104 : Ref sig .tc := ⟨.hbm, 887, rfl⟩
abbrev main_while0b_v709 : Ref sig .tc := ⟨.hbm, 888, rfl⟩
abbrev main_while0b_v710 : Ref sig .tc := ⟨.hbm, 889, rfl⟩
abbrev main_while0b_v711 : Ref sig .tc := ⟨.hbm, 890, rfl⟩
abbrev main_while0b_v712 : Ref sig .tc := ⟨.hbm, 891, rfl⟩
abbrev main_while0b_v713 : Ref sig .tc := ⟨.hbm, 892, rfl⟩
abbrev main_while0b_v714 : Ref sig .tc := ⟨.hbm, 893, rfl⟩
abbrev main_while0b_v715 : Ref sig .tc := ⟨.hbm, 894, rfl⟩
abbrev main_while0b_v716 : Ref sig .tc := ⟨.hbm, 895, rfl⟩
abbrev main_while0b_v717 : Ref sig .tc := ⟨.hbm, 896, rfl⟩
abbrev main_while0b_v718 : Ref sig .tc := ⟨.hbm, 897, rfl⟩
abbrev main_while0b_v719 : Ref sig .tc := ⟨.hbm, 898, rfl⟩
abbrev main_while0b_v720 : Ref sig .tc := ⟨.hbm, 899, rfl⟩
abbrev main_while0b_v721 : Ref sig .tc := ⟨.hbm, 900, rfl⟩
abbrev main_while0b_v722 : Ref sig .tc := ⟨.hbm, 901, rfl⟩
abbrev main_while0b_v723 : Ref sig .tc := ⟨.hbm, 902, rfl⟩
abbrev main_while0b_v724 : Ref sig .tc := ⟨.hbm, 903, rfl⟩
abbrev main_while0b_v725 : Ref sig .tc := ⟨.hbm, 904, rfl⟩
abbrev main_while0b_v726 : Ref sig .tc := ⟨.hbm, 905, rfl⟩
abbrev main_while0b_v727 : Ref sig .tc := ⟨.hbm, 906, rfl⟩
abbrev main_while0b_v728 : Ref sig .tc := ⟨.hbm, 907, rfl⟩
abbrev main_while0b_v729 : Ref sig .tc := ⟨.hbm, 908, rfl⟩
abbrev main_while0b_v730 : Ref sig .tc := ⟨.hbm, 909, rfl⟩
abbrev main_while0b_v731 : Ref sig .tc := ⟨.hbm, 910, rfl⟩
abbrev main_while0b_v732 : Ref sig .tc := ⟨.hbm, 911, rfl⟩
abbrev main_while0b_cst_105 : Ref sig .tc := ⟨.hbm, 912, rfl⟩
abbrev main_while0b_v733 : Ref sig .tc := ⟨.hbm, 913, rfl⟩
abbrev main_while0b_v734 : Ref sig .tc := ⟨.hbm, 914, rfl⟩
abbrev main_while0b_cst_106 : Ref sig .tc := ⟨.hbm, 915, rfl⟩
abbrev main_while0b_v735 : Ref sig .tc := ⟨.hbm, 916, rfl⟩
abbrev main_while0b_v736 : Ref sig .tc := ⟨.hbm, 917, rfl⟩
abbrev main_while0b_v737 : Ref sig .tc := ⟨.hbm, 918, rfl⟩
abbrev main_while0b_v738 : Ref sig .tc := ⟨.hbm, 919, rfl⟩
abbrev main_while0b_v739 : Ref sig .tc := ⟨.hbm, 920, rfl⟩
abbrev main_while0b_cst_107 : Ref sig .tc := ⟨.hbm, 921, rfl⟩
abbrev main_while0b_v740 : Ref sig .tc := ⟨.hbm, 922, rfl⟩
abbrev main_while0b_v741 : Ref sig .tc := ⟨.hbm, 923, rfl⟩
abbrev main_while0b_cst_108 : Ref sig .tc := ⟨.hbm, 924, rfl⟩
abbrev main_while0b_v742 : Ref sig .tc := ⟨.hbm, 925, rfl⟩
abbrev main_while0b_v743 : Ref sig .tc := ⟨.hbm, 926, rfl⟩
abbrev main_while0b_v744 : Ref sig .tc := ⟨.hbm, 927, rfl⟩
abbrev main_while0b_v745 : Ref sig .tc := ⟨.hbm, 928, rfl⟩
abbrev main_while0b_v746 : Ref sig .tc := ⟨.hbm, 929, rfl⟩
abbrev main_while0b_cst_109 : Ref sig .tc := ⟨.hbm, 930, rfl⟩
abbrev main_while0b_v747 : Ref sig .tc := ⟨.hbm, 931, rfl⟩
abbrev main_while0b_v748 : Ref sig .tc := ⟨.hbm, 932, rfl⟩
abbrev main_while0b_v749 : Ref sig .tc := ⟨.hbm, 933, rfl⟩
abbrev main_while0b_v750 : Ref sig .tc := ⟨.hbm, 934, rfl⟩
abbrev main_while0b_v751 : Ref sig .tc := ⟨.hbm, 935, rfl⟩
abbrev main_while0b_call5_v0 : Ref sig .tc := ⟨.hbm, 936, rfl⟩
abbrev main_while0b_call5_c : Ref sig .tc := ⟨.hbm, 937, rfl⟩
abbrev main_while0b_call5_c_0 : Ref sig .tc := ⟨.hbm, 938, rfl⟩
abbrev main_while0b_v752 : Ref sig .tc := ⟨.hbm, 939, rfl⟩
abbrev main_while0b_call6_v0 : Ref sig .tc := ⟨.hbm, 940, rfl⟩
abbrev main_while0b_call6_c : Ref sig .tc := ⟨.hbm, 941, rfl⟩
abbrev main_while0b_call6_c_0 : Ref sig .tc := ⟨.hbm, 942, rfl⟩
abbrev main_while0b_v753 : Ref sig .tc := ⟨.hbm, 943, rfl⟩
abbrev main_while0b_c_110 : Ref sig .tc := ⟨.hbm, 944, rfl⟩
abbrev main_while0b_v754 : Ref sig .tc := ⟨.hbm, 945, rfl⟩
abbrev main_v672 : Ref sig .tc := ⟨.hbm, 946, rfl⟩
abbrev main_v673 : Ref sig .tc := ⟨.hbm, 947, rfl⟩

abbrev nD : Nat := 1
abbrev τ : Topo := Topo.v7x

variable {F : FTy → Type} [FloatOps F]

abbrev main_while0_count : Scf.Loop 32 := ⟨0#32, 64#32, 1#32⟩
-- ==== Proof.KernelIdealRegion0Body.lean ====
/- The first kernel region's body (`cc0__charproj_body`): what it computes, and the body run once. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### What the body computes, as functions of its blocks -/

/-- One step of the character recurrence on the block's 1024 words: from the hidden state `h` and the column `col` of character
    ids, with the projected table `E`, the two biases `bi`, `bh` and the recurrent weights `W`. -/
def charStep (E : FVec F S128x192 .bf16) (bi bh : FVec F S1x192 .bf16) (W : FVec F S64x192 .bf16)
    (h : FVec F S1024x64 .bf16) (col : Vec F S1024x1 .bf16) : FVec F S1024x64 .bf16 :=
  k0_pay18 E bi bh W (k0_pay7 (F := F)) h col

/-- The hidden state after `n` character steps, from zero. -/
def charH (E : FVec F S128x192 .bf16) (bi bh : FVec F S1x192 .bf16) (W : FVec F S64x192 .bf16)
    (col : ℕ → Vec F S1024x1 .bf16) : ℕ → FVec F S1024x64 .bf16
  | 0 => k0_pay8 (F := F)
  | n + 1 => charStep E bi bh W (charH E bi bh W col n) (col n)

/-- The bf16 pattern of the step number. -/
def stepBits : ℕ → BitVec 16 := fun n =>
  (#[0x0000#16, 0x3F80#16, 0x4000#16, 0x4040#16, 0x4080#16, 0x40A0#16, 0x40C0#16, 0x40E0#16, 0x4100#16, 0x4110#16, 0x4120#16,
    0x4130#16, 0x4140#16, 0x4150#16, 0x4160#16, 0x4170#16] : Array (BitVec 16)).getD n 0#16

/-- Of the first `n` hidden states the one whose step number the word's entry of `len` names, and zero if none does. -/
def charSel (len : FVec F S1024x64 .bf16) (H : ℕ → FVec F S1024x64 .bf16) : ℕ → FVec F S1024x64 .bf16
  | 0 => k0_pay9 (F := F)
  | n + 1 => select (cmpf .oeq len (broadcast S1024x64 (Scalar.ofBits .bf16 (stepBits n) : F .bf16))) (H (n + 1)) (charSel len H n)

/-- The block the body stores, from the columns of character ids and its fourteen other blocks. -/
def projOf (col : ℕ → Vec F S1024x1 .bf16) (x1 : Vec F S1024x64 .bf16) (x2 : Vec F S128x64 .f32) (x3 : Vec F S64x192 .f32) (x4 : Vec F S64x192 .bf16) (x5 : Vec F S1x192 .f32) (x6 : Vec F S1x192 .f32) (x7 : Vec F S1024x1024 .f32) (x8 : Vec F S1024x300 .f32) (x9 : Vec F S1024x7 .f32) (x10 : Vec F S1024x1536 .bf16) (x11 : Vec F S300x1536 .bf16) (x12 : Vec F S64x1536 .bf16) (x13 : Vec F S7x1536 .bf16) (x14 : Vec F S1x1536 .f32) : FVec F S1024x1536 .bf16 :=
  k0_pay1 (charSel (k0_pay6 x1) (charH (k0_pay2 x2 x3) (k0_pay3 x5) (k0_pay4 x6) (k0_pay5 x4) col) 16) (k0_pay66 x7 x10) x8 x11 x9 x13 x12 x14

/-- Column `n` of the block of character ids lies inside it. -/
theorem col_inb (n : ℕ) (a : Fin 2) : (![0, n % 16] : Fin 2 → ℕ) a + S1024x1.size a ≤ S1024x16.size a := by
  have h : n % 16 < 16 := Nat.mod_lt _ (by decide)
  fin_cases a
  · exact Nat.le_refl 1024
  · exact h

/-- Column `n` of a block of character ids. -/
def colOf (x0 : Vec F S1024x16 .bf16) (n : ℕ) : Vec F S1024x1 .bf16 :=
  View.ld x0 (Rect.unit (s := S1024x16) ![0, n % 16] S1024x1.size (col_inb n))

/-- The block the body stores, from its fifteen blocks. -/
def projOut (x0 : Vec F S1024x16 .bf16) (x1 : Vec F S1024x64 .bf16) (x2 : Vec F S128x64 .f32) (x3 : Vec F S64x192 .f32) (x4 : Vec F S64x192 .bf16) (x5 : Vec F S1x192 .f32) (x6 : Vec F S1x192 .f32) (x7 : Vec F S1024x1024 .f32) (x8 : Vec F S1024x300 .f32) (x9 : Vec F S1024x7 .f32) (x10 : Vec F S1024x1536 .bf16) (x11 : Vec F S300x1536 .bf16) (x12 : Vec F S64x1536 .bf16) (x13 : Vec F S7x1536 .bf16) (x14 : Vec F S1x1536 .f32) : FVec F S1024x1536 .bf16 :=
  projOf (colOf x0) x1 x2 x3 x4 x5 x6 x7 x8 x9 x10 x11 x12 x13 x14

/-! ### The body run once -/

set_option maxHeartbeats 1000000 in
/-- The body at a point: the list is the pieces its stores write into the output block, last first. -/
noncomputable def projRun (c : Dev nD) (i : grid0.Coords) (arg1 : Memref sig .tc .vmem S1024x16 .bf16) (harg1 : arg1.IsWhole) (arg2 : Memref sig .tc .vmem S1024x64 .bf16) (harg2 : arg2.IsWhole) (arg3 : Memref sig .tc .vmem S128x64 .f32) (harg3 : arg3.IsWhole) (arg4 : Memref sig .tc .vmem S64x192 .f32) (harg4 : arg4.IsWhole) (arg5 : Memref sig .tc .vmem S64x192 .bf16) (harg5 : arg5.IsWhole) (arg6 : Memref sig .tc .vmem S1x192 .f32) (harg6 : arg6.IsWhole) (arg7 : Memref sig .tc .vmem S1x192 .f32) (harg7 : arg7.IsWhole) (arg8 : Memref sig .tc .vmem S1024x1024 .f32) (harg8 : arg8.IsWhole) (arg9 : Memref sig .tc .vmem S1024x300 .f32) (harg9 : arg9.IsWhole) (arg10 : Memref sig .tc .vmem S1024x7 .f32) (harg10 : arg10.IsWhole) (arg11 : Memref sig .tc .vmem S1024x1536 .bf16) (harg11 : arg11.IsWhole) (arg12 : Memref sig .tc .vmem S300x1536 .bf16) (harg12 : arg12.IsWhole) (arg13 : Memref sig .tc .vmem S64x1536 .bf16) (harg13 : arg13.IsWhole) (arg14 : Memref sig .tc .vmem S7x1536 .bf16) (harg14 : arg14.IsWhole) (arg15 : Memref sig .tc .vmem S1x1536 .f32) (harg15 : arg15.IsWhole) (arg16 : Memref sig .tc .vmem S1024x1536 .bf16) (harg16 : arg16.IsWhole)
    (x0 : Vec F S1024x16 .bf16) (x1 : Vec F S1024x64 .bf16) (x2 : Vec F S128x64 .f32) (x3 : Vec F S64x192 .f32) (x4 : Vec F S64x192 .bf16) (x5 : Vec F S1x192 .f32) (x6 : Vec F S1x192 .f32) (x7 : Vec F S1024x1024 .f32) (x8 : Vec F S1024x300 .f32) (x9 : Vec F S1024x7 .f32) (x10 : Vec F S1024x1536 .bf16) (x11 : Vec F S300x1536 .bf16) (x12 : Vec F S64x1536 .bf16) (x13 : Vec F S7x1536 .bf16) (x14 : Vec F S1x1536 .f32) (d : Vec F S1024x1536 .bf16) :
    { L : List (View.Piece (Elt F) S1024x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
            ∗ owns (c : Thread nD τ) arg16 fullShare d
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
                ∗ (arg16.view.loc (c : Thread nD τ) ↦[arg16.view.set]{fullShare} arg16.view.writes (Elt F) (harg16.unread d) L)) -∗ K ⟨⟩))
          ⊢ wp frame (wpE (defs₀ (F := F)) Variants.none c none) E (cc0__charproj_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__charproj_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold cc0__charproj_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexact H15

/-- The body stores one piece, the whole block, which is `projOf` of what it loaded. -/
theorem projRun_pieces (c : Dev nD) (i : grid0.Coords) (arg1 : Memref sig .tc .vmem S1024x16 .bf16) (harg1 : arg1.IsWhole) (arg2 : Memref sig .tc .vmem S1024x64 .bf16) (harg2 : arg2.IsWhole) (arg3 : Memref sig .tc .vmem S128x64 .f32) (harg3 : arg3.IsWhole) (arg4 : Memref sig .tc .vmem S64x192 .f32) (harg4 : arg4.IsWhole) (arg5 : Memref sig .tc .vmem S64x192 .bf16) (harg5 : arg5.IsWhole) (arg6 : Memref sig .tc .vmem S1x192 .f32) (harg6 : arg6.IsWhole) (arg7 : Memref sig .tc .vmem S1x192 .f32) (harg7 : arg7.IsWhole) (arg8 : Memref sig .tc .vmem S1024x1024 .f32) (harg8 : arg8.IsWhole) (arg9 : Memref sig .tc .vmem S1024x300 .f32) (harg9 : arg9.IsWhole) (arg10 : Memref sig .tc .vmem S1024x7 .f32) (harg10 : arg10.IsWhole) (arg11 : Memref sig .tc .vmem S1024x1536 .bf16) (harg11 : arg11.IsWhole) (arg12 : Memref sig .tc .vmem S300x1536 .bf16) (harg12 : arg12.IsWhole) (arg13 : Memref sig .tc .vmem S64x1536 .bf16) (harg13 : arg13.IsWhole) (arg14 : Memref sig .tc .vmem S7x1536 .bf16) (harg14 : arg14.IsWhole) (arg15 : Memref sig .tc .vmem S1x1536 .f32) (harg15 : arg15.IsWhole) (arg16 : Memref sig .tc .vmem S1024x1536 .bf16) (harg16 : arg16.IsWhole)
    (x0 : Vec F S1024x16 .bf16) (x1 : Vec F S1024x64 .bf16) (x2 : Vec F S128x64 .f32) (x3 : Vec F S64x192 .f32) (x4 : Vec F S64x192 .bf16) (x5 : Vec F S1x192 .f32) (x6 : Vec F S1x192 .f32) (x7 : Vec F S1024x1024 .f32) (x8 : Vec F S1024x300 .f32) (x9 : Vec F S1024x7 .f32) (x10 : Vec F S1024x1536 .bf16) (x11 : Vec F S300x1536 .bf16) (x12 : Vec F S64x1536 .bf16) (x13 : Vec F S7x1536 .bf16) (x14 : Vec F S1x1536 .f32) (d : Vec F S1024x1536 .bf16) :
    (projRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 d).1 =
      [⟨Rect.unit (s := S1024x1536) ![0, 0] S1024x1536.size inb_S1024x1536_S1024x1536_0_0,
        projOf (fun n => View.readAt (Elt F) arg1.view (Rect.unit (s := S1024x16) ![0, n % 16] S1024x1.size (col_inb n)).toLoadRect (harg1.unread x0))
          (View.readAt (Elt F) arg2.view (Rect.unit (s := S1024x64) ![0, 0] S1024x64.size inb_S1024x64_S1024x64_0_0).toLoadRect (harg2.unread x1)) (View.readAt (Elt F) arg3.view (Rect.unit (s := S128x64) ![0, 0] S128x64.size inb_S128x64_S128x64_0_0).toLoadRect (harg3.unread x2)) (View.readAt (Elt F) arg4.view (Rect.unit (s := S64x192) ![0, 0] S64x192.size inb_S64x192_S64x192_0_0).toLoadRect (harg4.unread x3)) (View.readAt (Elt F) arg5.view (Rect.unit (s := S64x192) ![0, 0] S64x192.size inb_S64x192_S64x192_0_0).toLoadRect (harg5.unread x4)) (View.readAt (Elt F) arg6.view (Rect.unit (s := S1x192) ![0, 0] S1x192.size inb_S1x192_S1x192_0_0).toLoadRect (harg6.unread x5)) (View.readAt (Elt F) arg7.view (Rect.unit (s := S1x192) ![0, 0] S1x192.size inb_S1x192_S1x192_0_0).toLoadRect (harg7.unread x6)) (View.readAt (Elt F) arg8.view (Rect.unit (s := S1024x1024) ![0, 0] S1024x1024.size inb_S1024x1024_S1024x1024_0_0).toLoadRect (harg8.unread x7)) (View.readAt (Elt F) arg9.view (Rect.unit (s := S1024x300) ![0, 0] S1024x300.size inb_S1024x300_S1024x300_0_0).toLoadRect (harg9.unread x8)) (View.readAt (Elt F) arg10.view (Rect.unit (s := S1024x7) ![0, 0] S1024x7.size inb_S1024x7_S1024x7_0_0).toLoadRect (harg10.unread x9)) (View.readAt (Elt F) arg11.view (Rect.unit (s := S1024x1536) ![0, 0] S1024x1536.size inb_S1024x1536_S1024x1536_0_0).toLoadRect (harg11.unread x10)) (View.readAt (Elt F) arg12.view (Rect.unit (s := S300x1536) ![0, 0] S300x1536.size inb_S300x1536_S300x1536_0_0).toLoadRect (harg12.unread x11)) (View.readAt (Elt F) arg13.view (Rect.unit (s := S64x1536) ![0, 0] S64x1536.size inb_S64x1536_S64x1536_0_0).toLoadRect (harg13.unread x12)) (View.readAt (Elt F) arg14.view (Rect.unit (s := S7x1536) ![0, 0] S7x1536.size inb_S7x1536_S7x1536_0_0).toLoadRect (harg14.unread x13)) (View.readAt (Elt F) arg15.view (Rect.unit (s := S1x1536) ![0, 0] S1x1536.size inb_S1x1536_S1x1536_0_0).toLoadRect (harg15.unread x14))⟩] := by
  sl_kernel_rfl

end Cert.KernelIdeal.Run
-- ==== Proof.KernelIdealRegion0.lean ====
/- The first kernel region (`cc0__charproj_body`): the body's triple, the region's proof data `dat0 V` at entry contents `V`, and
   the body obligation at every grid point. The output window holds `projOut` of the point's fifteen input blocks. -/
module

public import proofs.«01_k».proof.Proof.KernelIdealRegion0Body
public import proofs.«01_k».proof.Proof.Gen.KernelIdeal.Launch
public import Idealize.ShloMosaic.Lib.Pipeline.ValueKit.Basic
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # Region 0: custom_call 0, `cc0__charproj_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's triple -/

/-- The piece the body stores, read back, is `projOut` of the input blocks. -/
theorem projRun_read (c : Dev nD) (i : grid0.Coords) (arg1 : Memref sig .tc .vmem S1024x16 .bf16) (harg1 : arg1.IsWhole) (arg2 : Memref sig .tc .vmem S1024x64 .bf16) (harg2 : arg2.IsWhole) (arg3 : Memref sig .tc .vmem S128x64 .f32) (harg3 : arg3.IsWhole) (arg4 : Memref sig .tc .vmem S64x192 .f32) (harg4 : arg4.IsWhole) (arg5 : Memref sig .tc .vmem S64x192 .bf16) (harg5 : arg5.IsWhole) (arg6 : Memref sig .tc .vmem S1x192 .f32) (harg6 : arg6.IsWhole) (arg7 : Memref sig .tc .vmem S1x192 .f32) (harg7 : arg7.IsWhole) (arg8 : Memref sig .tc .vmem S1024x1024 .f32) (harg8 : arg8.IsWhole) (arg9 : Memref sig .tc .vmem S1024x300 .f32) (harg9 : arg9.IsWhole) (arg10 : Memref sig .tc .vmem S1024x7 .f32) (harg10 : arg10.IsWhole) (arg11 : Memref sig .tc .vmem S1024x1536 .bf16) (harg11 : arg11.IsWhole) (arg12 : Memref sig .tc .vmem S300x1536 .bf16) (harg12 : arg12.IsWhole) (arg13 : Memref sig .tc .vmem S64x1536 .bf16) (harg13 : arg13.IsWhole) (arg14 : Memref sig .tc .vmem S7x1536 .bf16) (harg14 : arg14.IsWhole) (arg15 : Memref sig .tc .vmem S1x1536 .f32) (harg15 : arg15.IsWhole) (arg16 : Memref sig .tc .vmem S1024x1536 .bf16) (harg16 : arg16.IsWhole)
    (x0 : Vec F S1024x16 .bf16) (x1 : Vec F S1024x64 .bf16) (x2 : Vec F S128x64 .f32) (x3 : Vec F S64x192 .f32) (x4 : Vec F S64x192 .bf16) (x5 : Vec F S1x192 .f32) (x6 : Vec F S1x192 .f32) (x7 : Vec F S1024x1024 .f32) (x8 : Vec F S1024x300 .f32) (x9 : Vec F S1024x7 .f32) (x10 : Vec F S1024x1536 .bf16) (x11 : Vec F S300x1536 .bf16) (x12 : Vec F S64x1536 .bf16) (x13 : Vec F S7x1536 .bf16) (x14 : Vec F S1x1536 .f32) (d : Vec F S1024x1536 .bf16) :
    arg16.view.read (Elt F) (arg16.view.writes (Elt F) (harg16.unread d) (projRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 d).1) = projOut x0 x1 x2 x3 x4 x5 x6 x7 x8 x9 x10 x11 x12 x13 x14 := by
  rw [projRun_pieces]
  refine (View.read_writes_eq_canon _ _ _ fun y => ⟨_, List.mem_singleton.2 rfl, ?_⟩).trans ?_
  · exact View.mem_set_unit_zero (by funext a; fin_cases a <;> rfl) inb_S1024x1536_S1024x1536_0_0 y
  rw [View.canon_cons_unit_lit _ _ _ (by intro a; fin_cases a <;> rfl)]
  unfold projOut
  congr 1
  all_goals first
    | (rw [View.readAt_eq_ld, Memref.IsWhole.read_unread]; exact View.ld_unit_lit _ _ (by intro a; fin_cases a <;> rfl))
    | (funext n; rw [View.readAt_eq_ld, Memref.IsWhole.read_unread]; rfl)

/-- The body at a point whose input windows hold `x0`, …, `x14`: they are left as they are, and the output window holds `projOut` of them. -/
theorem sound_kernel0 (c : Dev nD) (E : Set ℕ) (i : grid0.Coords) (arg1 : Memref sig .tc .vmem S1024x16 .bf16) (harg1 : arg1.IsWhole) (arg2 : Memref sig .tc .vmem S1024x64 .bf16) (harg2 : arg2.IsWhole) (arg3 : Memref sig .tc .vmem S128x64 .f32) (harg3 : arg3.IsWhole) (arg4 : Memref sig .tc .vmem S64x192 .f32) (harg4 : arg4.IsWhole) (arg5 : Memref sig .tc .vmem S64x192 .bf16) (harg5 : arg5.IsWhole) (arg6 : Memref sig .tc .vmem S1x192 .f32) (harg6 : arg6.IsWhole) (arg7 : Memref sig .tc .vmem S1x192 .f32) (harg7 : arg7.IsWhole) (arg8 : Memref sig .tc .vmem S1024x1024 .f32) (harg8 : arg8.IsWhole) (arg9 : Memref sig .tc .vmem S1024x300 .f32) (harg9 : arg9.IsWhole) (arg10 : Memref sig .tc .vmem S1024x7 .f32) (harg10 : arg10.IsWhole) (arg11 : Memref sig .tc .vmem S1024x1536 .bf16) (harg11 : arg11.IsWhole) (arg12 : Memref sig .tc .vmem S300x1536 .bf16) (harg12 : arg12.IsWhole) (arg13 : Memref sig .tc .vmem S64x1536 .bf16) (harg13 : arg13.IsWhole) (arg14 : Memref sig .tc .vmem S7x1536 .bf16) (harg14 : arg14.IsWhole) (arg15 : Memref sig .tc .vmem S1x1536 .f32) (harg15 : arg15.IsWhole) (arg16 : Memref sig .tc .vmem S1024x1536 .bf16) (harg16 : arg16.IsWhole)
    (x0 : Vec F S1024x16 .bf16) (x1 : Vec F S1024x64 .bf16) (x2 : Vec F S128x64 .f32) (x3 : Vec F S64x192 .f32) (x4 : Vec F S64x192 .bf16) (x5 : Vec F S1x192 .f32) (x6 : Vec F S1x192 .f32) (x7 : Vec F S1024x1024 .f32) (x8 : Vec F S1024x300 .f32) (x9 : Vec F S1024x7 .f32) (x10 : Vec F S1024x1536 .bf16) (x11 : Vec F S300x1536 .bf16) (x12 : Vec F S64x1536 .bf16) (x13 : Vec F S7x1536 .bf16) (x14 : Vec F S1x1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
        ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
            ∗ owns (c : Thread nD τ) arg16 fullShare (projOut x0 x1 x2 x3 x4 x5 x6 x7 x8 x9 x10 x11 x12 x13 x14)) -∗ K ⟨⟩))
      ⊢ wp frame (wpE (defs₀ (F := F)) Variants.none c none) E (cc0__charproj_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, H13, H14, ⟨%d15, H15⟩, Hk⟩
  iapply ((projRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 d15).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns
  iexists _; isplitr
  swap; · iexact H15
  ipureintro
  exact projRun_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 d15

/-! ## The pipeline's proof data -/

/-- The proof data of pipeline 0 on core `c`: the arrays as the region finds them (`V`); after the body at
    point `t` each input's buffer at its block and the output's at `projOut` of the input blocks; the invariant
    holds what the body does not touch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => projOut (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨_ + 16, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The output window is left at `projOut` of the blocks the fifteen input windows are left at. -/
theorem after0_out (c : Dev nD) (t : Fin cfg0.N) : (dat0 V c).after 15 t = projOut ((dat0 V c).after 0 t) ((dat0 V c).after 1 t) ((dat0 V c).after 2 t) ((dat0 V c).after 3 t) ((dat0 V c).after 4 t) ((dat0 V c).after 5 t) ((dat0 V c).after 6 t) ((dat0 V c).after 7 t) ((dat0 V c).after 8 t) ((dat0 V c).after 9 t) ((dat0 V c).after 10 t) ((dat0 V c).after 11 t) ((dat0 V c).after 12 t) ((dat0 V c).after 13 t) ((dat0 V c).after 14 t) := by
  dsimp only [dat0]

/-- The output window is left at `projOut` of the fifteen input blocks. -/
theorem after0_15 (c : Dev nD) (t : Fin cfg0.N) : (dat0 V c).after 15 t = projOut (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by
  dsimp only [dat0]

/-- The body leaves each input window at its block. -/
theorem keeps0 (c : Dev nD) (t : Fin cfg0.N) : ∀ w : Fin cfg0.W, w ≠ 15 →
    (cfg0.win w).cut (cfg0.grid.coords t) ((dat0 V c).after w t) = (dat0 V c).blockOf w t := by
  intro w hw
  fin_cases w
  case «15» => exact absurd rfl hw
  all_goals (dsimp only [dat0]; rfl)

/-- So an input window's buffer is found at every point as the body leaves it, whether the block is fetched there or not. -/
theorem found0 (c : Dev nD) (t : Fin cfg0.N) (w : Fin cfg0.W) (hw : w ≠ 15) (d) : (dat0 V c).before w t d = (dat0 V c).after w t := by
  rw [(dat0 V c).before_in_eq_fetched w ((by decide : ∀ w : Fin cfg0.W, w ≠ 15 → (cfg0.win w).isOut = false) w hw) (fun _ => rfl)
    (fun t t' _ => by fin_cases w <;> rfl) (fun t => keeps0 V c t w hw) t d]
  fin_cases w
  case «15» => exact absurd rfl hw
  all_goals (dsimp only [dat0]; rfl)

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

/-- The body at any point: the input windows are found as they are left (`found0`), so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp (discharger := decide) only [found0]
  rw [show (dat0 V c).Φ t.succ = (dat0 V c).Φ t.castSucc from rfl,
    show (dat0 V c).owesAt () t.succ = (dat0 V c).owesAt () t.castSucc from rfl, after0_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ (grid0.coords t) _ _ _ _ _ _ _ _ _ _ _ _ _ _ _ _ _ _ _ _ _ _ _ _ _ _ _ _ _ _ _ _ ((dat0 V c).after 0 t) ((dat0 V c).after 1 t) ((dat0 V c).after 2 t) ((dat0 V c).after 3 t) ((dat0 V c).after 4 t) ((dat0 V c).after 5 t) ((dat0 V c).after 6 t) ((dat0 V c).after 7 t) ((dat0 V c).after 8 t) ((dat0 V c).after 9 t) ((dat0 V c).after 10 t) ((dat0 V c).after 11 t) ((dat0 V c).after 12 t) ((dat0 V c).after 13 t) ((dat0 V c).after 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run
-- ==== Proof.KernelIdealRegion1Body.lean ====
/- The second kernel region's body (`cc1__rec_body`) run once: the pieces its stores write, at the first point and at a later one. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: the hidden states are set to zero first; the lists are the pieces its stores write into the output block and into the two hidden states, last first. -/
noncomputable def recRunFirst (c : Dev nD) (i : grid1.Coords) (arg1 : Memref sig .tc .vmem S8x128x768 .bf16) (harg1 : arg1.IsWhole) (arg2 : Memref sig .tc .vmem S8x128x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S64x128x512 .f32) (harg7 : arg7.IsWhole) (arg8 : Memref sig .tc .vmem S128x256 .f32) (harg8 : arg8.IsWhole) (arg9 : Memref sig .tc .vmem S128x256 .f32) (harg9 : arg9.IsWhole)
    (hc : Scalar.cmpi .ne (Scalar.extui (Scalar.cmpi .eq (BitVec.ofNat 32 (i 0).val) 0#32) : BitVec 32) 0#32 = 1#1) (x0 : Vec F S8x128x768 .bf16) (x1 : Vec F S8x128x768 .bf16) (x2 : Vec F S256x768 .bf16) (x3 : Vec F S256x768 .bf16) (x4 : Vec F S1x768 .f32) (x5 : Vec F S1x768 .f32) (d7 : Vec F S64x128x512 .f32) :
    { L : List (View.Piece (Elt F) S64x128x512 .f32) × List (View.Piece (Elt F) S128x256 .f32) × List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare d7 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (arg7.view.loc (c : Thread nD τ) ↦[arg7.view.set]{fullShare} arg7.view.writes (Elt F) (harg7.unread d7) L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)) -∗ K ⟨⟩))
          ⊢ wp frame (wpE (defs₀ (F := F)) Variants.none c none) E (cc1__rec_body i arg1 harg1 arg2 harg2 arg3 harg3 arg4 harg4 arg5 harg5 arg6 harg6 arg7 harg7 arg8 harg8 arg9 harg9) K } := by
  refine ⟨⟨?_, ?_, ?_⟩, fun E K => ?run⟩
  case run =>
    simp only [cc1__rec_body_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold cc1__rec_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    skip
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [HS0]; · iexists _; iexact HS0
    iexists _; iexact HS1

set_option maxHeartbeats 1000000 in
/-- The body at a later point: the hidden states are the carried ones; the lists are the pieces its stores write into the output block and into the two hidden states, last first. -/
noncomputable def recRunLater (c : Dev nD) (i : grid1.Coords) (arg1 : Memref sig .tc .vmem S8x128x768 .bf16) (harg1 : arg1.IsWhole) (arg2 : Memref sig .tc .vmem S8x128x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S64x128x512 .f32) (harg7 : arg7.IsWhole) (arg8 : Memref sig .tc .vmem S128x256 .f32) (harg8 : arg8.IsWhole) (arg9 : Memref sig .tc .vmem S128x256 .f32) (harg9 : arg9.IsWhole)
    (hc : ¬ Scalar.cmpi .ne (Scalar.extui (Scalar.cmpi .eq (BitVec.ofNat 32 (i 0).val) 0#32) : BitVec 32) 0#32 = 1#1) (x0 : Vec F S8x128x768 .bf16) (x1 : Vec F S8x128x768 .bf16) (x2 : Vec F S256x768 .bf16) (x3 : Vec F S256x768 .bf16) (x4 : Vec F S1x768 .f32) (x5 : Vec F S1x768 .f32) (d7 : Vec F S64x128x512 .f32) (h8 : Vec F S128x256 .f32) (h9 : Vec F S128x256 .f32) :
    { L : List (View.Piece (Elt F) S64x128x512 .f32) × List (View.Piece (Elt F) S128x256 .f32) × List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare d7 ∗ owns (c : Thread nD τ) arg8 fullShare h8 ∗ owns (c : Thread nD τ) arg9 fullShare h9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (arg7.view.loc (c : Thread nD τ) ↦[arg7.view.set]{fullShare} arg7.view.writes (Elt F) (harg7.unread d7) L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)) -∗ K ⟨⟩))
          ⊢ wp frame (wpE (defs₀ (F := F)) Variants.none c none) E (cc1__rec_body i arg1 harg1 arg2 harg2 arg3 harg3 arg4 harg4 arg5 harg5 arg6 harg6 arg7 harg7 arg8 harg8 arg9 harg9) K } := by
  refine ⟨⟨?_, ?_, ?_⟩, fun E K => ?run⟩
  case run =>
    simp only [cc1__rec_body_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold cc1__rec_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    obtain rfl := harg8.eq_unread hfs0; obtain rfl := harg9.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [HS0]; · iexists _; iexact HS0
    iexists _; iexact HS1

end Cert.KernelIdeal.Run
-- ==== Proof.KernelIdealRegion1Pieces.lean ====
/- The second kernel region's body (`cc1__rec_body`): what one run leaves in the output block and in the two hidden states, in closed form. -/
module

public import proofs.«01_k».proof.Proof.KernelIdealRegion1Body
public import proofs.«01_k».proof.Proof.Gen.KernelIdeal.Launch
public import Idealize.ShloMosaic.Lib.Pipeline.ValueKit.Basic
public import Idealize.ShloMosaic.Lib.WritesUnit
public import Idealize.ShloMosaic.Lib.ValueLayout
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ### Hidden states and the pieces that store them -/

/-- The hidden state after `n` steps from `h`: step `n` takes the gate inputs `xr n`, with the recurrent weights `w` and the bias `b`. -/
def recSeq (xr : ℕ → Vec F S1x128x768 .bf16) (w : Vec F S256x768 .bf16) (b : Vec F S1x768 .f32) (h : Vec F S128x256 .f32) :
    ℕ → Vec F S128x256 .f32
  | 0 => h
  | n + 1 => k1_pay7 (recSeq xr w b h n) (xr n) w b

/-- Row `n` of an eight-row block lies inside it. -/
theorem row_inb (n : ℕ) (a : Fin 3) : (![n % 8, 0, 0] : Fin 3 → ℕ) a + S1x128x768.size a ≤ S8x128x768.size a := by
  have h : n % 8 < 8 := Nat.mod_lt _ (by decide)
  fin_cases a
  · exact h
  · exact Nat.le_refl 128
  · exact Nat.le_refl 768

/-- Row `n` of an eight-row block. -/
def rowOf (x : Vec F S8x128x768 .bf16) (n : ℕ) : Vec F S1x128x768 .bf16 :=
  View.ld x (Rect.unit (s := S8x128x768) ![n % 8, 0, 0] S1x128x768.size (row_inb n))

/-- The pieces that `n` steps at the point `i` store into the output block, last first: of each step the forward state `f`
    into the first half of its row and the backward state `g` into the second half of the mirrored row. -/
def recPieces (i : grid1.Coords) (f g : ℕ → Vec F S128x256 .f32) : ℕ → List (View.Piece (Elt F) S64x128x512 .f32)
  | 0 => []
  | n + 1 =>
    ⟨Rect.unit (s := S64x128x512) (k1_off2 i (BitVec.ofNat 32 (n % 8))) S1x128x256.size (k1_off2_inb i ⟨n % 8, Nat.mod_lt _ (by decide)⟩),
      shapeCast S1x128x256 (g (n + 1)) shapeCasts_S128x256_S1x128x256⟩ ::
    ⟨Rect.unit (s := S64x128x512) (k1_off1 i (BitVec.ofNat 32 (n % 8))) S1x128x256.size (k1_off1_inb i ⟨n % 8, Nat.mod_lt _ (by decide)⟩),
      shapeCast S1x128x256 (f (n + 1)) shapeCasts_S128x256_S1x128x256⟩ :: recPieces i f g n

/-- The output block at row `r`, sequence `s`, column `j` after `n` steps at point `t`, over the old contents `d`. -/
def readRec (t : ℕ) (f g : ℕ → Vec F S128x256 .f32) (d : Vec F S64x128x512 .f32) (n : ℕ) (r : Fin 64) (s : Fin 128) (j : Fin 512) : Elt F .f32 :=
  if hj : j.val < 256 then
    if 8 * t ≤ r.val ∧ r.val < 8 * t + n then f (r.val - 8 * t + 1) (ix2 s ⟨j.val, hj⟩) else d (ix3 r s j)
  else
    if r.val + 8 * t ≤ 63 ∧ 63 < r.val + 8 * t + n then g (64 - 8 * t - r.val) (ix2 s ⟨j.val - 256, by omega⟩) else d (ix3 r s j)

/-- Reading the output block back after `n` steps. -/
theorem read_recPieces (i : grid1.Coords) (f g : ℕ → Vec F S128x256 .f32) {sp : Space} (v : View sig .tc sp S64x128x512 .f32)
    (d : v.ty.Contents (Elt F)) (r : Fin 64) : ∀ (n : ℕ) (_ : n ≤ 8) (s : Fin 128) (j : Fin 512),
    v.read (Elt F) (v.writes (Elt F) d (recPieces i f g n)) (ix3 r s j) = readRec (i 0).val f g (v.read (Elt F) d) n r s j
  | 0, _, s, j => by
    have h1 : ¬ (8 * (i 0).val ≤ r.val ∧ r.val < 8 * (i 0).val + 0) := by omega
    have h2 : ¬ (r.val + 8 * (i 0).val ≤ 63 ∧ 63 < r.val + 8 * (i 0).val + 0) := by omega
    unfold readRec
    split
    · first | rfl | (rw [if_neg h1]; rfl)
    · first | rfl | (rw [if_neg h2]; rfl)
  | n + 1, hn, s, j => by
    have hm : n % 8 = n := Nat.mod_eq_of_lt (by omega)
    have ht : (i 0).val < 8 := (i 0).isLt
    have o2 : k1_off2 i (BitVec.ofNat 32 (n % 8)) = ![63 - (8 * (i 0).val + n), 0, 256] := by
      rw [k1_off2_eq i ⟨n % 8, Nat.mod_lt _ (by decide)⟩]; simp only [hm]
    have o1 : k1_off1 i (BitVec.ofNat 32 (n % 8)) = ![8 * (i 0).val + n, 0, 0] := by
      rw [k1_off1_eq i ⟨n % 8, Nat.mod_lt _ (by decide)⟩]; simp only [hm]
    have ih := read_recPieces i f g v d r n (by omega) s j
    have hr := r.isLt
    by_cases hj : j.val < 256
    · refine (View.read_writes_cons_unit_of_not_mem v d _ _ _ _ o2 2 (.inl (by show j.val < 256; exact hj))).trans ?_
      by_cases hrow : r.val = 8 * (i 0).val + n
      · refine (View.read_writes_cons_unit_of_mem v d _ _ _ (ix3 r s j) (ix3 (0 : Fin 1) s ⟨j.val, hj⟩) o1 ?_).trans ?_
        · intro a
          match a with
          | ⟨0, _⟩ => exact hrow
          | ⟨1, _⟩ => exact (Nat.zero_add _).symm
          | ⟨2, _⟩ => exact (Nat.zero_add _).symm
        · refine (shapeCast_ab_1ab_apply _ _ _ _ _).trans ?_
          unfold readRec
          rw [dif_pos hj, if_pos ⟨by omega, by omega⟩, show r.val - 8 * (i 0).val + 1 = n + 1 by omega]
      · refine (View.read_writes_cons_unit_of_not_mem v d _ _ _ _ o1 0 (by show r.val < 8 * (i 0).val + n ∨ 8 * (i 0).val + n + 1 ≤ r.val; omega)).trans ?_
        rw [ih]; unfold readRec
        rw [dif_pos hj, dif_pos hj]
        by_cases h : 8 * (i 0).val ≤ r.val ∧ r.val < 8 * (i 0).val + n
        · rw [if_pos h, if_pos ⟨by omega, by omega⟩]
        · rw [if_neg h, if_neg (by omega)]
    · by_cases hrow : r.val = 63 - (8 * (i 0).val + n)
      · refine (View.read_writes_cons_unit_of_mem v d _ _ _ (ix3 r s j) (ix3 (0 : Fin 1) s ⟨j.val - 256, by omega⟩) o2 ?_).trans ?_
        · intro a
          match a with
          | ⟨0, _⟩ => exact hrow
          | ⟨1, _⟩ => exact (Nat.zero_add _).symm
          | ⟨2, _⟩ => show j.val = 256 + (j.val - 256); omega
        · refine (shapeCast_ab_1ab_apply _ _ _ _ _).trans ?_
          unfold readRec
          rw [dif_neg hj, if_pos ⟨by omega, by omega⟩, show 64 - 8 * (i 0).val - r.val = n + 1 by omega]
      · refine (View.read_writes_cons_unit_of_not_mem v d _ _ _ _ o2 0 (by
          show r.val < 63 - (8 * (i 0).val + n) ∨ 63 - (8 * (i 0).val + n) + 1 ≤ r.val; omega)).trans ?_
        refine (View.read_writes_cons_unit_of_not_mem v d _ _ _ _ o1 2 (.inr (by show 0 + 256 ≤ j.val; omega))).trans ?_
        rw [ih]; unfold readRec
        rw [dif_neg hj, dif_neg hj]
        by_cases h : r.val + 8 * (i 0).val ≤ 63 ∧ 63 < r.val + 8 * (i 0).val + n
        · rw [if_pos h, if_pos ⟨by omega, by omega⟩]
        · rw [if_neg h, if_neg (by omega)]

/-- Every index of a hidden state is in the rectangle that stores it whole. -/
theorem mem_whole_state (y : S128x256.Idx) : y ∈ (Rect.unit (s := S128x256) ![0, 0] S128x256.size inb_S128x256_S128x256_0_0).set :=
  View.mem_set_unit_zero (by funext a; fin_cases a <;> rfl) inb_S128x256_S128x256_0_0 y

/-- Storing a hidden state whole and reading it back gives the state, whatever was stored before. -/
theorem read_state {sp : Space} (v : View sig .tc sp S128x256 .f32) (d : v.ty.Contents (Elt F)) (x : Vec F S128x256 .f32)
    (L : List (View.Piece (Elt F) S128x256 .f32)) :
    v.read (Elt F) (v.writes (Elt F) d ((⟨(Rect.unit (s := S128x256) ![0, 0] S128x256.size inb_S128x256_S128x256_0_0), k1_pay3 x⟩ : View.Piece (Elt F) S128x256 .f32) :: L)) = x := by
  refine (View.read_writes_eq_canon _ _ _ fun y => ⟨_, List.mem_cons_self, ?_⟩).trans ?_
  · exact View.mem_set_unit_zero (by funext a; fin_cases a <;> rfl) inb_S128x256_S128x256_0_0 y
  · rw [View.canon_cons_unit_lit _ _ _ (by intro a; fin_cases a <;> rfl)]
    exact shapeCast_self _ _

/-- Runs of hidden states from equal data are equal. -/
theorem recSeq_congr {xr xr' : ℕ → Vec F S1x128x768 .bf16} {w w' : Vec F S256x768 .bf16} {b b' : Vec F S1x768 .f32}
    {h h' : Vec F S128x256 .f32} (ex : ∀ n, xr n = xr' n) (ew : w = w') (eb : b = b') (eh : h = h') :
    recSeq xr w b h = recSeq xr' w' b' h' := by
  obtain rfl : xr = xr' := funext ex
  subst ew eb eh
  rfl

/-! ### The run at the first point -/

/-- The pieces of the output block are `recPieces` of the two runs of hidden states. -/
theorem recRunFirst_out_raw (c : Dev nD) (i : grid1.Coords) (arg1 : Memref sig .tc .vmem S8x128x768 .bf16) (harg1 : arg1.IsWhole) (arg2 : Memref sig .tc .vmem S8x128x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S64x128x512 .f32) (harg7 : arg7.IsWhole) (arg8 : Memref sig .tc .vmem S128x256 .f32) (harg8 : arg8.IsWhole) (arg9 : Memref sig .tc .vmem S128x256 .f32) (harg9 : arg9.IsWhole)
    (hc : Scalar.cmpi .ne (Scalar.extui (Scalar.cmpi .eq (BitVec.ofNat 32 (i 0).val) 0#32) : BitVec 32) 0#32 = 1#1) (x0 : Vec F S8x128x768 .bf16) (x1 : Vec F S8x128x768 .bf16) (x2 : Vec F S256x768 .bf16) (x3 : Vec F S256x768 .bf16) (x4 : Vec F S1x768 .f32) (x5 : Vec F S1x768 .f32) (d7 : Vec F S64x128x512 .f32) :
    (recRunFirst c i arg1 harg1 arg2 harg2 arg3 harg3 arg4 harg4 arg5 harg5 arg6 harg6 arg7 harg7 arg8 harg8 arg9 harg9 hc x0 x1 x2 x3 x4 x5 d7).1.1 = recPieces i (recSeq (fun n => View.readAt (Elt F) arg1.view (Rect.unit (s := S8x128x768) ![n % 8, 0, 0] S1x128x768.size (row_inb n)).toLoadRect (harg1.unread x0))
            (View.readAt (Elt F) arg3.view (Rect.unit (s := S256x768) ![0, 0] S256x768.size inb_S256x768_S256x768_0_0).toLoadRect (harg3.unread x2)) (View.readAt (Elt F) arg5.view (Rect.unit (s := S1x768) ![0, 0] S1x768.size inb_S1x768_S1x768_0_0).toLoadRect (harg5.unread x4)) (arg8.view.readCov [(⟨(Rect.unit (s := S128x256) ![0, 0] S128x256.size inb_S128x256_S128x256_0_0), k1_pay5 (F := F)⟩ : View.Piece (Elt F) S128x256 .f32)] (Rect.unit (s := S128x256) ![0, 0] S128x256.size inb_S128x256_S128x256_0_0).toLoadRect))
          (recSeq (fun n => View.readAt (Elt F) arg2.view (Rect.unit (s := S8x128x768) ![(7 - n % 8) % 8, 0, 0] S1x128x768.size (row_inb (7 - n % 8))).toLoadRect (harg2.unread x1))
            (View.readAt (Elt F) arg4.view (Rect.unit (s := S256x768) ![0, 0] S256x768.size inb_S256x768_S256x768_0_0).toLoadRect (harg4.unread x3)) (View.readAt (Elt F) arg6.view (Rect.unit (s := S1x768) ![0, 0] S1x768.size inb_S1x768_S1x768_0_0).toLoadRect (harg6.unread x5)) (arg9.view.readCov [(⟨(Rect.unit (s := S128x256) ![0, 0] S128x256.size inb_S128x256_S128x256_0_0), k1_pay6 (F := F)⟩ : View.Piece (Elt F) S128x256 .f32)] (Rect.unit (s := S128x256) ![0, 0] S128x256.size inb_S128x256_S128x256_0_0).toLoadRect)) 8 := by
  sl_kernel_rfl

/-- The forward state is stored whole after the eighth step. -/
theorem recRunFirst_fwd_raw (c : Dev nD) (i : grid1.Coords) (arg1 : Memref sig .tc .vmem S8x128x768 .bf16) (harg1 : arg1.IsWhole) (arg2 : Memref sig .tc .vmem S8x128x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S64x128x512 .f32) (harg7 : arg7.IsWhole) (arg8 : Memref sig .tc .vmem S128x256 .f32) (harg8 : arg8.IsWhole) (arg9 : Memref sig .tc .vmem S128x256 .f32) (harg9 : arg9.IsWhole)
    (hc : Scalar.cmpi .ne (Scalar.extui (Scalar.cmpi .eq (BitVec.ofNat 32 (i 0).val) 0#32) : BitVec 32) 0#32 = 1#1) (x0 : Vec F S8x128x768 .bf16) (x1 : Vec F S8x128x768 .bf16) (x2 : Vec F S256x768 .bf16) (x3 : Vec F S256x768 .bf16) (x4 : Vec F S1x768 .f32) (x5 : Vec F S1x768 .f32) (d7 : Vec F S64x128x512 .f32) :
    (recRunFirst c i arg1 harg1 arg2 harg2 arg3 harg3 arg4 harg4 arg5 harg5 arg6 harg6 arg7 harg7 arg8 harg8 arg9 harg9 hc x0 x1 x2 x3 x4 x5 d7).1.2.1 = (⟨(Rect.unit (s := S128x256) ![0, 0] S128x256.size inb_S128x256_S128x256_0_0), k1_pay3 ((recSeq (fun n => View.readAt (Elt F) arg1.view (Rect.unit (s := S8x128x768) ![n % 8, 0, 0] S1x128x768.size (row_inb n)).toLoadRect (harg1.unread x0))
            (View.readAt (Elt F) arg3.view (Rect.unit (s := S256x768) ![0, 0] S256x768.size inb_S256x768_S256x768_0_0).toLoadRect (harg3.unread x2)) (View.readAt (Elt F) arg5.view (Rect.unit (s := S1x768) ![0, 0] S1x768.size inb_S1x768_S1x768_0_0).toLoadRect (harg5.unread x4)) (arg8.view.readCov [(⟨(Rect.unit (s := S128x256) ![0, 0] S128x256.size inb_S128x256_S128x256_0_0), k1_pay5 (F := F)⟩ : View.Piece (Elt F) S128x256 .f32)] (Rect.unit (s := S128x256) ![0, 0] S128x256.size inb_S128x256_S128x256_0_0).toLoadRect)) 8)⟩ : View.Piece (Elt F) S128x256 .f32) :: [⟨(Rect.unit (s := S128x256) ![0, 0] S128x256.size inb_S128x256_S128x256_0_0), k1_pay5 (F := F)⟩] := by
  sl_kernel_rfl

/-- The backward state is stored whole after the eighth step. -/
theorem recRunFirst_bwd_raw (c : Dev nD) (i : grid1.Coords) (arg1 : Memref sig .tc .vmem S8x128x768 .bf16) (harg1 : arg1.IsWhole) (arg2 : Memref sig .tc .vmem S8x128x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S64x128x512 .f32) (harg7 : arg7.IsWhole) (arg8 : Memref sig .tc .vmem S128x256 .f32) (harg8 : arg8.IsWhole) (arg9 : Memref sig .tc .vmem S128x256 .f32) (harg9 : arg9.IsWhole)
    (hc : Scalar.cmpi .ne (Scalar.extui (Scalar.cmpi .eq (BitVec.ofNat 32 (i 0).val) 0#32) : BitVec 32) 0#32 = 1#1) (x0 : Vec F S8x128x768 .bf16) (x1 : Vec F S8x128x768 .bf16) (x2 : Vec F S256x768 .bf16) (x3 : Vec F S256x768 .bf16) (x4 : Vec F S1x768 .f32) (x5 : Vec F S1x768 .f32) (d7 : Vec F S64x128x512 .f32) :
    (recRunFirst c i arg1 harg1 arg2 harg2 arg3 harg3 arg4 harg4 arg5 harg5 arg6 harg6 arg7 harg7 arg8 harg8 arg9 harg9 hc x0 x1 x2 x3 x4 x5 d7).1.2.2 = (⟨(Rect.unit (s := S128x256) ![0, 0] S128x256.size inb_S128x256_S128x256_0_0), k1_pay3 ((recSeq (fun n => View.readAt (Elt F) arg2.view (Rect.unit (s := S8x128x768) ![(7 - n % 8) % 8, 0, 0] S1x128x768.size (row_inb (7 - n % 8))).toLoadRect (harg2.unread x1))
            (View.readAt (Elt F) arg4.view (Rect.unit (s := S256x768) ![0, 0] S256x768.size inb_S256x768_S256x768_0_0).toLoadRect (harg4.unread x3)) (View.readAt (Elt F) arg6.view (Rect.unit (s := S1x768) ![0, 0] S1x768.size inb_S1x768_S1x768_0_0).toLoadRect (harg6.unread x5)) (arg9.view.readCov [(⟨(Rect.unit (s := S128x256) ![0, 0] S128x256.size inb_S128x256_S128x256_0_0), k1_pay6 (F := F)⟩ : View.Piece (Elt F) S128x256 .f32)] (Rect.unit (s := S128x256) ![0, 0] S128x256.size inb_S128x256_S128x256_0_0).toLoadRect)) 8)⟩ : View.Piece (Elt F) S128x256 .f32) :: [⟨(Rect.unit (s := S128x256) ![0, 0] S128x256.size inb_S128x256_S128x256_0_0), k1_pay6 (F := F)⟩] := by
  sl_kernel_rfl

/-- What a run leaves: the output block with its sixteen half rows written, and the two hidden states after eight steps. -/
theorem recRunFirst_reads (c : Dev nD) (i : grid1.Coords) (arg1 : Memref sig .tc .vmem S8x128x768 .bf16) (harg1 : arg1.IsWhole) (arg2 : Memref sig .tc .vmem S8x128x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S64x128x512 .f32) (harg7 : arg7.IsWhole) (arg8 : Memref sig .tc .vmem S128x256 .f32) (harg8 : arg8.IsWhole) (arg9 : Memref sig .tc .vmem S128x256 .f32) (harg9 : arg9.IsWhole)
    (hc : Scalar.cmpi .ne (Scalar.extui (Scalar.cmpi .eq (BitVec.ofNat 32 (i 0).val) 0#32) : BitVec 32) 0#32 = 1#1) (x0 : Vec F S8x128x768 .bf16) (x1 : Vec F S8x128x768 .bf16) (x2 : Vec F S256x768 .bf16) (x3 : Vec F S256x768 .bf16) (x4 : Vec F S1x768 .f32) (x5 : Vec F S1x768 .f32) (d7 : Vec F S64x128x512 .f32) (f8 : arg8.view.ty.Contents (Elt F)) (f9 : arg9.view.ty.Contents (Elt F)) :
    (∀ (r : Fin 64) (s : Fin 128) (j : Fin 512),
      arg7.view.read (Elt F) (arg7.view.writes (Elt F) (harg7.unread d7) (recRunFirst c i arg1 harg1 arg2 harg2 arg3 harg3 arg4 harg4 arg5 harg5 arg6 harg6 arg7 harg7 arg8 harg8 arg9 harg9 hc x0 x1 x2 x3 x4 x5 d7).1.1) (ix3 r s j)
        = readRec (i 0).val (recSeq (rowOf x0) x2 x4 (k1_pay5 (F := F))) (recSeq (fun n => rowOf x1 (7 - n % 8)) x3 x5 (k1_pay6 (F := F))) d7 8 r s j)
    ∧ arg8.view.read (Elt F) (arg8.view.writes (Elt F) f8 (recRunFirst c i arg1 harg1 arg2 harg2 arg3 harg3 arg4 harg4 arg5 harg5 arg6 harg6 arg7 harg7 arg8 harg8 arg9 harg9 hc x0 x1 x2 x3 x4 x5 d7).1.2.1) = (recSeq (rowOf x0) x2 x4 (k1_pay5 (F := F))) 8
    ∧ arg9.view.read (Elt F) (arg9.view.writes (Elt F) f9 (recRunFirst c i arg1 harg1 arg2 harg2 arg3 harg3 arg4 harg4 arg5 harg5 arg6 harg6 arg7 harg7 arg8 harg8 arg9 harg9 hc x0 x1 x2 x3 x4 x5 d7).1.2.2) = (recSeq (fun n => rowOf x1 (7 - n % 8)) x3 x5 (k1_pay6 (F := F))) 8 := by
  have e0 : ∀ n, View.readAt (Elt F) arg1.view (Rect.unit (s := S8x128x768) ![n % 8, 0, 0] S1x128x768.size (row_inb n)).toLoadRect (harg1.unread x0) = rowOf x0 n :=
    fun n => by rw [View.readAt_eq_ld, Memref.IsWhole.read_unread]; rfl
  have e1 : ∀ n, View.readAt (Elt F) arg2.view (Rect.unit (s := S8x128x768) ![(7 - n % 8) % 8, 0, 0] S1x128x768.size (row_inb (7 - n % 8))).toLoadRect (harg2.unread x1) = rowOf x1 (7 - n % 8) :=
    fun n => by rw [View.readAt_eq_ld, Memref.IsWhole.read_unread]; rfl
  have e2 : (View.readAt (Elt F) arg3.view (Rect.unit (s := S256x768) ![0, 0] S256x768.size inb_S256x768_S256x768_0_0).toLoadRect (harg3.unread x2)) = x2 := by
    rw [View.readAt_eq_ld, Memref.IsWhole.read_unread]; exact View.ld_unit_lit _ _ (by intro a; fin_cases a <;> rfl)
  have e3 : (View.readAt (Elt F) arg4.view (Rect.unit (s := S256x768) ![0, 0] S256x768.size inb_S256x768_S256x768_0_0).toLoadRect (harg4.unread x3)) = x3 := by
    rw [View.readAt_eq_ld, Memref.IsWhole.read_unread]; exact View.ld_unit_lit _ _ (by intro a; fin_cases a <;> rfl)
  have e4 : (View.readAt (Elt F) arg5.view (Rect.unit (s := S1x768) ![0, 0] S1x768.size inb_S1x768_S1x768_0_0).toLoadRect (harg5.unread x4)) = x4 := by
    rw [View.readAt_eq_ld, Memref.IsWhole.read_unread]; exact View.ld_unit_lit _ _ (by intro a; fin_cases a <;> rfl)
  have e5 : (View.readAt (Elt F) arg6.view (Rect.unit (s := S1x768) ![0, 0] S1x768.size inb_S1x768_S1x768_0_0).toLoadRect (harg6.unread x5)) = x5 := by
    rw [View.readAt_eq_ld, Memref.IsWhole.read_unread]; exact View.ld_unit_lit _ _ (by intro a; fin_cases a <;> rfl)
  have e6 : (arg8.view.readCov [(⟨(Rect.unit (s := S128x256) ![0, 0] S128x256.size inb_S128x256_S128x256_0_0), k1_pay5 (F := F)⟩ : View.Piece (Elt F) S128x256 .f32)] (Rect.unit (s := S128x256) ![0, 0] S128x256.size inb_S128x256_S128x256_0_0).toLoadRect) = k1_pay5 (F := F) := View.readCov_unit_zero _ (by funext a; fin_cases a <;> rfl) _ _
  have e7 : (arg9.view.readCov [(⟨(Rect.unit (s := S128x256) ![0, 0] S128x256.size inb_S128x256_S128x256_0_0), k1_pay6 (F := F)⟩ : View.Piece (Elt F) S128x256 .f32)] (Rect.unit (s := S128x256) ![0, 0] S128x256.size inb_S128x256_S128x256_0_0).toLoadRect) = k1_pay6 (F := F) := View.readCov_unit_zero _ (by funext a; fin_cases a <;> rfl) _ _
  have hF := recSeq_congr e0 e2 e4 e6
  have hG := recSeq_congr e1 e3 e5 e7
  refine ⟨fun r s j => ?_, ?_, ?_⟩
  · rw [recRunFirst_out_raw, hF, hG]
    refine (read_recPieces _ _ _ _ _ _ 8 (le_refl 8) s j).trans ?_
    rw [Memref.IsWhole.read_unread]
  · rw [recRunFirst_fwd_raw, hF]; exact read_state _ _ _ _
  · rw [recRunFirst_bwd_raw, hG]; exact read_state _ _ _ _

/-! ### The run at a later point -/

/-- The pieces of the output block are `recPieces` of the two runs of hidden states. -/
theorem recRunLater_out_raw (c : Dev nD) (i : grid1.Coords) (arg1 : Memref sig .tc .vmem S8x128x768 .bf16) (harg1 : arg1.IsWhole) (arg2 : Memref sig .tc .vmem S8x128x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S64x128x512 .f32) (harg7 : arg7.IsWhole) (arg8 : Memref sig .tc .vmem S128x256 .f32) (harg8 : arg8.IsWhole) (arg9 : Memref sig .tc .vmem S128x256 .f32) (harg9 : arg9.IsWhole)
    (hc : ¬ Scalar.cmpi .ne (Scalar.extui (Scalar.cmpi .eq (BitVec.ofNat 32 (i 0).val) 0#32) : BitVec 32) 0#32 = 1#1) (x0 : Vec F S8x128x768 .bf16) (x1 : Vec F S8x128x768 .bf16) (x2 : Vec F S256x768 .bf16) (x3 : Vec F S256x768 .bf16) (x4 : Vec F S1x768 .f32) (x5 : Vec F S1x768 .f32) (d7 : Vec F S64x128x512 .f32) (h8 : Vec F S128x256 .f32) (h9 : Vec F S128x256 .f32) :
    (recRunLater c i arg1 harg1 arg2 harg2 arg3 harg3 arg4 harg4 arg5 harg5 arg6 harg6 arg7 harg7 arg8 harg8 arg9 harg9 hc x0 x1 x2 x3 x4 x5 d7 h8 h9).1.1 = recPieces i (recSeq (fun n => View.readAt (Elt F) arg1.view (Rect.unit (s := S8x128x768) ![n % 8, 0, 0] S1x128x768.size (row_inb n)).toLoadRect (harg1.unread x0))
            (View.readAt (Elt F) arg3.view (Rect.unit (s := S256x768) ![0, 0] S256x768.size inb_S256x768_S256x768_0_0).toLoadRect (harg3.unread x2)) (View.readAt (Elt F) arg5.view (Rect.unit (s := S1x768) ![0, 0] S1x768.size inb_S1x768_S1x768_0_0).toLoadRect (harg5.unread x4)) (View.readAt (Elt F) arg8.view (Rect.unit (s := S128x256) ![0, 0] S128x256.size inb_S128x256_S128x256_0_0).toLoadRect (harg8.unread h8)))
          (recSeq (fun n => View.readAt (Elt F) arg2.view (Rect.unit (s := S8x128x768) ![(7 - n % 8) % 8, 0, 0] S1x128x768.size (row_inb (7 - n % 8))).toLoadRect (harg2.unread x1))
            (View.readAt (Elt F) arg4.view (Rect.unit (s := S256x768) ![0, 0] S256x768.size inb_S256x768_S256x768_0_0).toLoadRect (harg4.unread x3)) (View.readAt (Elt F) arg6.view (Rect.unit (s := S1x768) ![0, 0] S1x768.size inb_S1x768_S1x768_0_0).toLoadRect (harg6.unread x5)) (View.readAt (Elt F) arg9.view (Rect.unit (s := S128x256) ![0, 0] S128x256.size inb_S128x256_S128x256_0_0).toLoadRect (harg9.unread h9))) 8 := by
  sl_kernel_rfl

/-- The forward state is stored whole after the eighth step. -/
theorem recRunLater_fwd_raw (c : Dev nD) (i : grid1.Coords) (arg1 : Memref sig .tc .vmem S8x128x768 .bf16) (harg1 : arg1.IsWhole) (arg2 : Memref sig .tc .vmem S8x128x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S64x128x512 .f32) (harg7 : arg7.IsWhole) (arg8 : Memref sig .tc .vmem S128x256 .f32) (harg8 : arg8.IsWhole) (arg9 : Memref sig .tc .vmem S128x256 .f32) (harg9 : arg9.IsWhole)
    (hc : ¬ Scalar.cmpi .ne (Scalar.extui (Scalar.cmpi .eq (BitVec.ofNat 32 (i 0).val) 0#32) : BitVec 32) 0#32 = 1#1) (x0 : Vec F S8x128x768 .bf16) (x1 : Vec F S8x128x768 .bf16) (x2 : Vec F S256x768 .bf16) (x3 : Vec F S256x768 .bf16) (x4 : Vec F S1x768 .f32) (x5 : Vec F S1x768 .f32) (d7 : Vec F S64x128x512 .f32) (h8 : Vec F S128x256 .f32) (h9 : Vec F S128x256 .f32) :
    (recRunLater c i arg1 harg1 arg2 harg2 arg3 harg3 arg4 harg4 arg5 harg5 arg6 harg6 arg7 harg7 arg8 harg8 arg9 harg9 hc x0 x1 x2 x3 x4 x5 d7 h8 h9).1.2.1 = (⟨(Rect.unit (s := S128x256) ![0, 0] S128x256.size inb_S128x256_S128x256_0_0), k1_pay3 ((recSeq (fun n => View.readAt (Elt F) arg1.view (Rect.unit (s := S8x128x768) ![n % 8, 0, 0] S1x128x768.size (row_inb n)).toLoadRect (harg1.unread x0))
            (View.readAt (Elt F) arg3.view (Rect.unit (s := S256x768) ![0, 0] S256x768.size inb_S256x768_S256x768_0_0).toLoadRect (harg3.unread x2)) (View.readAt (Elt F) arg5.view (Rect.unit (s := S1x768) ![0, 0] S1x768.size inb_S1x768_S1x768_0_0).toLoadRect (harg5.unread x4)) (View.readAt (Elt F) arg8.view (Rect.unit (s := S128x256) ![0, 0] S128x256.size inb_S128x256_S128x256_0_0).toLoadRect (harg8.unread h8))) 8)⟩ : View.Piece (Elt F) S128x256 .f32) :: [] := by
  sl_kernel_rfl

/-- The backward state is stored whole after the eighth step. -/
theorem recRunLater_bwd_raw (c : Dev nD) (i : grid1.Coords) (arg1 : Memref sig .tc .vmem S8x128x768 .bf16) (harg1 : arg1.IsWhole) (arg2 : Memref sig .tc .vmem S8x128x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S64x128x512 .f32) (harg7 : arg7.IsWhole) (arg8 : Memref sig .tc .vmem S128x256 .f32) (harg8 : arg8.IsWhole) (arg9 : Memref sig .tc .vmem S128x256 .f32) (harg9 : arg9.IsWhole)
    (hc : ¬ Scalar.cmpi .ne (Scalar.extui (Scalar.cmpi .eq (BitVec.ofNat 32 (i 0).val) 0#32) : BitVec 32) 0#32 = 1#1) (x0 : Vec F S8x128x768 .bf16) (x1 : Vec F S8x128x768 .bf16) (x2 : Vec F S256x768 .bf16) (x3 : Vec F S256x768 .bf16) (x4 : Vec F S1x768 .f32) (x5 : Vec F S1x768 .f32) (d7 : Vec F S64x128x512 .f32) (h8 : Vec F S128x256 .f32) (h9 : Vec F S128x256 .f32) :
    (recRunLater c i arg1 harg1 arg2 harg2 arg3 harg3 arg4 harg4 arg5 harg5 arg6 harg6 arg7 harg7 arg8 harg8 arg9 harg9 hc x0 x1 x2 x3 x4 x5 d7 h8 h9).1.2.2 = (⟨(Rect.unit (s := S128x256) ![0, 0] S128x256.size inb_S128x256_S128x256_0_0), k1_pay3 ((recSeq (fun n => View.readAt (Elt F) arg2.view (Rect.unit (s := S8x128x768) ![(7 - n % 8) % 8, 0, 0] S1x128x768.size (row_inb (7 - n % 8))).toLoadRect (harg2.unread x1))
            (View.readAt (Elt F) arg4.view (Rect.unit (s := S256x768) ![0, 0] S256x768.size inb_S256x768_S256x768_0_0).toLoadRect (harg4.unread x3)) (View.readAt (Elt F) arg6.view (Rect.unit (s := S1x768) ![0, 0] S1x768.size inb_S1x768_S1x768_0_0).toLoadRect (harg6.unread x5)) (View.readAt (Elt F) arg9.view (Rect.unit (s := S128x256) ![0, 0] S128x256.size inb_S128x256_S128x256_0_0).toLoadRect (harg9.unread h9))) 8)⟩ : View.Piece (Elt F) S128x256 .f32) :: [] := by
  sl_kernel_rfl

/-- What a run leaves: the output block with its sixteen half rows written, and the two hidden states after eight steps. -/
theorem recRunLater_reads (c : Dev nD) (i : grid1.Coords) (arg1 : Memref sig .tc .vmem S8x128x768 .bf16) (harg1 : arg1.IsWhole) (arg2 : Memref sig .tc .vmem S8x128x768 .bf16) (harg2 : arg2.IsWhole) (arg3 : Memref sig .tc .vmem S256x768 .bf16) (harg3 : arg3.IsWhole) (arg4 : Memref sig .tc .vmem S256x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S64x128x512 .f32) (harg7 : arg7.IsWhole) (arg8 : Memref sig .tc .vmem S128x256 .f32) (harg8 : arg8.IsWhole) (arg9 : Memref sig .tc .vmem S128x256 .f32) (harg9 : arg9.IsWhole)
    (hc : ¬ Scalar.cmpi .ne (Scalar.extui (Scalar.cmpi .eq (BitVec.ofNat 32 (i 0).val) 0#32) : BitVec 32) 0#32 = 1#1) (x0 : Vec F S8x128x768 .bf16) (x1 : Vec F S8x128x768 .bf16) (x2 : Vec F S256x768 .bf16) (x3 : Vec F S256x768 .bf16) (x4 : Vec F S1x768 .f32) (x5 : Vec F S1x768 .f32) (d7 : Vec F S64x128x512 .f32) (h8 : Vec F S128x256 .f32) (h9 : Vec F S128x256 .f32) (f8 : arg8.view.ty.Contents (Elt F)) (f9 : arg9.view.ty.Contents (Elt F)) :
    (∀ (r : Fin 64) (s : Fin 128) (j : Fin 512),
      arg7.view.read (Elt F) (arg7.view.writes (Elt F) (harg7.unread d7) (recRunLater c i arg1 harg1 arg2 harg2 arg3 harg3 arg4 harg4 arg5 harg5 arg6 harg6 arg7 harg7 arg8 harg8 arg9 harg9 hc x0 x1 x2 x3 x4 x5 d7 h8 h9).1.1) (ix3 r s j)
        = readRec (i 0).val (recSeq (rowOf x0) x2 x4 h8) (recSeq (fun n => rowOf x1 (7 - n % 8)) x3 x5 h9) d7 8 r s j)
    ∧ arg8.view.read (Elt F) (arg8.view.writes (Elt F) f8 (recRunLater c i arg1 harg1 arg2 harg2 arg3 harg3 arg4 harg4 arg5 harg5 arg6 harg6 arg7 harg7 arg8 harg8 arg9 harg9 hc x0 x1 x2 x3 x4 x5 d7 h8 h9).1.2.1) = (recSeq (rowOf x0) x2 x4 h8) 8
    ∧ arg9.view.read (Elt F) (arg9.view.writes (Elt F) f9 (recRunLater c i arg1 harg1 arg2 harg2 arg3 harg3 arg4 harg4 arg5 harg5 arg6 harg6 arg7 harg7 arg8 harg8 arg9 harg9 hc x0 x1 x2 x3 x4 x5 d7 h8 h9).1.2.2) = (recSeq (fun n => rowOf x1 (7 - n % 8)) x3 x5 h9) 8 := by
  have e0 : ∀ n, View.readAt (Elt F) arg1.view (Rect.unit (s := S8x128x768) ![n % 8, 0, 0] S1x128x768.size (row_inb n)).toLoadRect (harg1.unread x0) = rowOf x0 n :=
    fun n => by rw [View.readAt_eq_ld, Memref.IsWhole.read_unread]; rfl
  have e1 : ∀ n, View.readAt (Elt F) arg2.view (Rect.unit (s := S8x128x768) ![(7 - n % 8) % 8, 0, 0] S1x128x768.size (row_inb (7 - n % 8))).toLoadRect (harg2.unread x1) = rowOf x1 (7 - n % 8) :=
    fun n => by rw [View.readAt_eq_ld, Memref.IsWhole.read_unread]; rfl
  have e2 : (View.readAt (Elt F) arg3.view (Rect.unit (s := S256x768) ![0, 0] S256x768.size inb_S256x768_S256x768_0_0).toLoadRect (harg3.unread x2)) = x2 := by
    rw [View.readAt_eq_ld, Memref.IsWhole.read_unread]; exact View.ld_unit_lit _ _ (by intro a; fin_cases a <;> rfl)
  have e3 : (View.readAt (Elt F) arg4.view (Rect.unit (s := S256x768) ![0, 0] S256x768.size inb_S256x768_S256x768_0_0).toLoadRect (harg4.unread x3)) = x3 := by
    rw [View.readAt_eq_ld, Memref.IsWhole.read_unread]; exact View.ld_unit_lit _ _ (by intro a; fin_cases a <;> rfl)
  have e4 : (View.readAt (Elt F) arg5.view (Rect.unit (s := S1x768) ![0, 0] S1x768.size inb_S1x768_S1x768_0_0).toLoadRect (harg5.unread x4)) = x4 := by
    rw [View.readAt_eq_ld, Memref.IsWhole.read_unread]; exact View.ld_unit_lit _ _ (by intro a; fin_cases a <;> rfl)
  have e5 : (View.readAt (Elt F) arg6.view (Rect.unit (s := S1x768) ![0, 0] S1x768.size inb_S1x768_S1x768_0_0).toLoadRect (harg6.unread x5)) = x5 := by
    rw [View.readAt_eq_ld, Memref.IsWhole.read_unread]; exact View.ld_unit_lit _ _ (by intro a; fin_cases a <;> rfl)
  have e6 : (View.readAt (Elt F) arg8.view (Rect.unit (s := S128x256) ![0, 0] S128x256.size inb_S128x256_S128x256_0_0).toLoadRect (harg8.unread h8)) = h8 := by
    rw [View.readAt_eq_ld, Memref.IsWhole.read_unread]; exact View.ld_unit_lit _ _ (by intro a; fin_cases a <;> rfl)
  have e7 : (View.readAt (Elt F) arg9.view (Rect.unit (s := S128x256) ![0, 0] S128x256.size inb_S128x256_S128x256_0_0).toLoadRect (harg9.unread h9)) = h9 := by
    rw [View.readAt_eq_ld, Memref.IsWhole.read_unread]; exact View.ld_unit_lit _ _ (by intro a; fin_cases a <;> rfl)
  have hF := recSeq_congr e0 e2 e4 e6
  have hG := recSeq_congr e1 e3 e5 e7
  refine ⟨fun r s j => ?_, ?_, ?_⟩
  · rw [recRunLater_out_raw, hF, hG]
    refine (read_recPieces _ _ _ _ _ _ 8 (le_refl 8) s j).trans ?_
    rw [Memref.IsWhole.read_unread]
  · rw [recRunLater_fwd_raw, hF]; exact read_state _ _ _ _
  · rw [recRunLater_bwd_raw, hG]; exact read_state _ _ _ _

end Cert.KernelIdeal.Run
-- ==== Proof.KernelIdealRegion1.lean ====
module

public import proofs.«01_k».proof.Proof.KernelIdealRegion1Pieces
public import proofs.«01_k».proof.Proof.Gen.KernelIdeal.Launch
public import Idealize.ShloMosaic.Lib.Pipeline.ValueKit.Basic
public import Idealize.ShloMosaic.Lib.Pipeline.DatRel
public import Idealize.ShloMosaic.Lib.Pipeline.ArrRel
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open Idealize.ShloMosaic.Pipeline (RDat BodyObligationRel)

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The hidden states over the whole region -/

/-- The grid point at which step `n` is taken. -/
def pt (n : ℕ) : Fin cfg1.N := ⟨n / 8 % 8, (Nat.mod_lt _ (by decide) : n / 8 % 8 < 8)⟩

/-- The eight steps from step `8 t` are taken at point `t`. -/
theorem pt_eq (t : Fin cfg1.N) {k : ℕ} (hk : k < 8) : pt (8 * t.val + k) = t :=
  Fin.ext (by have ht : t.val < 8 := t.isLt
              show (8 * t.val + k) / 8 % 8 = t.val; omega)

/-- The forward hidden state after `n` steps. -/
def HF (c : Dev nD) : ℕ → Vec F S128x256 .f32
  | 0 => k1_pay5
  | n + 1 => k1_pay7 (HF c n) (rowOf (iblk1 V c 0 (pt n)) n) (iblk1 V c 2 (pt n)) (iblk1 V c 4 (pt n))

/-- The backward hidden state after `n` steps. -/
def HB (c : Dev nD) : ℕ → Vec F S128x256 .f32
  | 0 => k1_pay6
  | n + 1 => k1_pay7 (HB c n) (rowOf (iblk1 V c 1 (pt n)) (7 - n % 8)) (iblk1 V c 3 (pt n)) (iblk1 V c 5 (pt n))

/-- The row is read at its number modulo eight. -/
theorem rowOf_mod (x : Vec F S8x128x768 .bf16) {n n' : ℕ} (h : n % 8 = n' % 8) : rowOf x n = rowOf x n' := by
  have hgen : ∀ (a b : ℕ) (e : a = b) (ha : ∀ i, (![a, 0, 0] : Fin 3 → ℕ) i + S1x128x768.size i ≤ S8x128x768.size i)
      (hb : ∀ i, (![b, 0, 0] : Fin 3 → ℕ) i + S1x128x768.size i ≤ S8x128x768.size i),
      View.ld x (Rect.unit (s := S8x128x768) ![a, 0, 0] S1x128x768.size ha) = View.ld x (Rect.unit (s := S8x128x768) ![b, 0, 0] S1x128x768.size hb) := by
    intro a b e ha hb; subst e; rfl
  exact hgen _ _ h _ _

/-- The eight forward steps of point `t` go on from the state that `8 t` steps left. -/
theorem recSeq_HF (c : Dev nD) (t : Fin cfg1.N) : ∀ k ≤ 8,
    recSeq (rowOf (iblk1 V c 0 t)) (iblk1 V c 2 t) (iblk1 V c 4 t) (HF V c (8 * t.val)) k = HF V c (8 * t.val + k)
  | 0, _ => rfl
  | k + 1, hk => by
    have hp := pt_eq t (k := k) (by omega)
    show k1_pay7 (recSeq _ _ _ _ k) _ _ _ = k1_pay7 (HF V c (8 * t.val + k)) (rowOf (iblk1 V c 0 (pt (8 * t.val + k))) (8 * t.val + k)) (iblk1 V c 2 (pt (8 * t.val + k))) (iblk1 V c 4 (pt (8 * t.val + k)))
    rw [recSeq_HF c t k (by omega), hp, rowOf_mod (n := 8 * t.val + k) (n' := k) _ (by omega)]

/-- The eight backward steps of point `t` go on from the state that `8 t` steps left. -/
theorem recSeq_HB (c : Dev nD) (t : Fin cfg1.N) : ∀ k ≤ 8,
    recSeq (fun n => rowOf (iblk1 V c 1 t) (7 - n % 8)) (iblk1 V c 3 t) (iblk1 V c 5 t) (HB V c (8 * t.val)) k = HB V c (8 * t.val + k)
  | 0, _ => rfl
  | k + 1, hk => by
    have hp := pt_eq t (k := k) (by omega)
    show k1_pay7 (recSeq _ _ _ _ k) _ _ _ = k1_pay7 (HB V c (8 * t.val + k)) (rowOf (iblk1 V c 1 (pt (8 * t.val + k))) (7 - (8 * t.val + k) % 8)) (iblk1 V c 3 (pt (8 * t.val + k))) (iblk1 V c 5 (pt (8 * t.val + k)))
    rw [recSeq_HB c t k (by omega), hp, show (8 * t.val + k) % 8 = k % 8 by omega]

/-- What the output array holds in the end at time `r`, sequence `s`, column `j`: the forward state after time `r`, then the backward one. -/
def outAt (c : Dev nD) (r : Fin 64) (s : Fin 128) (j : Fin 512) : Elt F .f32 :=
  if hj : j.val < 256 then HF V c (r.val + 1) (ix2 s ⟨j.val, hj⟩) else HB V c (64 - r.val) (ix2 s ⟨j.val - 256, by omega⟩)

/-- The same as an array. -/
def outFinal (c : Dev nD) : Vec F S64x128x512 .f32 := fun y => outAt V c (y 0) (y 1) (y 2)

/-- What is known of the output block after point `n`: the rows written so far hold their final contents. -/
def OutRel (c : Dev nD) (n : ℕ) (X : Vec F S64x128x512 .f32) : Prop :=
  ∀ (r : Fin 64) (s : Fin 128) (j : Fin 512),
    (j.val < 256 → r.val < 8 * (n + 1) → X (ix3 r s j) = outAt V c r s j)
      ∧ (256 ≤ j.val → 56 ≤ r.val + 8 * n → X (ix3 r s j) = outAt V c r s j)

/-- One point's stores carry what is known of the output block over to the next. -/
theorem OutRel_step (c : Dev nD) (t : Fin cfg1.N) (d X : Vec F S64x128x512 .f32) (hd : 0 < t.val → OutRel V c (t.val - 1) d)
    (hX : ∀ (r : Fin 64) (s : Fin 128) (j : Fin 512), X (ix3 r s j)
      = readRec t.val (recSeq (rowOf (iblk1 V c 0 t)) (iblk1 V c 2 t) (iblk1 V c 4 t) (HF V c (8 * t.val)))
          (recSeq (fun n => rowOf (iblk1 V c 1 t) (7 - n % 8)) (iblk1 V c 3 t) (iblk1 V c 5 t) (HB V c (8 * t.val))) d 8 r s j) :
    OutRel V c t.val X := by
  intro r s j
  have ht : t.val < 8 := t.isLt
  have hr := r.isLt
  refine ⟨fun hj hrt => ?_, fun hj hrt => ?_⟩
  · rw [hX]; unfold readRec; rw [dif_pos hj]
    by_cases h : 8 * t.val ≤ r.val ∧ r.val < 8 * t.val + 8
    · rw [if_pos h, recSeq_HF V c t _ (by omega), show 8 * t.val + (r.val - 8 * t.val + 1) = r.val + 1 by omega]
      unfold outAt; rw [dif_pos hj]
    · rw [if_neg h]
      exact ((hd (by omega)) r s j).1 hj (by omega)
  · have hj' : ¬ j.val < 256 := by omega
    rw [hX]; unfold readRec; rw [dif_neg hj']
    by_cases h : r.val + 8 * t.val ≤ 63 ∧ 63 < r.val + 8 * t.val + 8
    · rw [if_pos h, recSeq_HB V c t _ (by omega), show 8 * t.val + (64 - 8 * t.val - r.val) = 64 - r.val by omega]
      unfold outAt; rw [dif_neg hj']
    · rw [if_neg h]
      exact ((hd (by omega)) r s j).2 hj (by omega)

/-- After the last point the whole block is known. -/
theorem OutRel_last (c : Dev nD) (X : Vec F S64x128x512 .f32) (h : OutRel V c 7 X) : X = outFinal V c := by
  funext y
  obtain ⟨r, s, j, rfl⟩ : ∃ (r : Fin 64) (s : Fin 128) (j : Fin 512), y = ix3 r s j := ⟨y 0, y 1, y 2, eq_ix3 y⟩
  show X (ix3 r s j) = outAt V c r s j
  have hr := r.isLt
  by_cases hj : j.val < 256
  · exact (h r s j).1 hj (by omega)
  · exact (h r s j).2 (by omega) (by omega)

/-! ## The memrefs the body is called on -/

/-- Each window's buffer at point `t`, and that it is a whole buffer. -/
abbrev ms1_0 (t : Fin cfg1.N) : Memref sig .tc .vmem S8x128x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x768 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x768 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x768 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x128x512 .f32 := win1_6.stage (cfg1.slots t 6)
abbrev hs1_6 (t : Fin cfg1.N) : (ms1_6 t).IsWhole := hstage1_6 ((cfg1.slots t 6).cast nbuf1_6)
/-- The two hidden states' buffers. -/
abbrev scM1_0 : Memref sig .tc .vmem S128x256 .f32 := Memref.whole cc1_scratch0
abbrev scM1_1 : Memref sig .tc .vmem S128x256 .f32 := Memref.whole cc1_scratch1

/-- The staging buffers of the first region, at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f) ∗ (∃ f : Buf (Elt F) ((c : Thread nD τ).loc cc0_stg15_1), ((c : Thread nD τ).loc cc0_stg15_1) ↦{fullShare} f))

/-- The invariant at entry holds the first region's staging buffers and the two hidden states' buffers at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f) ∗ (∃ f : Buf (Elt F) ((c : Thread nD τ).loc cc0_stg15_1), ((c : Thread nD τ).loc cc0_stg15_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The entry invariant, its parts named. -/
theorem PhiA1_open (c : Dev nD) :
    (Pipeline.ΦA spec1 c : sProp 𝕄)
      ⊢ iprop(others1 c ∗ (∃ d, owns (c : Thread nD τ) scM1_0 fullShare d) ∗ (∃ d, owns (c : Thread nD τ) scM1_1 fullShare d) ∗ (∃ r, prngReg c r)) := by
  rw [PhiA1_eq]; unfold others1
  iintro ⟨⟨HR0, HR1, HR2, HR3, HR4, HR5, HR6, HR7, HR8, HR9, HR10, HR11, HR12, HR13, HR14, HR15, HR16, HR17, HR18, HR19, HR20, HR21, HS0, HS1⟩, Hg⟩
  isplitl [HR0 HR1 HR2 HR3 HR4 HR5 HR6 HR7 HR8 HR9 HR10 HR11 HR12 HR13 HR14 HR15 HR16 HR17 HR18 HR19 HR20 HR21]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    iexact HR21
  isplitl [HS0]; · iexact HS0
  isplitl [HS1]; · iexact HS1
  iexact Hg

/-- And put together again. -/
theorem PhiA1_close (c : Dev nD) :
    iprop(others1 c ∗ (∃ d, owns (c : Thread nD τ) scM1_0 fullShare d) ∗ (∃ d, owns (c : Thread nD τ) scM1_1 fullShare d) ∗ (∃ r, prngReg c r))
      ⊢ (Pipeline.ΦA spec1 c : sProp 𝕄) := by
  rw [PhiA1_eq]; unfold others1
  iintro ⟨⟨HR0, HR1, HR2, HR3, HR4, HR5, HR6, HR7, HR8, HR9, HR10, HR11, HR12, HR13, HR14, HR15, HR16, HR17, HR18, HR19, HR20, HR21⟩, HS0, HS1, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    isplitl [HR21]; · iexact HR21
    isplitl [HS0]; · iexact HS0
    iexact HS1
  iexact Hg

/-! ## The pipeline's proof data -/

/-- The invariant after at least one point: `8 n` steps are done. -/
def PhiLater (c : Dev nD) (n : ℕ) : sProp 𝕄 :=
  iprop(others1 c ∗ owns (c : Thread nD τ) scM1_0 fullShare (HF V c (8 * n)) ∗ owns (c : Thread nD τ) scM1_1 fullShare (HB V c (8 * n)) ∗ (∃ r, prngReg c r))

/-- The invariant at point `n`. -/
def Phi1 (c : Dev nD) : ℕ → sProp 𝕄
  | 0 => Pipeline.ΦA spec1 c
  | n + 1 => PhiLater V c (n + 1)

/-- The exact part of the proof data: the inputs' buffers at their blocks, the output array at `outFinal`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outFinal V c
  Φ t := Phi1 V c t.val
  q w := Pipeline.shareOf spec1 w
  owed _ := 0

/-- The output window is the one of which only a relation is kept. -/
def fgt1 (w : Fin cfg1.W) : Bool := match w with
  | ⟨6, _⟩ => true
  | _ => false

/-- The relation kept of the output window. -/
def Rl1 (c : Dev nD) : (w : Fin cfg1.W) → Fin cfg1.N → ((cfg1.win w).block.Idx → Elt F (cfg1.win w).elt) → Prop
  | ⟨6, _⟩, t, X => OutRel V c t.val X
  | _, _, _ => True

/-- The relational proof data of the region. -/
def rdat1 (c : Dev nD) : RDat τ (Elt F) Unit ℕ (UR sig nD τ) ℕ cfg1 c := (dat1 V c).toRRel fgt1 (Rl1 V c)

/-- The arrays are as the region finds them. -/
theorem A_eq1 (c : Dev nD) (w : Fin cfg1.W) : (dat1 V c).A w = V c (Pipeline.arrRef spec1 w) := by
  dsimp only [dat1]

/-- The body leaves each input window at its block. -/
theorem after1_in (c : Dev nD) (t : Fin cfg1.N) : (dat1 V c).after 0 t = iblk1 V c 0 t ∧ (dat1 V c).after 1 t = iblk1 V c 1 t
    ∧ (dat1 V c).after 2 t = iblk1 V c 2 t ∧ (dat1 V c).after 3 t = iblk1 V c 3 t ∧ (dat1 V c).after 4 t = iblk1 V c 4 t
    ∧ (dat1 V c).after 5 t = iblk1 V c 5 t := by
  refine ⟨?_, ?_, ?_, ?_, ?_, ?_⟩ <;> dsimp only [dat1]

/-- The exact data name `outFinal` for the output window. -/
theorem after1_6 (c : Dev nD) (t : Fin cfg1.N) : (dat1 V c).after 6 t = outFinal V c := by dsimp only [dat1]

/-- Every other window is an input. -/
theorem inputs1 : ∀ w : Fin cfg1.W, w ≠ 6 → (cfg1.win w).isOut = false := by decide

/-- What the body leaves in an input window is what a fetch would put there. -/
theorem keeps1 (c : Dev nD) (t : Fin cfg1.N) : ∀ w : Fin cfg1.W, w ≠ 6 →
    (cfg1.win w).cut (cfg1.grid.coords t) ((dat1 V c).after w t) = (dat1 V c).blockOf w t := by
  intro w hw
  fin_cases w
  case «6» => exact absurd rfl hw
  all_goals (dsimp only [dat1]; rfl)

/-- So an input window's buffer is found at every point as the body leaves it, whether the block is fetched there or not. -/
theorem found1 (c : Dev nD) (t : Fin cfg1.N) (w : Fin cfg1.W) (hw : w ≠ 6) (d) : (dat1 V c).before w t d = (dat1 V c).after w t := by
  rw [(dat1 V c).before_in_eq_fetched w (inputs1 w hw) (fun _ => rfl) (fun t t' _ => by fin_cases w <;> rfl) (fun t => keeps1 V c t w hw) t d]
  fin_cases w
  case «6» => exact absurd rfl hw
  all_goals (dsimp only [dat1]; rfl)

/-! ## The body obligation, at a generic point -/

/-- The grid has one axis. -/
theorem coord1 : ∀ t : Fin grid1.N, (grid1.coords t 0).val = t.val := by decide +kernel

/-- The body's test for the first point. -/
theorem first_iff : ∀ t : Fin grid1.N,
    (Scalar.cmpi .ne (Scalar.extui (Scalar.cmpi .eq (BitVec.ofNat 32 (grid1.coords t 0).val) 0#32) : BitVec 32) 0#32 = 1#1) ↔ t.val = 0 := by
  decide +kernel

/-- The output window is never fetched. -/
theorem fetch1_6 (t : Fin cfg1.N) : (cfg1.win 6).fetch t = false := (cfg1.win 6).fetch_out rfl t

/-- After the first point the output buffer is found as the point before left it. -/
theorem found1_6 (c : Dev nD) (t : Fin cfg1.N) (Y : Vec F S64x128x512 .f32) (h : (rdat1 V c).Finds 6 t Y) (ht : 0 < t.val) :
    OutRel V c (t.val - 1) Y := by
  have h8 : t.val < 8 := t.isLt
  rcases ((rdat1 V c).finds_of_pos (fetch1_6 t) (by omega) Y).mp h with hf | hl
  · have := (flush1_6 _).mp hf
    exact absurd this (by show ¬ (t.val - 1) % 8 = 7; omega)
  · exact (dat1 V c).toRRel_leaves (fgt := fgt1) (Rl := Rl1 V c) (w := 6) rfl hl

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ Y, ⌜(rdat1 V c).Finds 6 t Y⌝ ∗ owns (c : Thread nD τ) (ms1_6 t) fullShare Y))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ (∃ X, ⌜OutRel V c t.val X⌝ ∗ owns (c : Thread nD τ) (ms1_6 t) fullShare X))

set_option maxHeartbeats 1000000 in
/-- The body at the first point. -/
theorem sound_first (c : Dev nD) (t : Fin cfg1.N) (ht : t.val = 0) :
    bodyPre1 V c t ⊢ wp frame (wpE (defs₀ (F := F)) Variants.none c none) Set.univ (bodyAt1 t) (fun _ => bodyPost1 V c t) := by
  unfold bodyPre1 bodyPost1 bodyAt1
  simp (discharger := decide) only [found1]
  obtain ⟨e0, e1, e2, e3, e4, e5⟩ := after1_in V c t
  rw [show (dat1 V c).Φ t.succ = PhiLater V c (t.val + 1) from rfl,
    show (dat1 V c).owesAt () t.succ = (dat1 V c).owesAt () t.castSucc from rfl,
    e0, e1, e2, e3, e4, e5]
  have hΦ : (dat1 V c).Φ t.castSucc ⊢ iprop(others1 c ∗ (∃ d, owns (c : Thread nD τ) scM1_0 fullShare d) ∗ (∃ d, owns (c : Thread nD τ) scM1_1 fullShare d) ∗ (∃ r, prngReg c r)) := by
    show Phi1 V c t.val ⊢ _
    rw [ht]; exact PhiA1_open c
  iintro ⟨HΦ, Ho, ⟨%d0, H0⟩, ⟨%d1, H1⟩, ⟨%d2, H2⟩, ⟨%d3, H3⟩, ⟨%d4, H4⟩, ⟨%d5, H5⟩, ⟨%Y, %hY, H6⟩⟩
  ihave HΦ' := hΦ $$ HΦ
  icases HΦ' with ⟨HO, HS0, HS1, Hg⟩
  iapply ((recRunFirst c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((first_iff t).mpr ht) (iblk1 V c 0 t) (iblk1 V c 1 t) (iblk1 V c 2 t) (iblk1 V c 3 t) (iblk1 V c 4 t) (iblk1 V c 5 t) Y).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, ⟨%f8, HS0⟩, ⟨%f9, HS1⟩⟩
  have hreads := recRunFirst_reads c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((first_iff t).mpr ht) (iblk1 V c 0 t) (iblk1 V c 1 t) (iblk1 V c 2 t) (iblk1 V c 3 t) (iblk1 V c 4 t) (iblk1 V c 5 t) Y f8 f9
  obtain ⟨hout, hfwd, hbwd⟩ := hreads
  isplitl [HO HS0 HS1 Hg]
  · unfold PhiLater
    isplitl [HO]; · iexact HO
    isplitl [HS0]
    · unfold owns; iexists _; isplitr
      swap; · iexact HS0
      ipureintro
      refine hfwd.trans ?_
      exact (congrArg (fun z => recSeq (rowOf (iblk1 V c 0 t)) (iblk1 V c 2 t) (iblk1 V c 4 t) (HF V c z) 8) (show 0 = 8 * t.val by omega)).trans (recSeq_HF V c t 8 (Nat.le_refl 8))
    isplitl [HS1]
    · unfold owns; iexists _; isplitr
      swap; · iexact HS1
      ipureintro
      refine hbwd.trans ?_
      exact (congrArg (fun z => recSeq (fun n => rowOf (iblk1 V c 1 t) (7 - n % 8)) (iblk1 V c 3 t) (iblk1 V c 5 t) (HB V c z) 8) (show 0 = 8 * t.val by omega)).trans (recSeq_HB V c t 8 (Nat.le_refl 8))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _
  isplitr
  swap
  · unfold owns; iexists _; isplitr
    swap; · iexact H6
    ipureintro; rfl
  ipureintro
  refine OutRel_step V c t Y _ (fun h => absurd ht (by omega)) fun r s j => ?_
  refine (hout r s j).trans ?_
  rw [coord1, show 8 * t.val = 0 by omega]; rfl

set_option maxHeartbeats 1000000 in
/-- The body at a later point. -/
theorem sound_later (c : Dev nD) (t : Fin cfg1.N) (ht : 0 < t.val) :
    bodyPre1 V c t ⊢ wp frame (wpE (defs₀ (F := F)) Variants.none c none) Set.univ (bodyAt1 t) (fun _ => bodyPost1 V c t) := by
  unfold bodyPre1 bodyPost1 bodyAt1
  simp (discharger := decide) only [found1]
  obtain ⟨e0, e1, e2, e3, e4, e5⟩ := after1_in V c t
  rw [show (dat1 V c).Φ t.succ = PhiLater V c (t.val + 1) from rfl,
    show (dat1 V c).owesAt () t.succ = (dat1 V c).owesAt () t.castSucc from rfl,
    e0, e1, e2, e3, e4, e5]
  have hΦ : (dat1 V c).Φ t.castSucc = PhiLater V c t.val := by
    show Phi1 V c t.val = _
    obtain ⟨k, hk⟩ : ∃ k, t.val = k + 1 := ⟨t.val - 1, by omega⟩
    rw [hk]; rfl
  rw [hΦ]; unfold PhiLater
  iintro ⟨⟨HO, HS0, HS1, Hg⟩, Ho, ⟨%d0, H0⟩, ⟨%d1, H1⟩, ⟨%d2, H2⟩, ⟨%d3, H3⟩, ⟨%d4, H4⟩, ⟨%d5, H5⟩, ⟨%Y, %hY, H6⟩⟩
  iapply ((recRunLater c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => absurd ((first_iff t).mp h) (by omega)) (iblk1 V c 0 t) (iblk1 V c 1 t) (iblk1 V c 2 t) (iblk1 V c 3 t) (iblk1 V c 4 t) (iblk1 V c 5 t) Y (HF V c (8 * t.val)) (HB V c (8 * t.val))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, ⟨%f8, HS0⟩, ⟨%f9, HS1⟩⟩
  have hreads := recRunLater_reads c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => absurd ((first_iff t).mp h) (by omega)) (iblk1 V c 0 t) (iblk1 V c 1 t) (iblk1 V c 2 t) (iblk1 V c 3 t) (iblk1 V c 4 t) (iblk1 V c 5 t) Y (HF V c (8 * t.val)) (HB V c (8 * t.val)) f8 f9
  obtain ⟨hout, hfwd, hbwd⟩ := hreads
  isplitl [HO HS0 HS1 Hg]
  · isplitl [HO]; · iexact HO
    isplitl [HS0]
    · unfold owns; iexists _; isplitr
      swap; · iexact HS0
      ipureintro
      refine hfwd.trans ?_
      exact recSeq_HF V c t 8 (Nat.le_refl 8)
    isplitl [HS1]
    · unfold owns; iexists _; isplitr
      swap; · iexact HS1
      ipureintro
      refine hbwd.trans ?_
      exact recSeq_HB V c t 8 (Nat.le_refl 8)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _
  isplitr
  swap
  · unfold owns; iexists _; isplitr
    swap; · iexact H6
    ipureintro; rfl
  ipureintro
  refine OutRel_step V c t Y _ (fun h => found1_6 V c t Y hY h) fun r s j => ?_
  refine (hout r s j).trans ?_
  rw [coord1]

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation at every point. -/
theorem body_obligation1 (c : Dev nD) :
    BodyObligationRel (dat1 (F := F) V c) (defs₀ (F := F)) Variants.none () Set.univ fgt1 (Rl1 V c) := fun t => by
  rw [bigSep_W1, bigSep_W1, defs₀_row1]
  rcases Nat.eq_zero_or_pos t.val with h | h
  · exact triple_restated (sound_first V c t h) rfl .rfl fun _ => .rfl
  · exact triple_restated (sound_later V c t h) rfl .rfl fun _ => .rfl

/-! ## What the arrays hold at the end -/

/-- The output block is the whole array, written back once, after the last point. -/
theorem whole1_6 : (cfg1.win 6).WholeAt (⟨7, by decide⟩ : Fin cfg1.N) := by decide +kernel

set_option maxHeartbeats 1000000 in
/-- At the end each array holds what the exact data name. -/
theorem arr_final1 (c : Dev nD) (w : Fin cfg1.W) (G : Buf (Elt F) ((cfg1.win w).arr.view.loc (c.tc : Thread nD τ)))
    (h : (rdat1 V c).ArrAt w cfg1.N G) : G = (dat1 V c).arrAt w cfg1.N := by
  by_cases hw : w = 6
  · subst hw
    obtain ⟨X, hX, hA⟩ := RDat.ArrAt.exists_exact h
    refine hA (dat1 V c).after fun u hu hf => ?_
    have h1 : OutRel V c u.val (X u) := (dat1 V c).toRRel_leaves (fgt := fgt1) (Rl := Rl1 V c) (w := 6) rfl (hX u hu hf)
    have h7 : u.val = 7 := by have h8 : u.val < 8 := u.isLt; have := (flush1_6 u).mp hf; omega
    rw [h7] at h1
    exact (after1_6 V c u).trans (OutRel_last V c _ h1).symm
  · have hin := inputs1 w hw
    have h' := h
    rw [(rdat1 V c).ArrAt_in w hin] at h'
    rw [(dat1 V c).arrAt_in w hin]
    exact h'

/-- At the end the arrays are held at what the exact data name. -/
theorem arraysAt_final1 (c : Dev nD) :
    ((rdat1 V c).arraysAt cfg1.N : sProp 𝕄) ⊢ (dat1 V c).arrays ((dat1 V c).arrAt · cfg1.N) := by
  unfold RDat.arraysAt Dat.arrays
  refine Idealize.SL.BI.bigSep_mono fun w _ => ?_
  show (iprop(∃ G, ⌜(rdat1 V c).ArrAt w cfg1.N G⌝ ∗ (cfg1.win w).arr.view.loc (c.tc : Thread nD τ)
      ↦[(cfg1.win w).arr.view.set]{(dat1 V c).share w} G) : sProp 𝕄) ⊢ ((cfg1.win w).arr.view.loc (c.tc : Thread nD τ)
      ↦[(cfg1.win w).arr.view.set]{(dat1 V c).share w} (dat1 V c).arrAt w cfg1.N)
  iintro ⟨%G, %hG, H⟩
  rw [← arr_final1 V c w G hG]
  iexact H

/-- The output array ends at `outFinal`. -/
theorem arr_value1 (c : Dev nD) : (dat1 V c).arrAt 6 cfg1.N = outFinal V c := by
  refine (dat1 V c).arrAt_eq_of_after_last 6 (⟨7, by decide⟩ : Fin cfg1.N) whole1_6 (outFinal V c) ?_
  intro j
  rw [after1_6]
  rfl

/-- The invariant at the end. -/
theorem Phi1_last (c : Dev nD) : (Phi1 V c 8 : sProp 𝕄) ⊢ Pipeline.ΦA spec1 c := by
  refine .trans ?_ (PhiA1_close c)
  show PhiLater V c 8 ⊢ _
  unfold PhiLater
  iintro ⟨HO, HS0, HS1, Hg⟩
  isplitl [HO]; · iexact HO
  isplitl [HS0]; · iexists _; iexact HS0
  isplitl [HS1]; · iexists _; iexact HS1
  iexact Hg

end Regions

end Cert.KernelIdeal.Run
-- ==== Proof.KernelIdealRun.lean ====
module

public import proofs.«01_k».proof.Proof.KernelIdealRegion0
public import proofs.«01_k».proof.Proof.KernelIdealRegion1
public import proofs.«01_k».proof.Proof.Gen.KernelIdeal.Regions
public import proofs.«01_k».proof.Proof.Gen.KernelIdeal.Launch
public import Idealize.ShloMosaic.Lib.Pipeline.ValueKit.Basic
public import Idealize.ShloMosaic.Lib.Pipeline.DatRel
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-! ## The host stretches write none of the arguments -/

/-- `hostOps0` writes none of the argument arrays (checked: each argument against each reference it writes). -/
theorem hostOps0_args : ∀ a ∈ argRefs, a ∉ hostOps0_W := ListAll.forall_mem_of_all_decide (by decide +kernel)

/-- `hostOps0_1` writes none of the argument arrays (checked: each argument against each reference it writes). -/
theorem hostOps0_1_args : ∀ a ∈ argRefs, a ∉ hostOps0_1_W := ListAll.forall_mem_of_all_decide (by decide +kernel)

/-- `hostOps0_2` writes none of the argument arrays (checked: each argument against each reference it writes). -/
theorem hostOps0_2_args : ∀ a ∈ argRefs, a ∉ hostOps0_2_W := ListAll.forall_mem_of_all_decide (by decide +kernel)

/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)

/-- At launch each argument is as launched. -/
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the first host stretch each argument is as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- After the second host stretch each argument is as launched. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- After the third host stretch each argument is as launched. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered. -/
def W4 (c : Dev nD) : Valuation τ sig (Elt F) :=
  Pipeline.withArrays spec0 c (W3 m ρ c) fun w => (dat0 (V3 m ρ) c).arrAt w cfg0.N

/-- Each of region 0's arrays is left at what its pipeline leaves. -/
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w

/-- A buffer that is none of region 0's arrays keeps its contents across it. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)

/-- After region 0 each argument is as launched. -/
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm

/-- What is none of region 0's arrays is as before it. -/
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

/-- After the host stretch between the regions each argument is as launched. -/
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered. -/
def W6 (c : Dev nD) : Valuation τ sig (Elt F) :=
  Pipeline.withArrays spec1 c (W5 m ρ c) fun w => (dat1 (V5 m ρ) c).arrAt w cfg1.N

/-- Each of region 1's arrays is left at what its pipeline leaves. -/
theorem W6_arr (c : Dev nD) (w : Fin cfg1.W) :
    W6 m ρ c (Proc.devRef .tc (Pipeline.arrRef spec1 w)) = (dat1 (V5 m ρ) c).arrAt w cfg1.N := by
  unfold W6; exact (dat1 (V5 m ρ) c).withArrays_arrAt launch₀1.sharedIn _ (A_eq1 (V5 m ρ) c) w

/-- A buffer that is none of region 1's arrays keeps its contents across it. -/
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)

/-- After region 1 each argument is as launched. -/
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V5 m ρ) c).arrAt w cfg1.N = V6 m ρ c (Pipeline.arrRef spec1 w) :=
  (W6_arr m ρ c w).symm

/-- What is none of region 1's arrays is as before it. -/
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- The result at the end: the hidden states of both directions. -/
theorem W6_result (c : Dev nD) : W6 m ρ c (Proc.devRef .tc main_v33) = outFinal (V5 m ρ) c := by
  refine (W6_arr m ρ c 6).trans ?_
  exact arr_value1 (V5 m ρ) c

/-! ## The proof data family and the thread state -/

/-- The prefetched tables' admissible contents: no pipeline has a table. -/
abbrev adm : (p : Fin 2) → (pcfgs (F := F) p).Adm := fun p => (cfgs p).toPCfg_adm
/-- The exact part of every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
/-- The proof data: the first region's are exact, the second's keep a relation of the output window. -/
def rdats : (p : Fin 2) → (c : Dev nD) → Pipeline.RDat τ (Elt F) Unit ℕ (UR sig nD τ) ℕ (Pipeline.pin (pcfgs (F := F)) adm p) c
  | ⟨0, _⟩ => fun c => (dat0 (V3 m ρ) c).toR
  | ⟨1, _⟩ => fun c => rdat1 (V5 m ρ) c

/-- No variant of a body is declared. -/
abbrev 𝒱₀ : Variants := Variants.none
/-- No core owes another anything: no level is assigned. -/
abbrev L : GSem nD τ sig → Finset Unit := fun _ => ∅

/-- No level is assigned. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose.toR
  hwaits := Pipeline.RDat.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    replace hsplit : _ ⊢ iprop((rdats m ρ 0 c).arrays (rdats m ρ 0 c).A
      ∗ Pipeline.unscopedRest (Ix := Unit) (Name := ℕ) (U := UR sig nD τ) (Lvl := ℕ) spec0 c (V3 m ρ c)) := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    replace hjoin : iprop((dat0 (V3 m ρ) c).arrays ((dat0 (V3 m ρ) c).arrAt · cfg0.N)
      ∗ Pipeline.unscopedRest (Ix := Unit) (Name := ℕ) (U := UR sig nD τ) (Lvl := ℕ) spec0 c (V3 m ρ c)) ⊢ _ := hjoin
    refine (sep_mono (Entails.of_eq ((dat0 (V3 m ρ) c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 (custom_call 1) over the thread state: entered from every unscoped buffer at `W5`, left at `W6`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RDat.RegionSeg (pcfgs (F := F)) adm (rdats m ρ) () defs₀ 𝒱₀ L lv 1 where
  win := launch₀1.win
  block_pos := launch₀1.block_pos
  stage_whole := launch₀1.stage_whole
  K := PEmpty
  osem k := k.elim
  ho := Pipeline.OwnSemFacts.none _
  hbody c := Pipeline.BodyObligationRel.toRRel (dat1 (V5 m ρ) c) (body_obligation1 (V5 m ρ) c)
  hwaits := Pipeline.RDat.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V5 m ρ c) (A_eq1 (V5 m ρ) c)
    rw [Pipeline.unscopedBufs_held] at hsplit
    replace hsplit : _ ⊢ iprop((rdats m ρ 1 c).arrays (rdats m ρ 1 c).A
      ∗ Pipeline.unscopedRest (Ix := Unit) (Name := ℕ) (U := UR sig nD τ) (Lvl := ℕ) spec1 c (V5 m ρ c)) := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_last (V5 m ρ) c).trans ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V5 m ρ c) (V6 m ρ c) ((pdats m ρ 1 c).arrAt · cfg1.N) (hF1 m ρ c) (hrest1 m ρ c)
    rw [Pipeline.unscopedBufs_held] at hjoin
    replace hjoin : iprop((dat1 (V5 m ρ) c).arrays ((dat1 (V5 m ρ) c).arrAt · cfg1.N)
      ∗ Pipeline.unscopedRest (Ix := Unit) (Name := ℕ) (U := UR sig nD τ) (Lvl := ℕ) spec1 c (V5 m ρ c)) ⊢ _ := hjoin
    refine (sep_mono (arraysAt_final1 (V5 m ρ) c) .rfl).trans ?_
    iintro ⟨Ha, HO, HY, Hrest⟩
    imodintro
    isplitl [Ha Hrest HY]
    · isplitl [Ha Hrest]
      · iapply hjoin; isplitl [Ha] <;> iassumption
      iexact HY
    unfold Pipeline.RDat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.RDat.Seg (pcfgs (F := F)) adm (rdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
/-- @main IS the run of the segments: `Gen.main_chain`, then the segments' run against that chain by the kernel's
    definitional check (`chain_rfl`). -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every run from zero counters terminates without fault; at the end every buffer holds its contents `W6` at the last boundary and
    every semaphore counter is zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W6 m ρ c b) ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- Whatever argument `a` is, it ends as launched. -/
theorem arg_kept (c : Dev nD) (s : MemSt nD τ sig (Elt F)) (h : ∀ b ∈ Pipeline.ucRefs τ sig, s.mem (((c : Thread nD τ)).1, b) = W6 m ρ c b)
    (a : Ref sig .tc) (ha : a ∈ argRefs) (hu : ¬ (Proc.devRef .tc a : DevRef τ sig).isScoped) :
    s.mem ((c.tc : Thread nD τ).loc a) = m ((c.tc : Thread nD τ).loc a) :=
  (h _ (mem_uc a hu)).trans (W6_args m ρ c a ha)

/-- The frame: every run terminates without fault, the arguments end as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c => ⟨arg_kept m ρ c r.2 (h.1 c) main_arg0 (by decide) (by decide), arg_kept m ρ c r.2 (h.1 c) main_arg1 (by decide) (by decide), arg_kept m ρ c r.2 (h.1 c) main_arg2 (by decide) (by decide), arg_kept m ρ c r.2 (h.1 c) main_arg3 (by decide) (by decide), arg_kept m ρ c r.2 (h.1 c) main_arg4 (by decide) (by decide), arg_kept m ρ c r.2 (h.1 c) main_arg5 (by decide) (by decide), arg_kept m ρ c r.2 (h.1 c) main_arg6 (by decide) (by decide), arg_kept m ρ c r.2 (h.1 c) main_arg7 (by decide) (by decide), arg_kept m ρ c r.2 (h.1 c) main_arg8 (by decide) (by decide), arg_kept m ρ c r.2 (h.1 c) main_arg9 (by decide) (by decide), arg_kept m ρ c r.2 (h.1 c) main_arg10 (by decide) (by decide), arg_kept m ρ c r.2 (h.1 c) main_arg11 (by decide) (by decide), arg_kept m ρ c r.2 (h.1 c) main_arg12 (by decide) (by decide), arg_kept m ρ c r.2 (h.1 c) main_arg13 (by decide) (by decide), arg_kept m ρ c r.2 (h.1 c) main_arg14 (by decide) (by decide), arg_kept m ρ c r.2 (h.1 c) main_arg15 (by decide) (by decide), arg_kept m ρ c r.2 (h.1 c) main_arg16 (by decide) (by decide), arg_kept m ρ c r.2 (h.1 c) main_arg17 (by decide) (by decide)⟩, h.2⟩) (run_all m ρ)

/-- With the frame, the result of every run is `outFinal` of the contents at the second region's entry. -/
theorem run_result : θ_run defs (onTc (τ := τ) (main (F := F))) ⟨m, fun _ => 0, ρ⟩ (fun r => ∀ c : Dev nD,
      r.2.mem ((c.tc : Thread nD τ).loc main_v33) = outFinal (V5 m ρ) c) :=
  (θ_run defs _ _).mono (fun r h => fun c => (h.1 c _ (mem_uc main_v33 (by decide))).trans (W6_result m ρ c)) (run_all m ρ)

end Cert.KernelIdeal.Run
-- ==== Proof.Spec.lean ====
/- The mathematics both programs are shown to compute, over the extended reals: the gated recurrent cell, the recurrence it drives,
   and the two recurrences of the problem. Vectors are functions of a number. -/
module

public import Idealize.ShloMosaic.Lib.Pointwise
public import Idealize.ShloMosaic.Lib.WordArith

@[expose] public section

noncomputable section

namespace Cert.Spec

open Idealize.ShloMosaic

/-- One unit of the gated cell from its three input gates (reset, update, candidate), its three hidden gates and its old state. -/
def gate (ir iz ic hr hz hc h : EReal) : EReal :=
  (1 - Ideal.logistic (iz + hz)) * Ideal.tanh (ic + Ideal.logistic (ir + hr) * hc) + Ideal.logistic (iz + hz) * h

/-- An affine form: the product of a row with a column, plus a bias. -/
def affine {n : ℕ} (x w : Fin n → EReal) (b : EReal) : EReal := (∑ k, x k * w k) + b

/-- The gated cell of `H` units: `gi` the three groups of input gates in one row, `W` and `b` the hidden weights (column by column)
    and biases of the three groups. -/
def cell {H G : ℕ} (hG : 3 * H = G) (W : Fin G → Fin H → EReal) (b gi : Fin G → EReal) (h : Fin H → EReal) (j : Fin H) : EReal :=
  gate (gi ⟨j, by omega⟩) (gi ⟨H + j, by omega⟩) (gi ⟨2 * H + j, by omega⟩)
    (affine h (W ⟨j, by omega⟩) (b ⟨j, by omega⟩)) (affine h (W ⟨H + j, by omega⟩) (b ⟨H + j, by omega⟩))
    (affine h (W ⟨2 * H + j, by omega⟩) (b ⟨2 * H + j, by omega⟩)) (h j)

/-- The hidden state after `n` cells from zero, the input gates of step `k` being `gi k`. -/
def hidden {H G : ℕ} (hG : 3 * H = G) (W : Fin G → Fin H → EReal) (b : Fin G → EReal) (gi : ℕ → Fin G → EReal) : ℕ → Fin H → EReal
  | 0 => fun _ => 0
  | n + 1 => cell hG W b (gi n) (hidden hG W b gi n)

/-- Input gates that agree before step `n` give the same hidden state after it. -/
theorem hidden_congr {H G : ℕ} (hG : 3 * H = G) (W : Fin G → Fin H → EReal) (b : Fin G → EReal) (gi gi' : ℕ → Fin G → EReal) (n : ℕ)
    (e : ∀ k < n, gi k = gi' k) : hidden hG W b gi n = hidden hG W b gi' n := by
  induction n with
  | zero => rfl
  | succ n ih => simp only [hidden]; rw [ih fun k hk => e k (by omega), e n (by omega)]

/-- The state of a word after `n` characters: the recurrence whose step `k` takes the embedding of character `v k`. -/
def charState (emb : Fin 128 → Fin 64 → EReal) (Wi : Fin 192 → Fin 64 → EReal) (bi : Fin 192 → EReal) (Wh : Fin 192 → Fin 64 → EReal)
    (bh : Fin 192 → EReal) (v : ℕ → Fin 128) (n : ℕ) : Fin 64 → EReal :=
  hidden (H := 64) (G := 192) rfl Wh bh (fun k g => affine (emb (v k)) (Wi g) (bi g)) n

/-- An input gate of a word: the products of its four features with the gate's weights, and the bias. -/
def wordGate (e we : Fin 1024 → EReal) (g wg : Fin 300 → EReal) (o wo : Fin 7 → EReal) (ch wc : Fin 64 → EReal) (b : EReal) : EReal :=
  ∑ k, e k * we k + ∑ k, g k * wg k + ∑ k, o k * wo k + ∑ k, ch k * wc k + b

/-- The eighteen argument arrays of the problem, the floats read as extended reals. -/
structure Args where
  chars : (⟨2, ![8192, 16]⟩ : Shape).Idx → BitVec 32
  lens : (⟨1, ![8192]⟩ : Shape).Idx → BitVec 32
  elmo : (⟨3, ![64, 128, 1024]⟩ : Shape).Idx → EReal
  glove : (⟨3, ![64, 128, 300]⟩ : Shape).Idx → EReal
  onehot : (⟨3, ![64, 128, 7]⟩ : Shape).Idx → EReal
  cemb : (⟨2, ![128, 64]⟩ : Shape).Idx → EReal
  cWih : (⟨2, ![192, 64]⟩ : Shape).Idx → EReal
  cWhh : (⟨2, ![192, 64]⟩ : Shape).Idx → EReal
  cbih : (⟨1, ![192]⟩ : Shape).Idx → EReal
  cbhh : (⟨1, ![192]⟩ : Shape).Idx → EReal
  fWih : (⟨2, ![768, 1395]⟩ : Shape).Idx → EReal
  fWhh : (⟨2, ![768, 256]⟩ : Shape).Idx → EReal
  fbih : (⟨1, ![768]⟩ : Shape).Idx → EReal
  fbhh : (⟨1, ![768]⟩ : Shape).Idx → EReal
  bWih : (⟨2, ![768, 1395]⟩ : Shape).Idx → EReal
  bWhh : (⟨2, ![768, 256]⟩ : Shape).Idx → EReal
  bbih : (⟨1, ![768]⟩ : Shape).Idx → EReal
  bbhh : (⟨1, ![768]⟩ : Shape).Idx → EReal

namespace Args

variable (A : Args)

/-- Every character is in the table. -/
def InTable : Prop := ∀ i, (A.chars i).toNat < 128

/-- The character at position `k` of word `i`. -/
def charOf (i : Fin 8192) (k : ℕ) : Fin 128 := ⟨(A.chars (ix2 i (⟨k % 16, Nat.mod_lt _ (by norm_num)⟩ : Fin 16))).toNat % 128, Nat.mod_lt _ (by norm_num)⟩

/-- The position of the last character of word `i`: its length less one, clipped to the word, as a word of 32 bits. -/
def lastWord (i : Fin 8192) : BitVec 32 := IntOp.minsi 15#32 (IntOp.maxsi 0#32 (IntOp.subi (A.lens (ix1 i)) 1#32))

/-- The position of the last character of word `i`. -/
def lastOf (i : Fin 8192) : ℕ := (A.lastWord i).toNat

/-- The position of the last character lies in the word. -/
theorem lastOf_lt (i : Fin 8192) : A.lastOf i < 16 := by
  unfold lastOf lastWord
  have h := WordArith.two_mul_toNat_maxsi_zero_lt (IntOp.subi (A.lens (ix1 i)) 1#32)
  rw [Scalar.maxsi] at h
  rw [WordArith.toNat_minsi_of_lt _ _ (by decide) (by omega)]
  exact Nat.lt_succ_of_le (Nat.min_le_left _ _)

/-- The position as a word of 32 bits is that of its number. -/
theorem lastWord_eq (i : Fin 8192) : A.lastWord i = BitVec.ofNat 32 (A.lastOf i) := by
  simp [lastOf]

/-- A character of the table, as a word of 32 bits, is that of its number. -/
theorem chars_eq (h : A.InTable) (i : Fin 8192) (k : Fin 16) : A.chars (ix2 i k) = BitVec.ofNat 32 (A.charOf i k.val) := by
  have hk : (⟨k.val % 16, Nat.mod_lt _ (by norm_num)⟩ : Fin 16) = k := Fin.ext (Nat.mod_eq_of_lt k.isLt)
  simp [charOf, hk, Nat.mod_eq_of_lt (h _)]

/-- The character features of word `i`: the state of the character recurrence after its last character. -/
def wordChars (i : Fin 8192) : Fin 64 → EReal :=
  charState (fun x k => A.cemb (ix2 x k)) (fun g k => A.cWih (ix2 g k)) (fun g => A.cbih (ix1 g)) (fun g k => A.cWhh (ix2 g k))
    (fun g => A.cbhh (ix1 g)) (A.charOf i) (A.lastOf i + 1)

/-- The number of word `s` of sentence position `t`. -/
def word (t : Fin 64) (s : Fin 128) : Fin 8192 := ⟨t.val * 128 + s.val, by omega⟩

/-- The input gate `g` of the word at `(t, s)` under input weights `W` and biases `b`. -/
def inputGate (W : (⟨2, ![768, 1395]⟩ : Shape).Idx → EReal) (b : (⟨1, ![768]⟩ : Shape).Idx → EReal) (t : Fin 64) (s : Fin 128) (g : Fin 768) : EReal :=
  wordGate (fun k => A.elmo (ix3 t s k)) (fun k => W (ix2 g (⟨k.val, by omega⟩ : Fin 1395)))
    (fun k => A.glove (ix3 t s k)) (fun k => W (ix2 g (⟨1024 + k.val, by omega⟩ : Fin 1395)))
    (fun k => A.onehot (ix3 t s k)) (fun k => W (ix2 g (⟨1388 + k.val, by omega⟩ : Fin 1395)))
    (A.wordChars (word t s)) (fun k => W (ix2 g (⟨1324 + k.val, by omega⟩ : Fin 1395))) (b (ix1 g))

/-- The forward recurrence of sentence `s` after `n` positions. -/
def forward (s : Fin 128) (n : ℕ) : Fin 256 → EReal :=
  hidden (H := 256) (G := 768) rfl (fun g k => A.fWhh (ix2 g k)) (fun g => A.fbhh (ix1 g))
    (fun n => A.inputGate A.fWih A.fbih ⟨n % 64, Nat.mod_lt _ (by norm_num)⟩ s) n

/-- The backward recurrence of sentence `s` after `n` positions, taken from the last one down. -/
def backward (s : Fin 128) (n : ℕ) : Fin 256 → EReal :=
  hidden (H := 256) (G := 768) rfl (fun g k => A.bWhh (ix2 g k)) (fun g => A.bbhh (ix1 g))
    (fun n => A.inputGate A.bWih A.bbih ⟨63 - n, by omega⟩ s) n

/-- What both programs compute at position `t` of sentence `s`: the forward state there beside the backward one. -/
def result (t : Fin 64) (s : Fin 128) (j : Fin 512) : EReal :=
  if h : j.val < 256 then A.forward s (t.val + 1) ⟨j.val, h⟩ else A.backward s (64 - t.val) ⟨j.val - 256, by omega⟩

end Args

end Cert.Spec

end
-- ==== Proof.KernelIdealPay.lean ====
/- The kernel's payloads at the extended reals, entry by entry: one step of each recurrence is the gated cell, the projection is a sum
   of four products and a bias. -/
module

public import proofs.«01_k».proof.Proof.Spec
public import proofs.«01_k».proof.Proof.Gen.KernelIdeal.Skeleton
public import Idealize.ShloMosaic.Lib.Pointwise

@[expose] public section

noncomputable section

namespace Cert.KernelIdeal.Val

open Idealize.ShloMosaic Cert.KernelIdeal Cert.KernelIdeal.Gen Cert.Spec

/-- One step of the word recurrence is the gated cell of 256 units. -/
theorem wordStep_apply (h : Vec Ideal S128x256 .f32) (x : Vec Ideal S1x128x768 .bf16) (W : Vec Ideal S256x768 .bf16)
    (b : Vec Ideal S1x768 .f32) (s : Fin 128) (j : Fin 256) :
    k1_pay7 h x W b (ix2 s j)
      = cell (H := 256) (G := 768) rfl (fun g k => W (ix2 k g)) (fun g => b (ix2 0 g)) (fun g => x (ix3 0 s g)) (fun k => h (ix2 s k)) j := by
  pointwise [k1_pay7, dot_S128x256_S256x768_S128x768_1_0_0_1_n_n]
  rfl

/-- The one-hot word of a comparison, as a float: one if it holds and zero if not. -/
theorem oneHot_word (p : Prop) [Decidable p] :
    (FloatOps.sitofp FTy.f32 (BitVec.setWidth 32 (BitVec.ofBool (decide p))) : Ideal .f32) = if p then 1 else 0 := by
  by_cases hp : p <;> simp [hp, FloatOps.sitofp]

/-- A one-hot row times a matrix is the row it names. -/
theorem sum_oneHot {n : ℕ} (p : Fin n → Prop) [DecidablePred p] (v : Fin n) (hv : ∀ x, p x ↔ x = v) (f : Fin n → EReal) :
    ∑ x, (if p x then (1 : EReal) else 0) * f x = f v := by
  simp [hv, ite_mul]

/-- Small numbers, as words read as floats, are told apart. -/
theorem sitofp_ofNat_inj {φ : FTy} {a b : ℕ} (ha : a < 2 ^ 31) (hb : b < 2 ^ 31) :
    FloatOps.sitofp (F := Ideal) φ (BitVec.ofNat 32 a) = FloatOps.sitofp φ (BitVec.ofNat 32 b) ↔ a = b := by
  constructor
  · intro e
    have e1 : (((BitVec.ofNat 32 a).toInt : ℝ) : EReal) = (((BitVec.ofNat 32 b).toInt : ℝ) : EReal) := e
    have e2 := BitVec.toInt_inj.mp (Int.cast_injective (EReal.coe_injective e1))
    have e3 := congrArg BitVec.toNat e2
    simp only [BitVec.toNat_ofNat] at e3
    omega
  · rintro rfl; rfl

/-- One step of the character recurrence, the word's character being `v`: the gated cell of 64 units whose input gates are row `v` of
    the projected table, plus the bias. -/
theorem charStep_apply (E : FVec Ideal S128x192 .bf16) (bi bh : FVec Ideal S1x192 .bf16) (W : FVec Ideal S64x192 .bf16)
    (h : FVec Ideal S1024x64 .bf16) (c : Vec Ideal S1024x1 .bf16) (s : Fin 1024) (j : Fin 64) (v : Fin 128)
    (hv : c (ix2 s 0) = FloatOps.sitofp (F := Ideal) FTy.bf16 (BitVec.ofNat 32 v)) :
    k0_pay18 E bi bh W k0_pay7 h c (ix2 s j)
      = cell (H := 64) (G := 192) rfl (fun g k => W (ix2 k g)) (fun g => bh (ix2 0 g)) (fun g => E (ix2 v g) + bi (ix2 0 g))
          (fun k => h (ix2 s k)) j := by
  have key : ∀ x : Fin 128, c (ix2 s 0) = FloatOps.sitofp (F := Ideal) FTy.bf16 (BitVec.ofNat 32 x) ↔ x = v := by
    intro x
    rw [hv, sitofp_ofNat_inj (by omega) (by omega), Fin.ext_iff, eq_comm]
  pointwise [k0_pay18, k0_pay7, dot_S1024x64_S64x192_S1024x192_1_0_0_1_n_n, dot_S1024x128_S128x192_S1024x192_1_0_0_1_n_n]
  simp only [oneHot_word, sum_oneHot _ v key]
  rfl

/-- The projection of a word: the four products and the bias. -/
theorem proj_apply (hs : FVec Ideal S1024x64 .bf16) (x7 : Vec Ideal S1024x1024 .f32) (x10 : Vec Ideal S1024x1536 .bf16)
    (x8 : Vec Ideal S1024x300 .f32) (x11 : Vec Ideal S300x1536 .bf16) (x9 : Vec Ideal S1024x7 .f32) (x13 : Vec Ideal S7x1536 .bf16)
    (x12 : Vec Ideal S64x1536 .bf16) (x14 : Vec Ideal S1x1536 .f32) (s : Fin 1024) (j : Fin 1536) :
    k0_pay1 hs (k0_pay66 x7 x10) x8 x11 x9 x13 x12 x14 (ix2 s j)
      = ∑ k, x7 (ix2 s k) * x10 (ix2 k j) + ∑ k, x8 (ix2 s k) * x11 (ix2 k j) + ∑ k, x9 (ix2 s k) * x13 (ix2 k j)
          + ∑ k, hs (ix2 s k) * x12 (ix2 k j) + x14 (ix2 0 j) := by
  pointwise [k0_pay1, k0_pay66, dot_S1024x1024_S1024x1536_S1024x1536_1_0_0_1_n_n, dot_S1024x300_S300x1536_S1024x1536_1_0_0_1_n_n,
    dot_S1024x7_S7x1536_S1024x1536_1_0_0_1_n_n, dot_S1024x64_S64x1536_S1024x1536_1_0_0_1_n_n]

/-- The projected character table. -/
theorem table_apply (x2 : Vec Ideal S128x64 .f32) (x3 : Vec Ideal S64x192 .f32) (v : Fin 128) (g : Fin 192) :
    k0_pay2 x2 x3 (ix2 v g) = ∑ k, x2 (ix2 v k) * x3 (ix2 k g) := by
  pointwise [k0_pay2, dot_S128x64_S64x192_S128x192_1_0_0_1_n_n]

/-- A cast between floats, or a reshape to the same shape, changes nothing. -/
theorem pay3_eq (x : Vec Ideal S1x192 .f32) : (k0_pay3 x : FVec Ideal S1x192 .bf16) = x := by
  funext i; pointwise [k0_pay3]

/-- A cast between floats, or a reshape to the same shape, changes nothing. -/
theorem pay4_eq (x : Vec Ideal S1x192 .f32) : (k0_pay4 x : FVec Ideal S1x192 .bf16) = x := by
  funext i; pointwise [k0_pay4]

/-- A cast between floats, or a reshape to the same shape, changes nothing. -/
theorem pay5_eq (x : Vec Ideal S64x192 .bf16) : (k0_pay5 x : FVec Ideal S64x192 .bf16) = x := by
  funext i; pointwise [k0_pay5]

/-- A cast between floats, or a reshape to the same shape, changes nothing. -/
theorem pay6_eq (x : Vec Ideal S1024x64 .bf16) : (k0_pay6 x : FVec Ideal S1024x64 .bf16) = x := by
  funext i; pointwise [k0_pay6]

end Cert.KernelIdeal.Val

end
-- ==== Proof.KernelIdealChar.lean ====
/- The character recurrence of the kernel at the extended reals: word by word it is the recurrence of gated cells over the word's
   characters, and the selection takes the state after the word's last character. -/
module

public import proofs.«01_k».proof.Proof.KernelIdealPay
public import proofs.«01_k».proof.Proof.KernelIdealRegion0Body

@[expose] public section

noncomputable section

namespace Cert.KernelIdeal.Val

open Idealize.ShloMosaic Cert.KernelIdeal Cert.KernelIdeal.Gen Cert.Spec
open Cert.KernelIdeal.Run

/-- The pattern of a step number is that number. -/
theorem stepBits_eq (n : ℕ) (hn : n < 16) :
    Scalar.ofBits (F := Ideal) .bf16 (stepBits n) = FloatOps.sitofp (F := Ideal) FTy.bf16 (BitVec.ofNat 32 n) := by
  have e : ∀ k < 16, Ideal.ofBits .bf16 (stepBits k) = (((BitVec.ofNat 32 k).toInt : ℝ) : EReal) := by
    intro k hk
    interval_cases k <;> simp [stepBits, Ideal.ofBits, Ideal.ieee, -EReal.coe_mul] <;> try norm_num
  exact e n hn

/-- Column `n` of the block of character ids, at a word. -/
theorem colOf_apply (x0 : Vec Ideal S1024x16 .bf16) (n : ℕ) (hn : n < 16) (s : Fin 1024) : colOf x0 n (ix2 s 0) = x0 (ix2 s ⟨n, hn⟩) := by
  refine congrArg x0 (funext fun a => Fin.ext ?_)
  fin_cases a
  · show 0 + 1 * s.val = s.val
    omega
  · show n % 16 + 1 * 0 = n
    rw [Nat.mod_eq_of_lt hn]
    omega

/-- The hidden state of a word after `n` characters, character `k` being `v k`. -/
theorem charH_apply (E : FVec Ideal S128x192 .bf16) (bi bh : FVec Ideal S1x192 .bf16) (W : FVec Ideal S64x192 .bf16)
    (x0 : Vec Ideal S1024x16 .bf16) (s : Fin 1024) (v : ℕ → Fin 128)
    (hv : ∀ (k : ℕ) (hk : k < 16), x0 (ix2 s ⟨k, hk⟩) = FloatOps.sitofp (F := Ideal) FTy.bf16 (BitVec.ofNat 32 (v k)))
    (n : ℕ) (hn : n ≤ 16) (j : Fin 64) :
    charH E bi bh W (colOf x0) n (ix2 s j)
      = hidden (H := 64) (G := 192) rfl (fun g k => W (ix2 k g)) (fun g => bh (ix2 0 g)) (fun k g => E (ix2 (v k) g) + bi (ix2 0 g)) n j := by
  induction n generalizing j with
  | zero => show k0_pay8 (F := Ideal) (ix2 s j) = 0; pointwise [k0_pay8]
  | succ n ih =>
    show k0_pay18 E bi bh W k0_pay7 (charH E bi bh W (colOf x0) n) (colOf x0 n) (ix2 s j) = _
    rw [charStep_apply E bi bh W _ _ s j (v n) ((colOf_apply x0 n (by omega) s).trans (hv n (by omega)))]
    rw [show (fun k => charH E bi bh W (colOf x0) n (ix2 s k)) = _ from funext fun k => ih (by omega) k]
    rfl

/-- The state selected is the one after the step that the word's entry names. -/
theorem charSel_apply (len : FVec Ideal S1024x64 .bf16) (H : ℕ → FVec Ideal S1024x64 .bf16) (s : Fin 1024) (j : Fin 64) (l : ℕ)
    (hl : l < 16) (e : len (ix2 s j) = FloatOps.sitofp (F := Ideal) FTy.bf16 (BitVec.ofNat 32 l)) (n : ℕ) (hn : n ≤ 16) :
    charSel len H n (ix2 s j) = if l < n then H (l + 1) (ix2 s j) else 0 := by
  induction n with
  | zero => show k0_pay9 (F := Ideal) (ix2 s j) = _; rw [if_neg (by omega)]; pointwise [k0_pay9]
  | succ n ih =>
    have ih' := ih (by omega)
    have hk : (len (ix2 s j) = Scalar.ofBits (F := Ideal) .bf16 (stepBits n)) ↔ l = n := by
      rw [e, stepBits_eq n (by omega), sitofp_ofNat_inj (by omega) (by omega)]
    have hs : charSel len H (n + 1) (ix2 s j)
        = if len (ix2 s j) = Scalar.ofBits (F := Ideal) .bf16 (stepBits n) then H (n + 1) (ix2 s j) else charSel len H n (ix2 s j) := by
      show select (cmpf .oeq len (broadcast S1024x64 (Scalar.ofBits (F := Ideal) .bf16 (stepBits n)))) (H (n + 1)) (charSel len H n) (ix2 s j) = _
      pointwise []
    rw [hs]
    by_cases h : l = n
    · subst h
      rw [if_pos (hk.mpr rfl), if_pos (by omega)]
    · rw [if_neg (fun h' => h (hk.mp h')), ih']
      by_cases h2 : l < n
      · rw [if_pos h2, if_pos (by omega)]
      · rw [if_neg h2, if_neg (by omega)]

/-- The block the projection stores, at a word and a gate: the four products, the character part being the state after the word's last
    character, and the bias. -/
theorem projOut_apply (x0 : Vec Ideal S1024x16 .bf16) (x1 : Vec Ideal S1024x64 .bf16) (x2 : Vec Ideal S128x64 .f32)
    (x3 : Vec Ideal S64x192 .f32) (x4 : Vec Ideal S64x192 .bf16) (x5 : Vec Ideal S1x192 .f32) (x6 : Vec Ideal S1x192 .f32)
    (x7 : Vec Ideal S1024x1024 .f32) (x8 : Vec Ideal S1024x300 .f32) (x9 : Vec Ideal S1024x7 .f32) (x10 : Vec Ideal S1024x1536 .bf16)
    (x11 : Vec Ideal S300x1536 .bf16) (x12 : Vec Ideal S64x1536 .bf16) (x13 : Vec Ideal S7x1536 .bf16) (x14 : Vec Ideal S1x1536 .f32)
    (s : Fin 1024) (g : Fin 1536) (v : ℕ → Fin 128) (l : ℕ) (hl : l < 16)
    (hv : ∀ (k : ℕ) (hk : k < 16), x0 (ix2 s ⟨k, hk⟩) = FloatOps.sitofp (F := Ideal) FTy.bf16 (BitVec.ofNat 32 (v k)))
    (e : ∀ j, x1 (ix2 s j) = FloatOps.sitofp (F := Ideal) FTy.bf16 (BitVec.ofNat 32 l)) :
    projOut x0 x1 x2 x3 x4 x5 x6 x7 x8 x9 x10 x11 x12 x13 x14 (ix2 s g)
      = ∑ k, x7 (ix2 s k) * x10 (ix2 k g) + ∑ k, x8 (ix2 s k) * x11 (ix2 k g) + ∑ k, x9 (ix2 s k) * x13 (ix2 k g)
          + ∑ k, hidden (H := 64) (G := 192) rfl (fun g k => x4 (ix2 k g)) (fun g => x6 (ix2 0 g))
              (fun n g => affine (fun k => x2 (ix2 (v n) k)) (fun k => x3 (ix2 k g)) (x5 (ix2 0 g))) (l + 1) k * x12 (ix2 k g)
          + x14 (ix2 0 g) := by
  unfold projOut projOf
  rw [proj_apply]
  have hk : ∀ k : Fin 64, charSel (k0_pay6 x1) (charH (k0_pay2 x2 x3) (k0_pay3 x5) (k0_pay4 x6) (k0_pay5 x4) (colOf x0)) 16 (ix2 s k)
      = hidden (H := 64) (G := 192) rfl (fun g k => x4 (ix2 k g)) (fun g => x6 (ix2 0 g))
          (fun n g => affine (fun k => x2 (ix2 (v n) k)) (fun k => x3 (ix2 k g)) (x5 (ix2 0 g))) (l + 1) k := by
    intro k
    rw [pay6_eq, pay3_eq, pay4_eq, pay5_eq, charSel_apply x1 _ s k l hl (e k) 16 le_rfl, if_pos hl,
      charH_apply _ _ _ _ x0 s v hv (l + 1) (by omega) k]
    simp only [table_apply]
    rfl
  simp only [hk]

end Cert.KernelIdeal.Val

end
-- ==== Proof.KernelIdealGates.lean ====
/- The first pallas_call at the extended reals: its result, entry by entry, is the word's input gate, the sum of four products and a
   bias, the character part of the word being the state of the character recurrence after the word's last character. -/
module

public import proofs.«01_k».proof.Proof.KernelIdealChar
public import proofs.«01_k».proof.Proof.KernelIdealRegion0
public import Idealize.ShloMosaic.Lib.Pipeline.ValueKit.Geometry

@[expose] public section

noncomputable section

namespace Cert.KernelIdeal.Val

open Idealize.ShloMosaic Cert.KernelIdeal Cert.KernelIdeal.Gen Cert.Spec
open Cert.KernelIdeal.Run Idealize.ShloMosaic.TcCoe

variable (V : (c : Dev nD) → (b : Ref sig .tc) → Buf (Elt Ideal) ((c : Thread nD τ).loc b))

/-! ### Where the windows' blocks lie: the words' blocks 1024 rows from row `1024 t`, the tables whole -/

/-- At point `t` the words' windows lie at block `t` of the rows. -/
theorem index0_rows : ∀ t : Fin cfg0.N, win0_0.index t = ![t.val, 0] ∧ win0_1.index t = ![t.val, 0] ∧ win0_7.index t = ![t.val, 0] ∧ win0_8.index t = ![t.val, 0] ∧ win0_9.index t = ![t.val, 0]
      ∧ win0_15.index t = ![t.val, 0] :=
  (by decide +kernel : ∀ t : Fin grid0.N, win0_0.index t = ![t.val, 0] ∧ win0_1.index t = ![t.val, 0] ∧ win0_7.index t = ![t.val, 0] ∧ win0_8.index t = ![t.val, 0] ∧ win0_9.index t = ![t.val, 0]
      ∧ win0_15.index t = ![t.val, 0])

/-- At every point the tables' windows lie at their arrays' start. -/
theorem index0_whole : ∀ t : Fin cfg0.N, win0_2.index t = ![0, 0] ∧ win0_3.index t = ![0, 0] ∧ win0_4.index t = ![0, 0] ∧ win0_5.index t = ![0, 0] ∧ win0_6.index t = ![0, 0]
      ∧ win0_10.index t = ![0, 0] ∧ win0_11.index t = ![0, 0] ∧ win0_12.index t = ![0, 0] ∧ win0_13.index t = ![0, 0] ∧ win0_14.index t = ![0, 0] :=
  (by decide +kernel : ∀ t : Fin grid0.N, win0_2.index t = ![0, 0] ∧ win0_3.index t = ![0, 0] ∧ win0_4.index t = ![0, 0] ∧ win0_5.index t = ![0, 0] ∧ win0_6.index t = ![0, 0]
      ∧ win0_10.index t = ![0, 0] ∧ win0_11.index t = ![0, 0] ∧ win0_12.index t = ![0, 0] ∧ win0_13.index t = ![0, 0] ∧ win0_14.index t = ![0, 0])

/-- The characters' block at point `t` holds the array's 1024 rows from row `1024 t`. -/
theorem iblk0_0_apply (c : Dev nD) (t : Fin cfg0.N) (s : Fin 1024) (k : Fin 16) (i : Fin 8192) (hi : i.val = 1024 * t.val + s.val) :
    iblk0 V c 0 t (ix2 s k) = V c main_v16 (ix2 i k) := by
  blk_simp [iblk0]
  refine congrArg _ ?_
  blk_ext [index0_rows]

/-- The block of last positions at point `t` holds the array's 1024 rows from row `1024 t`. -/
theorem iblk0_1_apply (c : Dev nD) (t : Fin cfg0.N) (s : Fin 1024) (k : Fin 64) (i : Fin 8192) (hi : i.val = 1024 * t.val + s.val) :
    iblk0 V c 1 t (ix2 s k) = V c main_v5 (ix2 i k) := by
  blk_simp [iblk0]
  refine congrArg _ ?_
  blk_ext [index0_rows]

/-- The embedding table is the whole array at every point. -/
theorem iblk0_2_apply (c : Dev nD) (t : Fin cfg0.N) (s : Fin 128) (k : Fin 64) : iblk0 V c 2 t (ix2 s k) = V c main_arg5 (ix2 s k) := by
  blk_simp [iblk0]
  refine congrArg _ ?_
  blk_ext [index0_whole]

/-- The character input weights are the whole array at every point. -/
theorem iblk0_3_apply (c : Dev nD) (t : Fin cfg0.N) (s : Fin 64) (k : Fin 192) : iblk0 V c 3 t (ix2 s k) = V c main_v17 (ix2 s k) := by
  blk_simp [iblk0]
  refine congrArg _ ?_
  blk_ext [index0_whole]

/-- The character hidden weights are the whole array at every point. -/
theorem iblk0_4_apply (c : Dev nD) (t : Fin cfg0.N) (s : Fin 64) (k : Fin 192) : iblk0 V c 4 t (ix2 s k) = V c main_v19 (ix2 s k) := by
  blk_simp [iblk0]
  refine congrArg _ ?_
  blk_ext [index0_whole]

/-- The character input biases are the whole array at every point. -/
theorem iblk0_5_apply (c : Dev nD) (t : Fin cfg0.N) (s : Fin 1) (k : Fin 192) : iblk0 V c 5 t (ix2 s k) = V c main_v20 (ix2 s k) := by
  blk_simp [iblk0]
  refine congrArg _ ?_
  blk_ext [index0_whole]

/-- The character hidden biases are the whole array at every point. -/
theorem iblk0_6_apply (c : Dev nD) (t : Fin cfg0.N) (s : Fin 1) (k : Fin 192) : iblk0 V c 6 t (ix2 s k) = V c main_v21 (ix2 s k) := by
  blk_simp [iblk0]
  refine congrArg _ ?_
  blk_ext [index0_whole]

/-- The ELMo features' block at point `t` holds the array's 1024 rows from row `1024 t`. -/
theorem iblk0_7_apply (c : Dev nD) (t : Fin cfg0.N) (s : Fin 1024) (k : Fin 1024) (i : Fin 8192) (hi : i.val = 1024 * t.val + s.val) :
    iblk0 V c 7 t (ix2 s k) = V c main_v22 (ix2 i k) := by
  blk_simp [iblk0]
  refine congrArg _ ?_
  blk_ext [index0_rows]

/-- The GloVe features' block at point `t` holds the array's 1024 rows from row `1024 t`. -/
theorem iblk0_8_apply (c : Dev nD) (t : Fin cfg0.N) (s : Fin 1024) (k : Fin 300) (i : Fin 8192) (hi : i.val = 1024 * t.val + s.val) :
    iblk0 V c 8 t (ix2 s k) = V c main_v23 (ix2 i k) := by
  blk_simp [iblk0]
  refine congrArg _ ?_
  blk_ext [index0_rows]

/-- The one-hot features' block at point `t` holds the array's 1024 rows from row `1024 t`. -/
theorem iblk0_9_apply (c : Dev nD) (t : Fin cfg0.N) (s : Fin 1024) (k : Fin 7) (i : Fin 8192) (hi : i.val = 1024 * t.val + s.val) :
    iblk0 V c 9 t (ix2 s k) = V c main_v24 (ix2 i k) := by
  blk_simp [iblk0]
  refine congrArg _ ?_
  blk_ext [index0_rows]

/-- The ELMo features' weights are the whole array at every point. -/
theorem iblk0_10_apply (c : Dev nD) (t : Fin cfg0.N) (s : Fin 1024) (k : Fin 1536) : iblk0 V c 10 t (ix2 s k) = V c main_v10 (ix2 s k) := by
  blk_simp [iblk0]
  refine congrArg _ ?_
  blk_ext [index0_whole]

/-- The GloVe features' weights are the whole array at every point. -/
theorem iblk0_11_apply (c : Dev nD) (t : Fin cfg0.N) (s : Fin 300) (k : Fin 1536) : iblk0 V c 11 t (ix2 s k) = V c main_v11 (ix2 s k) := by
  blk_simp [iblk0]
  refine congrArg _ ?_
  blk_ext [index0_whole]

/-- The character features' weights are the whole array at every point. -/
theorem iblk0_12_apply (c : Dev nD) (t : Fin cfg0.N) (s : Fin 64) (k : Fin 1536) : iblk0 V c 12 t (ix2 s k) = V c main_v12 (ix2 s k) := by
  blk_simp [iblk0]
  refine congrArg _ ?_
  blk_ext [index0_whole]

/-- The one-hot features' weights are the whole array at every point. -/
theorem iblk0_13_apply (c : Dev nD) (t : Fin cfg0.N) (s : Fin 7) (k : Fin 1536) : iblk0 V c 13 t (ix2 s k) = V c main_v13 (ix2 s k) := by
  blk_simp [iblk0]
  refine congrArg _ ?_
  blk_ext [index0_whole]

/-- The input biases are the whole array at every point. -/
theorem iblk0_14_apply (c : Dev nD) (t : Fin cfg0.N) (s : Fin 1) (k : Fin 1536) : iblk0 V c 14 t (ix2 s k) = V c main_v15 (ix2 s k) := by
  blk_simp [iblk0]
  refine congrArg _ ?_
  blk_ext [index0_whole]

/-- The input gate `g` of word `i`, the word's characters being `v` and its last one's number `l`. -/
def gateAt (c : Dev nD) (v : ℕ → Fin 128) (l : ℕ) (i : Fin 8192) (g : Fin 1536) : EReal :=
  wordGate (fun k => V c main_v22 (ix2 i k)) (fun k => V c main_v10 (ix2 k g)) (fun k => V c main_v23 (ix2 i k)) (fun k => V c main_v11 (ix2 k g))
    (fun k => V c main_v24 (ix2 i k)) (fun k => V c main_v13 (ix2 k g))
    (charState (fun x k => V c main_arg5 (ix2 x k)) (fun g k => V c main_v17 (ix2 k g)) (fun g => V c main_v20 (ix2 (0 : Fin 1) g))
      (fun g k => V c main_v19 (ix2 k g)) (fun g => V c main_v21 (ix2 (0 : Fin 1) g)) v (l + 1))
    (fun k => V c main_v12 (ix2 k g)) (V c main_v15 (ix2 (0 : Fin 1) g))

/-- The block that point `t` stores, at its word `s`, which is word `i` of all, and at a gate. -/
theorem block_apply (c : Dev nD) (t : Fin cfg0.N) (s : Fin 1024) (i : Fin 8192) (hi : i.val = 1024 * t.val + s.val) (g : Fin 1536)
    (v : ℕ → Fin 128) (l : ℕ) (hl : l < 16)
    (hv : ∀ (k : ℕ) (hk : k < 16), V c main_v16 (ix2 i (⟨k, hk⟩ : Fin 16)) = FloatOps.sitofp (F := Ideal) FTy.bf16 (BitVec.ofNat 32 (v k)))
    (he : ∀ j : Fin 64, V c main_v5 (ix2 i j) = FloatOps.sitofp (F := Ideal) FTy.bf16 (BitVec.ofNat 32 l)) :
    projOut (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (ix2 s g) = gateAt V c v l i g := by
  refine (projOut_apply _ _ _ _ _ _ _ _ _ _ _ _ _ _ _ s g v l hl (fun k hk => (iblk0_0_apply V c t s ⟨k, hk⟩ i hi).trans (hv k hk))
    (fun j => (iblk0_1_apply V c t s j i hi).trans (he j))).trans ?_
  have e7 := fun k => iblk0_7_apply V c t s k i hi
  have e8 := fun k => iblk0_8_apply V c t s k i hi
  have e9 := fun k => iblk0_9_apply V c t s k i hi
  simp only [e7, e8, e9, iblk0_2_apply, iblk0_3_apply, iblk0_4_apply, iblk0_5_apply, iblk0_6_apply]
  have e10 := fun k => iblk0_10_apply V c t k g
  have e11 := fun k => iblk0_11_apply V c t k g
  have e12 := fun k => iblk0_12_apply V c t k g
  have e13 := fun k => iblk0_13_apply V c t k g
  have e14 := iblk0_14_apply V c t 0 g
  unfold gateAt wordGate charState
  simp only [← e10, ← e11, ← e12, ← e13, ← e14]

/-- The array of input gates after the first pallas_call. -/
theorem gates_eq (c : Dev nD) (v : Fin 8192 → ℕ → Fin 128) (l : Fin 8192 → ℕ) (hl : ∀ i, l i < 16)
    (hv : ∀ (i : Fin 8192) (k : ℕ) (hk : k < 16), V c main_v16 (ix2 i (⟨k, hk⟩ : Fin 16)) = FloatOps.sitofp (F := Ideal) FTy.bf16 (BitVec.ofNat 32 (v i k)))
    (he : ∀ (i : Fin 8192) (j : Fin 64), V c main_v5 (ix2 i j) = FloatOps.sitofp (F := Ideal) FTy.bf16 (BitVec.ofNat 32 (l i))) :
    (dat0 V c).arrAt 15 cfg0.N = fun i : S8192x1536.Idx => gateAt V c (v (i 0)) (l (i 0)) (i 0) (i 1) := by
  refine (dat0 V c).arrAt_eq_of_covers 15 _ (by decide +kernel) fun t hf y => ?_
  have ht : t.val < 8 := t.isLt
  have hy : (y 0).val < 1024 := (y 0).isLt
  have h0 : (((win0_15.blk t).view.emb y) 0 : ℕ) = 1024 * t.val + (y 0).val := by
    blk_simp [index0_rows]
    omega
  have h1 : ((win0_15.blk t).view.emb y) 1 = (y 1 : Fin 1536) := by
    refine Fin.ext ?_
    blk_simp [index0_rows]
  blk_simp
  rw [after0_15, h1]
  refine (congrArg _ (eq_ix2 y)).trans ?_
  exact block_apply V c t (y 0) _ h0 (y 1) _ _ (hl _) (hv _) (he _)

end Cert.KernelIdeal.Val

end
-- ==== Proof.KernelIdealWord.lean ====
/- The second pallas_call at the extended reals: its result, entry by entry, is the forward recurrence of gated cells over the times
   up to the entry's, or the backward one over the times from the last down to it. -/
module

public import proofs.«01_k».proof.Proof.KernelIdealPay
public import proofs.«01_k».proof.Proof.KernelIdealRegion1
public import Idealize.ShloMosaic.Lib.Pipeline.ValueKit.Geometry

@[expose] public section

noncomputable section

namespace Cert.KernelIdeal.Val

open Idealize.ShloMosaic Cert.KernelIdeal Cert.KernelIdeal.Gen Cert.Spec
open Cert.KernelIdeal.Run Idealize.ShloMosaic.TcCoe

variable (V : (c : Dev nD) → (b : Ref sig .tc) → Buf (Elt Ideal) ((c : Thread nD τ).loc b))

/-! ### Where the windows' blocks lie -/

/-- At point `t` the forward window lies at block `t` of the positions and at the first half of the gates. -/
theorem index1_0 (t : Fin cfg1.N) : win1_0.index t = ![t.val, 0, 0] :=
  (by decide +kernel : ∀ t : Fin grid1.N, win1_0.index t = ![t.val, 0, 0]) t

/-- At point `t` the backward window lies at block `7 − t` of the positions and at the second half of the gates. -/
theorem index1_1 (t : Fin cfg1.N) : win1_1.index t = ![7 - t.val, 0, 1] :=
  (by decide +kernel : ∀ t : Fin grid1.N, win1_1.index t = ![7 - t.val, 0, 1]) t

/-- At every point the windows of weights and biases lie at their arrays' start. -/
theorem index1_whole : ∀ t : Fin cfg1.N, win1_2.index t = ![0, 0] ∧ win1_3.index t = ![0, 0] ∧ win1_4.index t = ![0, 0] ∧ win1_5.index t = ![0, 0] :=
  (by decide +kernel : ∀ t : Fin grid1.N, win1_2.index t = ![0, 0] ∧ win1_3.index t = ![0, 0] ∧ win1_4.index t = ![0, 0] ∧ win1_5.index t = ![0, 0])

/-- Window 0's block at point `t`: times `8t` to `8t + 7`, the first 768 gates. -/
theorem iblk1_0_apply (c : Dev nD) (t : Fin cfg1.N) (r : Fin 8) (s : Fin 128) (g : Fin 768) (i : S64x128x1536.Idx)
    (h0 : (i 0).val = 8 * t.val + r.val) (h1 : (i 1).val = s.val) (h2 : (i 2).val = g.val) :
    iblk1 V c 0 t (ix3 r s g) = V c main_v26 i := by
  blk_simp [iblk1]
  refine congrArg _ ?_
  blk_ext [index1_0]

/-- Window 1's block at point `t`: times `56 − 8t` to `63 − 8t`, the last 768 gates. -/
theorem iblk1_1_apply (c : Dev nD) (t : Fin cfg1.N) (r : Fin 8) (s : Fin 128) (g : Fin 768) (i : S64x128x1536.Idx)
    (h0 : (i 0).val = 8 * (7 - t.val) + r.val) (h1 : (i 1).val = s.val) (h2 : (i 2).val = 768 + g.val) :
    iblk1 V c 1 t (ix3 r s g) = V c main_v26 i := by
  blk_simp [iblk1]
  refine congrArg _ ?_
  blk_ext [index1_1]

/-- The forward hidden weights are the whole array at every point. -/
theorem iblk1_2_apply (c : Dev nD) (t : Fin cfg1.N) (k : Fin 256) (g : Fin 768) : iblk1 V c 2 t (ix2 k g) = V c main_v28 (ix2 k g) := by
  blk_simp [iblk1]
  refine congrArg _ ?_
  blk_ext [index1_whole]

/-- The backward hidden weights are the whole array at every point. -/
theorem iblk1_3_apply (c : Dev nD) (t : Fin cfg1.N) (k : Fin 256) (g : Fin 768) : iblk1 V c 3 t (ix2 k g) = V c main_v30 (ix2 k g) := by
  blk_simp [iblk1]
  refine congrArg _ ?_
  blk_ext [index1_whole]

/-- The forward hidden biases are the whole array at every point. -/
theorem iblk1_4_apply (c : Dev nD) (t : Fin cfg1.N) (k : Fin 1) (g : Fin 768) : iblk1 V c 4 t (ix2 k g) = V c main_v31 (ix2 k g) := by
  blk_simp [iblk1]
  refine congrArg _ ?_
  blk_ext [index1_whole]

/-- The backward hidden biases are the whole array at every point. -/
theorem iblk1_5_apply (c : Dev nD) (t : Fin cfg1.N) (k : Fin 1) (g : Fin 768) : iblk1 V c 5 t (ix2 k g) = V c main_v32 (ix2 k g) := by
  blk_simp [iblk1]
  refine congrArg _ ?_
  blk_ext [index1_whole]

/-- A row of a block of input gates, at a sequence and a gate. -/
theorem rowOf_apply (x : Vec Ideal S8x128x768 .bf16) (n : ℕ) (s : Fin 128) (g : Fin 768) :
    rowOf x n (ix3 0 s g) = x (ix3 ⟨n % 8, Nat.mod_lt _ (by decide)⟩ s g) := by
  refine congrArg x (funext fun a => Fin.ext ?_)
  fin_cases a
  · show n % 8 + 1 * 0 = n % 8
    omega
  · show 0 + 1 * s.val = s.val
    omega
  · show 0 + 1 * g.val = g.val
    omega

/-! ### The two recurrences -/

/-- The input gates of sequence `s` at time `n`, forward. -/
def gatesF (c : Dev nD) (s : Fin 128) (n : ℕ) (g : Fin 768) : EReal :=
  V c main_v26 (ix3 (⟨n % 64, Nat.mod_lt _ (by decide)⟩ : Fin 64) s (⟨g.val, by omega⟩ : Fin 1536))

/-- The input gates of sequence `s` at the `n`-th time from the end, backward. -/
def gatesB (c : Dev nD) (s : Fin 128) (n : ℕ) (g : Fin 768) : EReal :=
  V c main_v26 (ix3 (⟨63 - n, by omega⟩ : Fin 64) s (⟨768 + g.val, by omega⟩ : Fin 1536))

/-- The forward state after `n` steps. -/
theorem HF_apply (c : Dev nD) (s : Fin 128) (n : ℕ) (hn : n ≤ 64) (j : Fin 256) :
    HF V c n (ix2 s j) = hidden (H := 256) (G := 768) rfl (fun g k => V c main_v28 (ix2 k g)) (fun g => V c main_v31 (ix2 (0 : Fin 1) g))
      (gatesF V c s) n j := by
  induction n generalizing j with
  | zero => show k1_pay5 (F := Ideal) (ix2 s j) = 0; pointwise [k1_pay5]
  | succ n ih =>
    show k1_pay7 (HF V c n) (rowOf (iblk1 V c 0 (pt n)) n) (iblk1 V c 2 (pt n)) (iblk1 V c 4 (pt n)) (ix2 s j) = _
    refine (wordStep_apply _ _ _ _ s j).trans ?_
    have e0 : (fun g : Fin 768 => rowOf (iblk1 V c 0 (pt n)) n (ix3 0 s g)) = gatesF V c s n := funext fun g =>
      (rowOf_apply _ n s g).trans (iblk1_0_apply V c (pt n) _ s g _
        (by show n % 64 = 8 * (n / 8 % 8) + n % 8; omega) rfl rfl)
    have e2 : (fun (g : Fin 768) (k : Fin 256) => iblk1 V c 2 (pt n) (ix2 k g)) = fun g k => V c main_v28 (ix2 k g) :=
      funext fun g => funext fun k => iblk1_2_apply V c (pt n) k g
    have e4 : (fun g : Fin 768 => iblk1 V c 4 (pt n) (ix2 0 g)) = fun g => V c main_v31 (ix2 (0 : Fin 1) g) :=
      funext fun g => iblk1_4_apply V c (pt n) 0 g
    have eh := funext fun k => ih (by omega) k
    show cell rfl _ _ _ _ j = cell rfl _ _ _ _ j
    rw [← eh, ← e0, ← e2, ← e4]

/-- The backward state after `n` steps. -/
theorem HB_apply (c : Dev nD) (s : Fin 128) (n : ℕ) (hn : n ≤ 64) (j : Fin 256) :
    HB V c n (ix2 s j) = hidden (H := 256) (G := 768) rfl (fun g k => V c main_v30 (ix2 k g)) (fun g => V c main_v32 (ix2 (0 : Fin 1) g))
      (gatesB V c s) n j := by
  induction n generalizing j with
  | zero => show k1_pay6 (F := Ideal) (ix2 s j) = 0; pointwise [k1_pay6]
  | succ n ih =>
    show k1_pay7 (HB V c n) (rowOf (iblk1 V c 1 (pt n)) (7 - n % 8)) (iblk1 V c 3 (pt n)) (iblk1 V c 5 (pt n)) (ix2 s j) = _
    refine (wordStep_apply _ _ _ _ s j).trans ?_
    have e0 : (fun g : Fin 768 => rowOf (iblk1 V c 1 (pt n)) (7 - n % 8) (ix3 0 s g)) = gatesB V c s n := funext fun g =>
      (rowOf_apply _ _ s g).trans (iblk1_1_apply V c (pt n) _ s g _
        (by show 63 - n = 8 * (7 - n / 8 % 8) + (7 - n % 8) % 8; omega) rfl rfl)
    have e2 : (fun (g : Fin 768) (k : Fin 256) => iblk1 V c 3 (pt n) (ix2 k g)) = fun g k => V c main_v30 (ix2 k g) :=
      funext fun g => funext fun k => iblk1_3_apply V c (pt n) k g
    have e4 : (fun g : Fin 768 => iblk1 V c 5 (pt n) (ix2 0 g)) = fun g => V c main_v32 (ix2 (0 : Fin 1) g) :=
      funext fun g => iblk1_5_apply V c (pt n) 0 g
    have eh := funext fun k => ih (by omega) k
    show cell rfl _ _ _ _ j = cell rfl _ _ _ _ j
    rw [← eh, ← e0, ← e2, ← e4]

end Cert.KernelIdeal.Val

end
-- ==== Proof.KernelIdealHost.lean ====
/- The host stretches of the kernel's program, each array that a pallas_call takes read at an index, in the argument arrays. -/
module

public import proofs.«01_k».proof.Proof.KernelIdealRun
public import proofs.«01_k».proof.Proof.KernelIdealGates
public import proofs.«01_k».proof.Proof.KernelIdealWord
public import Idealize.ShloMosaic.Lib.StableHlo.ReadAt
public import Idealize.ShloMosaic.Lib.Pointwise

@[expose] public section

set_option maxRecDepth 16384

noncomputable section

namespace Cert.KernelIdeal.Val

open Idealize.ShloMosaic Cert.KernelIdeal Cert.KernelIdeal.Gen Cert.Spec
open Cert.KernelIdeal.Run Idealize.ShloMosaic.TcCoe

section Stretches

variable (U : Valuation τ sig (Elt Ideal))

/-! ## The clipped position -/

/-- The lengths less one. -/
theorem v1_at (i : Fin 8192) : StableHlo.after hostOps0 U (Proc.devRef .tc main_v1) (ix1 i) = IntOp.subi (U (Proc.devRef .tc main_arg1) (ix1 i)) 1#32 := by
  after_reads_at

/-- The lower bound of the clipping. -/
theorem c_0_at : StableHlo.after hostOps0 U (Proc.devRef .tc main_c_0) ix0 = 0#32 := by
  after_reads_at

/-- The upper bound of the clipping. -/
theorem c_1_at : StableHlo.after hostOps0 U (Proc.devRef .tc main_c_1) ix0 = 15#32 := by
  after_reads_at

/-- The position of the last character, clipped to the word. -/
theorem v2_at (i : Fin 8192) : StableHlo.after hostOps0_1 U (Proc.devRef .tc main_v2) (ix1 i)
    = IntOp.minsi (U (Proc.devRef .tc main_c_1) ix0) (IntOp.maxsi (U (Proc.devRef .tc main_c_0) ix0) (U (Proc.devRef .tc main_v1) (ix1 i))) := by
  after_reads_at
  rfl

/-! ## The arrays the first pallas_call takes -/

/-- The characters, as floats. -/
theorem v16_at (i : Fin 8192) (k : Fin 16) : StableHlo.after hostOps0_2 U (Proc.devRef .tc main_v16) (ix2 i k)
    = FloatOps.sitofp (F := Ideal) FTy.bf16 (U (Proc.devRef .tc main_arg0) (ix2 i k)) := by
  after_reads_at

/-- The last position of a word, as a float, the same at each of the 64 features. -/
theorem v5_at (i : Fin 8192) (k : Fin 64) : StableHlo.after hostOps0_2 U (Proc.devRef .tc main_v5) (ix2 i k)
    = FloatOps.sitofp (F := Ideal) FTy.bf16 (U (Proc.devRef .tc main_v2) (ix1 i)) := by
  after_reads_at

/-- The character input weights are transposed. -/
theorem v17_at (k : Fin 64) (g : Fin 192) : StableHlo.after hostOps0_2 U (Proc.devRef .tc main_v17) (ix2 k g)
    = U (Proc.devRef .tc main_arg6) (ix2 g k) := by
  after_reads_at

/-- The character hidden weights are transposed. -/
theorem v19_at (k : Fin 64) (g : Fin 192) : StableHlo.after hostOps0_2 U (Proc.devRef .tc main_v19) (ix2 k g)
    = U (Proc.devRef .tc main_arg7) (ix2 g k) := by
  after_reads_at

/-- The character input biases, as a row. -/
theorem v20_at (g : Fin 192) : StableHlo.after hostOps0_2 U (Proc.devRef .tc main_v20) (ix2 (0 : Fin 1) g)
    = U (Proc.devRef .tc main_arg8) (ix1 g) := by
  after_reads_at

/-- The character hidden biases, as a row. -/
theorem v21_at (g : Fin 192) : StableHlo.after hostOps0_2 U (Proc.devRef .tc main_v21) (ix2 (0 : Fin 1) g)
    = U (Proc.devRef .tc main_arg9) (ix1 g) := by
  after_reads_at

/-- The ELMo features, word by word. -/
theorem v22_at (i : Fin 8192) (k : Fin 1024) : StableHlo.after hostOps0_2 U (Proc.devRef .tc main_v22) (ix2 i k)
    = U (Proc.devRef .tc main_arg2) (ix3 (⟨i.val / 128, by omega⟩ : Fin 64) (⟨i.val % 128, by omega⟩ : Fin 128) k) := by
  after_reads_at

/-- The GloVe features, word by word. -/
theorem v23_at (i : Fin 8192) (k : Fin 300) : StableHlo.after hostOps0_2 U (Proc.devRef .tc main_v23) (ix2 i k)
    = U (Proc.devRef .tc main_arg3) (ix3 (⟨i.val / 128, by omega⟩ : Fin 64) (⟨i.val % 128, by omega⟩ : Fin 128) k) := by
  after_reads_at

/-- The one-hot features, word by word. -/
theorem v24_at (i : Fin 8192) (k : Fin 7) : StableHlo.after hostOps0_2 U (Proc.devRef .tc main_v24) (ix2 i k)
    = U (Proc.devRef .tc main_arg4) (ix3 (⟨i.val / 128, by omega⟩ : Fin 64) (⟨i.val % 128, by omega⟩ : Fin 128) k) := by
  after_reads_at

/-- The input weights of the ELMo features: the forward gates, then the backward ones. -/
theorem v10_at (k : Fin 1024) (g : Fin 1536) : StableHlo.after hostOps0_2 U (Proc.devRef .tc main_v10) (ix2 k g)
    = if h : g.val < 768 then U (Proc.devRef .tc main_arg10) (ix2 (⟨g.val, h⟩ : Fin 768) (⟨k.val, by omega⟩ : Fin 1395))
      else U (Proc.devRef .tc main_arg14) (ix2 (⟨g.val - 768, by omega⟩ : Fin 768) (⟨k.val, by omega⟩ : Fin 1395)) := by
  after_reads_at
  split <;> after_reads_at

/-- The input weights of the GloVe features, likewise. -/
theorem v11_at (k : Fin 300) (g : Fin 1536) : StableHlo.after hostOps0_2 U (Proc.devRef .tc main_v11) (ix2 k g)
    = if h : g.val < 768 then U (Proc.devRef .tc main_arg10) (ix2 (⟨g.val, h⟩ : Fin 768) (⟨1024 + k.val, by omega⟩ : Fin 1395))
      else U (Proc.devRef .tc main_arg14) (ix2 (⟨g.val - 768, by omega⟩ : Fin 768) (⟨1024 + k.val, by omega⟩ : Fin 1395)) := by
  after_reads_at
  split <;> after_reads_at

/-- The input weights of the character features, likewise. -/
theorem v12_at (k : Fin 64) (g : Fin 1536) : StableHlo.after hostOps0_2 U (Proc.devRef .tc main_v12) (ix2 k g)
    = if h : g.val < 768 then U (Proc.devRef .tc main_arg10) (ix2 (⟨g.val, h⟩ : Fin 768) (⟨1324 + k.val, by omega⟩ : Fin 1395))
      else U (Proc.devRef .tc main_arg14) (ix2 (⟨g.val - 768, by omega⟩ : Fin 768) (⟨1324 + k.val, by omega⟩ : Fin 1395)) := by
  after_reads_at
  split <;> after_reads_at

/-- The input weights of the one-hot features, likewise. -/
theorem v13_at (k : Fin 7) (g : Fin 1536) : StableHlo.after hostOps0_2 U (Proc.devRef .tc main_v13) (ix2 k g)
    = if h : g.val < 768 then U (Proc.devRef .tc main_arg10) (ix2 (⟨g.val, h⟩ : Fin 768) (⟨1388 + k.val, by omega⟩ : Fin 1395))
      else U (Proc.devRef .tc main_arg14) (ix2 (⟨g.val - 768, by omega⟩ : Fin 768) (⟨1388 + k.val, by omega⟩ : Fin 1395)) := by
  after_reads_at
  split <;> after_reads_at

/-- The input biases, likewise. -/
theorem v15_at (g : Fin 1536) : StableHlo.after hostOps0_2 U (Proc.devRef .tc main_v15) (ix2 (0 : Fin 1) g)
    = if h : g.val < 768 then U (Proc.devRef .tc main_arg12) (ix1 (⟨g.val, h⟩ : Fin 768))
      else U (Proc.devRef .tc main_arg16) (ix1 (⟨g.val - 768, by omega⟩ : Fin 768)) := by
  after_reads_at
  split <;> after_reads_at

/-! ## The arrays the second pallas_call takes -/

/-- The forward hidden weights are transposed. -/
theorem v28_at (k : Fin 256) (g : Fin 768) : StableHlo.after hostOps1 U (Proc.devRef .tc main_v28) (ix2 k g)
    = U (Proc.devRef .tc main_arg11) (ix2 g k) := by
  after_reads_at

/-- The backward hidden weights are transposed. -/
theorem v30_at (k : Fin 256) (g : Fin 768) : StableHlo.after hostOps1 U (Proc.devRef .tc main_v30) (ix2 k g)
    = U (Proc.devRef .tc main_arg15) (ix2 g k) := by
  after_reads_at

/-- The forward hidden biases, as a row. -/
theorem v31_at (g : Fin 768) : StableHlo.after hostOps1 U (Proc.devRef .tc main_v31) (ix2 (0 : Fin 1) g)
    = U (Proc.devRef .tc main_arg13) (ix1 g) := by
  after_reads_at

/-- The backward hidden biases, as a row. -/
theorem v32_at (g : Fin 768) : StableHlo.after hostOps1 U (Proc.devRef .tc main_v32) (ix2 (0 : Fin 1) g)
    = U (Proc.devRef .tc main_arg17) (ix1 g) := by
  after_reads_at

/-- The input gates, by position and sentence. -/
theorem v26_at (t : Fin 64) (s : Fin 128) (g : Fin 1536) : StableHlo.after hostOps1 U (Proc.devRef .tc main_v26) (ix3 t s g)
    = U (Proc.devRef .tc main_v25) (ix2 (Args.word t s) g) := by
  after_reads_at
  rfl

end Stretches

end Cert.KernelIdeal.Val

end
-- ==== Proof.KernelIdealResult.lean ====
/- The kernel's result: at every position, sentence and unit, the two recurrences of Spec.lean on the argument arrays. -/
module

public import proofs.«01_k».proof.Proof.KernelIdealHost

@[expose] public section

set_option maxRecDepth 16384

noncomputable section

namespace Cert.KernelIdeal.Val

open Idealize.ShloMosaic Cert.KernelIdeal Cert.KernelIdeal.Gen Cert.Spec
open Cert.KernelIdeal.Run Idealize.ShloMosaic.TcCoe

variable (m : (ℓ : Loc nD τ sig) → Buf (Elt Ideal) ℓ) (ρ : Dev nD → PrngReg) (c : Dev nD)

/-- The argument arrays on core `c`. -/
def argsOf : Args where
  chars := m ((c : Thread nD τ).loc main_arg0)
  lens := m ((c : Thread nD τ).loc main_arg1)
  elmo := m ((c : Thread nD τ).loc main_arg2)
  glove := m ((c : Thread nD τ).loc main_arg3)
  onehot := m ((c : Thread nD τ).loc main_arg4)
  cemb := m ((c : Thread nD τ).loc main_arg5)
  cWih := m ((c : Thread nD τ).loc main_arg6)
  cWhh := m ((c : Thread nD τ).loc main_arg7)
  cbih := m ((c : Thread nD τ).loc main_arg8)
  cbhh := m ((c : Thread nD τ).loc main_arg9)
  fWih := m ((c : Thread nD τ).loc main_arg10)
  fWhh := m ((c : Thread nD τ).loc main_arg11)
  fbih := m ((c : Thread nD τ).loc main_arg12)
  fbhh := m ((c : Thread nD τ).loc main_arg13)
  bWih := m ((c : Thread nD τ).loc main_arg14)
  bWhh := m ((c : Thread nD τ).loc main_arg15)
  bbih := m ((c : Thread nD τ).loc main_arg16)
  bbhh := m ((c : Thread nD τ).loc main_arg17)

/-- After the first two host stretches each argument is as launched. -/
theorem W2_arg (a : Ref sig .tc) (h : a ∈ argRefs) : W2 m ρ c (Proc.devRef .tc a) = m ((c : Thread nD τ).loc a) := W2_args m ρ c a h

/-- The first call takes the characters, as floats. -/
theorem V3_v16 (h : (argsOf m c).InTable) (i : Fin 8192) (k : ℕ) (hk : k < 16) : V3 m ρ c main_v16 (ix2 i (⟨k, hk⟩ : Fin 16))
    = FloatOps.sitofp (F := Ideal) FTy.bf16 (BitVec.ofNat 32 ((argsOf m c).charOf i k)) := by
  refine (v16_at (W2 m ρ c) i ⟨k, hk⟩).trans ?_
  rw [W2_arg m ρ c main_arg0 (by decide), ← Args.chars_eq _ h i ⟨k, hk⟩]
  rfl

/-- It takes the position of the last character of each word, as a float. -/
theorem V3_v5 (i : Fin 8192) (j : Fin 64) : V3 m ρ c main_v5 (ix2 i j)
    = FloatOps.sitofp (F := Ideal) FTy.bf16 (BitVec.ofNat 32 ((argsOf m c).lastOf i)) := by
  refine (v5_at (W2 m ρ c) i j).trans ?_
  refine congrArg (FloatOps.sitofp (F := Ideal) FTy.bf16) ?_
  rw [← Args.lastWord_eq]
  refine (v2_at (W1 m ρ c) i).trans ?_
  refine congrArg₂ IntOp.minsi (c_1_at _) (congrArg₂ IntOp.maxsi (c_0_at _) ?_)
  exact v1_at (W0 m ρ c) i

/-- It takes the character input weights, transposed. -/
theorem V3_v17 (k : Fin 64) (g : Fin 192) : V3 m ρ c main_v17 (ix2 k g) = (argsOf m c).cWih (ix2 g k) := by
  refine (v17_at (W2 m ρ c) k g).trans ?_
  rw [W2_arg m ρ c main_arg6 (by decide)]
  rfl

/-- It takes the character hidden weights, transposed. -/
theorem V3_v19 (k : Fin 64) (g : Fin 192) : V3 m ρ c main_v19 (ix2 k g) = (argsOf m c).cWhh (ix2 g k) := by
  refine (v19_at (W2 m ρ c) k g).trans ?_
  rw [W2_arg m ρ c main_arg7 (by decide)]
  rfl

/-- It takes the character input biases. -/
theorem V3_v20 (g : Fin 192) : V3 m ρ c main_v20 (ix2 (0 : Fin 1) g) = (argsOf m c).cbih (ix1 g) := by
  refine (v20_at (W2 m ρ c) g).trans ?_
  rw [W2_arg m ρ c main_arg8 (by decide)]
  rfl

/-- It takes the character hidden biases. -/
theorem V3_v21 (g : Fin 192) : V3 m ρ c main_v21 (ix2 (0 : Fin 1) g) = (argsOf m c).cbhh (ix1 g) := by
  refine (v21_at (W2 m ρ c) g).trans ?_
  rw [W2_arg m ρ c main_arg9 (by decide)]
  rfl

/-- It takes the embedding table. -/
theorem V3_arg5 : V3 m ρ c main_arg5 = (argsOf m c).cemb := W3_args m ρ c main_arg5 (by decide)

/-- A word lies at its position. -/
theorem word_div (t : Fin 64) (s : Fin 128) : (⟨(Args.word t s).val / 128, by omega⟩ : Fin 64) = t := by
  refine Fin.ext ?_
  show (t.val * 128 + s.val) / 128 = t.val
  omega

/-- A word lies in its sentence. -/
theorem word_mod (t : Fin 64) (s : Fin 128) : (⟨(Args.word t s).val % 128, by omega⟩ : Fin 128) = s := by
  refine Fin.ext ?_
  show (t.val * 128 + s.val) % 128 = s.val
  omega

/-- The first call takes the ELMo features of each word. -/
theorem V3_v22 (t : Fin 64) (s : Fin 128) (k : Fin 1024) : V3 m ρ c main_v22 (ix2 (Args.word t s) k) = (argsOf m c).elmo (ix3 t s k) := by
  refine (v22_at (W2 m ρ c) (Args.word t s) k).trans ?_
  rw [W2_arg m ρ c main_arg2 (by decide)]
  rw [word_div, word_mod]
  rfl

/-- It takes the GloVe features of each word. -/
theorem V3_v23 (t : Fin 64) (s : Fin 128) (k : Fin 300) : V3 m ρ c main_v23 (ix2 (Args.word t s) k) = (argsOf m c).glove (ix3 t s k) := by
  refine (v23_at (W2 m ρ c) (Args.word t s) k).trans ?_
  rw [W2_arg m ρ c main_arg3 (by decide)]
  rw [word_div, word_mod]
  rfl

/-- It takes the one-hot features of each word. -/
theorem V3_v24 (t : Fin 64) (s : Fin 128) (k : Fin 7) : V3 m ρ c main_v24 (ix2 (Args.word t s) k) = (argsOf m c).onehot (ix3 t s k) := by
  refine (v24_at (W2 m ρ c) (Args.word t s) k).trans ?_
  rw [W2_arg m ρ c main_arg4 (by decide)]
  rw [word_div, word_mod]
  rfl

/-! The forward half of the concatenated input weights and biases. -/

/-- The forward input weights of the ELMo features. -/
theorem V3_v10f (k : Fin 1024) (g : Fin 768) : V3 m ρ c main_v10 (ix2 k (⟨g.val, by omega⟩ : Fin 1536)) = (argsOf m c).fWih (ix2 g (⟨k.val, by omega⟩ : Fin 1395)) := by
  refine (v10_at (W2 m ρ c) k _).trans ?_
  rw [dif_pos g.isLt, W2_arg m ρ c main_arg10 (by decide)]
  rfl

/-- The forward input weights of the GloVe features. -/
theorem V3_v11f (k : Fin 300) (g : Fin 768) : V3 m ρ c main_v11 (ix2 k (⟨g.val, by omega⟩ : Fin 1536)) = (argsOf m c).fWih (ix2 g (⟨1024 + k.val, by omega⟩ : Fin 1395)) := by
  refine (v11_at (W2 m ρ c) k _).trans ?_
  rw [dif_pos g.isLt, W2_arg m ρ c main_arg10 (by decide)]
  rfl

/-- The forward input weights of the character features. -/
theorem V3_v12f (k : Fin 64) (g : Fin 768) : V3 m ρ c main_v12 (ix2 k (⟨g.val, by omega⟩ : Fin 1536)) = (argsOf m c).fWih (ix2 g (⟨1324 + k.val, by omega⟩ : Fin 1395)) := by
  refine (v12_at (W2 m ρ c) k _).trans ?_
  rw [dif_pos g.isLt, W2_arg m ρ c main_arg10 (by decide)]
  rfl

/-- The forward input weights of the one-hot features. -/
theorem V3_v13f (k : Fin 7) (g : Fin 768) : V3 m ρ c main_v13 (ix2 k (⟨g.val, by omega⟩ : Fin 1536)) = (argsOf m c).fWih (ix2 g (⟨1388 + k.val, by omega⟩ : Fin 1395)) := by
  refine (v13_at (W2 m ρ c) k _).trans ?_
  rw [dif_pos g.isLt, W2_arg m ρ c main_arg10 (by decide)]
  rfl

/-- The forward input biases. -/
theorem V3_v15f (g : Fin 768) : V3 m ρ c main_v15 (ix2 (0 : Fin 1) (⟨g.val, by omega⟩ : Fin 1536)) = (argsOf m c).fbih (ix1 g) := by
  refine (v15_at (W2 m ρ c) _).trans ?_
  rw [dif_pos g.isLt, W2_arg m ρ c main_arg12 (by decide)]
  rfl

/-! The backward half of the concatenated input weights and biases. -/

/-- The backward input weights of the ELMo features. -/
theorem V3_v10b (k : Fin 1024) (g : Fin 768) : V3 m ρ c main_v10 (ix2 k (⟨768 + g.val, by omega⟩ : Fin 1536)) = (argsOf m c).bWih (ix2 g (⟨k.val, by omega⟩ : Fin 1395)) := by
  refine (v10_at (W2 m ρ c) k _).trans ?_
  rw [dif_neg (show ¬ 768 + g.val < 768 by omega), W2_arg m ρ c main_arg14 (by decide)]
  simp only [Nat.add_sub_cancel_left]
  rfl

/-- The backward input weights of the GloVe features. -/
theorem V3_v11b (k : Fin 300) (g : Fin 768) : V3 m ρ c main_v11 (ix2 k (⟨768 + g.val, by omega⟩ : Fin 1536)) = (argsOf m c).bWih (ix2 g (⟨1024 + k.val, by omega⟩ : Fin 1395)) := by
  refine (v11_at (W2 m ρ c) k _).trans ?_
  rw [dif_neg (show ¬ 768 + g.val < 768 by omega), W2_arg m ρ c main_arg14 (by decide)]
  simp only [Nat.add_sub_cancel_left]
  rfl

/-- The backward input weights of the character features. -/
theorem V3_v12b (k : Fin 64) (g : Fin 768) : V3 m ρ c main_v12 (ix2 k (⟨768 + g.val, by omega⟩ : Fin 1536)) = (argsOf m c).bWih (ix2 g (⟨1324 + k.val, by omega⟩ : Fin 1395)) := by
  refine (v12_at (W2 m ρ c) k _).trans ?_
  rw [dif_neg (show ¬ 768 + g.val < 768 by omega), W2_arg m ρ c main_arg14 (by decide)]
  simp only [Nat.add_sub_cancel_left]
  rfl

/-- The backward input weights of the one-hot features. -/
theorem V3_v13b (k : Fin 7) (g : Fin 768) : V3 m ρ c main_v13 (ix2 k (⟨768 + g.val, by omega⟩ : Fin 1536)) = (argsOf m c).bWih (ix2 g (⟨1388 + k.val, by omega⟩ : Fin 1395)) := by
  refine (v13_at (W2 m ρ c) k _).trans ?_
  rw [dif_neg (show ¬ 768 + g.val < 768 by omega), W2_arg m ρ c main_arg14 (by decide)]
  simp only [Nat.add_sub_cancel_left]
  rfl

/-- The backward input biases. -/
theorem V3_v15b (g : Fin 768) : V3 m ρ c main_v15 (ix2 (0 : Fin 1) (⟨768 + g.val, by omega⟩ : Fin 1536)) = (argsOf m c).bbih (ix1 g) := by
  refine (v15_at (W2 m ρ c) _).trans ?_
  rw [dif_neg (show ¬ 768 + g.val < 768 by omega), W2_arg m ρ c main_arg16 (by decide)]
  simp only [Nat.add_sub_cancel_left]
  rfl

/-- The character features that the first pallas_call computes are the specification's. -/
theorem chars_eq (i : Fin 8192) : charState (fun x k => V3 m ρ c main_arg5 (ix2 x k)) (fun g k => V3 m ρ c main_v17 (ix2 k g))
    (fun g => V3 m ρ c main_v20 (ix2 (0 : Fin 1) g)) (fun g k => V3 m ρ c main_v19 (ix2 k g)) (fun g => V3 m ρ c main_v21 (ix2 (0 : Fin 1) g))
    ((argsOf m c).charOf i) ((argsOf m c).lastOf i + 1) = (argsOf m c).wordChars i := by
  have e0 := V3_arg5 m ρ c
  have e1 := fun k g => V3_v17 m ρ c k g
  have e2 := fun g => V3_v20 m ρ c g
  have e3 := fun k g => V3_v19 m ρ c k g
  have e4 := fun g => V3_v21 m ρ c g
  unfold Args.wordChars
  simp only [e0, e1, e2, e3, e4]

/-- The forward input gates of a word. -/
theorem gateAt_f (t : Fin 64) (s : Fin 128) (g : Fin 768) :
    gateAt (V3 m ρ) c ((argsOf m c).charOf (Args.word t s)) ((argsOf m c).lastOf (Args.word t s)) (Args.word t s) (⟨g.val, by omega⟩ : Fin 1536)
      = (argsOf m c).inputGate (argsOf m c).fWih (argsOf m c).fbih t s g := by
  have e0 := fun k => V3_v22 m ρ c t s k
  have e1 := fun k => V3_v23 m ρ c t s k
  have e2 := fun k => V3_v24 m ρ c t s k
  have w0 := fun k => V3_v10f m ρ c k g
  have w1 := fun k => V3_v11f m ρ c k g
  have w2 := fun k => V3_v12f m ρ c k g
  have w3 := fun k => V3_v13f m ρ c k g
  have wb := V3_v15f m ρ c g
  unfold gateAt Args.inputGate
  simp only [e0, e1, e2, w0, w1, w2, w3, wb, chars_eq]

/-- The backward input gates of a word. -/
theorem gateAt_b (t : Fin 64) (s : Fin 128) (g : Fin 768) :
    gateAt (V3 m ρ) c ((argsOf m c).charOf (Args.word t s)) ((argsOf m c).lastOf (Args.word t s)) (Args.word t s) (⟨768 + g.val, by omega⟩ : Fin 1536)
      = (argsOf m c).inputGate (argsOf m c).bWih (argsOf m c).bbih t s g := by
  have e0 := fun k => V3_v22 m ρ c t s k
  have e1 := fun k => V3_v23 m ρ c t s k
  have e2 := fun k => V3_v24 m ρ c t s k
  have w0 := fun k => V3_v10b m ρ c k g
  have w1 := fun k => V3_v11b m ρ c k g
  have w2 := fun k => V3_v12b m ρ c k g
  have w3 := fun k => V3_v13b m ρ c k g
  have wb := V3_v15b m ρ c g
  unfold gateAt Args.inputGate
  simp only [e0, e1, e2, w0, w1, w2, w3, wb, chars_eq]

/-- The array of input gates that the second pallas_call takes. -/
theorem V5_v26 (h : (argsOf m c).InTable) (t : Fin 64) (s : Fin 128) (g : Fin 1536) : V5 m ρ c main_v26 (ix3 t s g)
    = gateAt (V3 m ρ) c ((argsOf m c).charOf (Args.word t s)) ((argsOf m c).lastOf (Args.word t s)) (Args.word t s) g := by
  refine (v26_at (W4 m ρ c) t s g).trans ?_
  refine (congrFun (W4_arr m ρ c 15) (ix2 (Args.word t s) g)).trans ?_
  rw [gates_eq (V3 m ρ) c (fun i => (argsOf m c).charOf i) (fun i => (argsOf m c).lastOf i) (Args.lastOf_lt _) (V3_v16 m ρ c h) (V3_v5 m ρ c)]
  rfl

/-- The second call takes the forward hidden weights, transposed. -/
theorem V5_v28 (k : Fin 256) (g : Fin 768) : V5 m ρ c main_v28 (ix2 k g) = (argsOf m c).fWhh (ix2 g k) := by
  refine (v28_at (W4 m ρ c) k g).trans ?_
  rw [W4_args m ρ c main_arg11 (by decide)]
  rfl

/-- It takes the backward hidden weights, transposed. -/
theorem V5_v30 (k : Fin 256) (g : Fin 768) : V5 m ρ c main_v30 (ix2 k g) = (argsOf m c).bWhh (ix2 g k) := by
  refine (v30_at (W4 m ρ c) k g).trans ?_
  rw [W4_args m ρ c main_arg15 (by decide)]
  rfl

/-- It takes the forward hidden biases. -/
theorem V5_v31 (g : Fin 768) : V5 m ρ c main_v31 (ix2 (0 : Fin 1) g) = (argsOf m c).fbhh (ix1 g) := by
  refine (v31_at (W4 m ρ c) g).trans ?_
  rw [W4_args m ρ c main_arg13 (by decide)]
  rfl

/-- It takes the backward hidden biases. -/
theorem V5_v32 (g : Fin 768) : V5 m ρ c main_v32 (ix2 (0 : Fin 1) g) = (argsOf m c).bbhh (ix1 g) := by
  refine (v32_at (W4 m ρ c) g).trans ?_
  rw [W4_args m ρ c main_arg17 (by decide)]
  rfl

/-- The forward state of the second pallas_call after `n` steps. -/
theorem HF_eq (h : (argsOf m c).InTable) (s : Fin 128) (n : ℕ) (hn : n ≤ 64) (j : Fin 256) :
    HF (V5 m ρ) c n (ix2 s j) = (argsOf m c).forward s n j := by
  refine (HF_apply (V5 m ρ) c s n hn j).trans ?_
  have e : gatesF (V5 m ρ) c s = fun n => (argsOf m c).inputGate (argsOf m c).fWih (argsOf m c).fbih ⟨n % 64, Nat.mod_lt _ (by norm_num)⟩ s := by
    funext k g
    unfold gatesF
    exact (V5_v26 m ρ c h _ s _).trans (gateAt_f m ρ c _ s g)
  rw [e]
  have e1 := fun k g => V5_v28 m ρ c k g
  have e2 := fun g => V5_v31 m ρ c g
  unfold Args.forward
  simp only [e1, e2]

/-- The backward state of the second pallas_call after `n` steps. -/
theorem HB_eq (h : (argsOf m c).InTable) (s : Fin 128) (n : ℕ) (hn : n ≤ 64) (j : Fin 256) :
    HB (V5 m ρ) c n (ix2 s j) = (argsOf m c).backward s n j := by
  refine (HB_apply (V5 m ρ) c s n hn j).trans ?_
  have e : gatesB (V5 m ρ) c s = fun n => (argsOf m c).inputGate (argsOf m c).bWih (argsOf m c).bbih ⟨63 - n, by omega⟩ s := by
    funext k g
    unfold gatesB
    exact (V5_v26 m ρ c h _ s _).trans (gateAt_b m ρ c _ s g)
  rw [e]
  have e1 := fun k g => V5_v30 m ρ c k g
  have e2 := fun g => V5_v32 m ρ c g
  unfold Args.backward
  simp only [e1, e2]

/-- What the kernel's program leaves in its result, in its argument arrays. -/
theorem outFinal_eq (h : (argsOf m c).InTable) :
    outFinal (V5 m ρ) c = fun y : S64x128x512.Idx => (argsOf m c).result (y 0) (y 1) (y 2) := by
  funext y
  unfold outFinal outAt Args.result
  split
  · exact HF_eq m ρ c h _ _ (by have := (y 0).isLt; exact this) _
  · exact HB_eq m ρ c h _ _ (by omega) _

end Cert.KernelIdeal.Val

end
-- ==== Proof.ReferenceIdealCell.lean ====
/- One turn of the reference's loop read at an index: the two cells it computes and the rows it writes. -/
module

public import proofs.«01_k».proof.Proof.Gen.ReferenceIdeal.Run
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Val

open Idealize.ShloMosaic Cert.ReferenceIdeal Cert.ReferenceIdeal.Gen Cert.Spec
open Idealize.ShloMosaic.TcCoe

/-- A word below `64`, read signed, is its number. -/
theorem toInt_count (n : ℕ) (h : n < 64) : (BitVec.ofNat 32 n).toInt = (n : ℤ) :=
  (by decide : ∀ n : Fin 64, (BitVec.ofNat 32 n.val).toInt = (n.val : ℤ)) ⟨n, h⟩

/-- A row written into an array of rows at a start `(n, 0, 0)`, read at an index: the row in place `n`, the array elsewhere. -/
theorem update_row {α : Type} (x : S64x128x256.Idx → α) (u : S1x128x256.Idx → α) (st : Fin 3 → ℤ) (h : S64x128x256.Slices (fun _ => 0) S1x128x256)
    (n : ℕ) (hn : n < 64) (h0 : st 0 = n) (h1 : st 1 = 0) (h2 : st 2 = 0) (t : Fin 64) (s : Fin 128) (j : Fin 256) :
    Host.dynamicUpdateSlice x u st h (ix3 t s j) = if t.val = n then u (ix3 (0 : Fin 1) s j) else x (ix3 t s j) := by
  have c0 : Host.clampedStart S64x128x256 S1x128x256 h.1 st 0 = n := Host.clampedStart_of_le h.1 st 0 n h0 (by show n + 1 ≤ 64; omega)
  have c1 : Host.clampedStart S64x128x256 S1x128x256 h.1 st 1 = 0 := Host.clampedStart_of_le h.1 st 1 0 h1 (by show 0 + 128 ≤ 128; omega)
  have c2 : Host.clampedStart S64x128x256 S1x128x256 h.1 st 2 = 0 := Host.clampedStart_of_le h.1 st 2 0 h2 (by show 0 + 256 ≤ 256; omega)
  rw [Host.dynamicUpdateSlice_apply]
  by_cases e : t.val = n
  · rw [if_pos e, dif_pos]
    · refine congrArg u (funext fun b => Fin.ext ?_)
      match b with
      | ⟨0, _⟩ => show t.val - Host.clampedStart S64x128x256 S1x128x256 h.1 st 0 = 0; rw [c0]; omega
      | ⟨1, _⟩ => show s.val - Host.clampedStart S64x128x256 S1x128x256 h.1 st 1 = s.val; rw [c1]; omega
      | ⟨2, _⟩ => show j.val - Host.clampedStart S64x128x256 S1x128x256 h.1 st 2 = j.val; rw [c2]; omega
    · intro a
      match a with
      | ⟨0, _⟩ =>
        show Host.clampedStart S64x128x256 S1x128x256 h.1 st 0 ≤ t.val ∧ t.val < Host.clampedStart S64x128x256 S1x128x256 h.1 st 0 + 1
        rw [c0]; omega
      | ⟨1, _⟩ =>
        show Host.clampedStart S64x128x256 S1x128x256 h.1 st 1 ≤ s.val ∧ s.val < Host.clampedStart S64x128x256 S1x128x256 h.1 st 1 + 128
        rw [c1]; omega
      | ⟨2, _⟩ =>
        show Host.clampedStart S64x128x256 S1x128x256 h.1 st 2 ≤ j.val ∧ j.val < Host.clampedStart S64x128x256 S1x128x256 h.1 st 2 + 256
        rw [c2]; omega
  · rw [if_neg e, dif_neg]
    intro hall
    have ha : Host.clampedStart S64x128x256 S1x128x256 h.1 st 0 ≤ t.val ∧ t.val < Host.clampedStart S64x128x256 S1x128x256 h.1 st 0 + 1 := hall 0
    rw [c0] at ha
    omega

/-- Where the row of an array at a start `(n, 0, 0)` begins, coordinate by coordinate: nothing is clamped. -/
theorem slice_start (st : Fin 3 → ℤ) (h : S1x128x1395.rank = S64x128x1395.rank)
    (n : ℕ) (hn : n < 64) (h0 : st 0 = n) (h1 : st 1 = 0) (h2 : st 2 = 0) :
    Host.clampedStart S64x128x1395 S1x128x1395 h st 0 = n ∧ Host.clampedStart S64x128x1395 S1x128x1395 h st 1 = 0
      ∧ Host.clampedStart S64x128x1395 S1x128x1395 h st 2 = 0 :=
  ⟨Host.clampedStart_of_le h st 0 n h0 (by show n + 1 ≤ 64; omega), Host.clampedStart_of_le h st 1 0 h1 (by show 0 + 128 ≤ 128; omega),
    Host.clampedStart_of_le h st 2 0 h2 (by show 0 + 1395 ≤ 1395; omega)⟩

variable (V : Valuation τ sig (Elt Ideal)) (n : ℕ) (hn : n < 64)

/-- Where a turn's row starts. -/
abbrev start (k : Fin 3) : ℤ :=
  (((![V (Proc.devRef .tc main_v671_10), constantI S_ 32 0#32, constantI S_ 32 0#32] : Fin 3 → (⟨S_, .i32⟩ : BufTy).Contents (Elt Ideal)))
    k (Shape.Idx.first h_S_)).toInt

include hn in
/-- The start of a row: the counter along the positions, zero along the rest. -/
theorem start_at (hc : V (Proc.devRef .tc main_v671_10) ix0 = BitVec.ofNat 32 n) (k : Fin 3) : start V k = (![(n : ℤ), 0, 0] : Fin 3 → ℤ) k := by
  have e : (Shape.Idx.first h_S_ : S_.Idx) = ix0 := Subsingleton.elim _ _
  match k with
  | ⟨0, _⟩ =>
    show (V (Proc.devRef .tc main_v671_10) (Shape.Idx.first h_S_)).toInt = n
    rw [e, hc, toInt_count n hn]
  | ⟨1, _⟩ => rfl
  | ⟨2, _⟩ => rfl

/-- The forward input gates of a turn: the features of the position the counter names. -/
theorem gi_fwd (hc : V (Proc.devRef .tc main_v671_10) ix0 = BitVec.ofNat 32 n) (s : Fin 128) (g : Fin 768) :
    Value.res_main_while0b_v680 V (ix2 s g)
      = affine (fun k => V (Proc.devRef .tc main_v671_0) (ix3 (⟨n, hn⟩ : Fin 64) s k)) (fun k => V (Proc.devRef .tc main_v671_2) (ix2 g k)) (V (Proc.devRef .tc main_v671_3) (ix1 g)) := by
  obtain ⟨c0, c1, c2⟩ := slice_start (start V) sliceFits_S64x128x1395_S1x128x1395.1 n hn (start_at V n hn hc 0) (start_at V n hn hc 1) (start_at V n hn hc 2)
  pointwise [Value.res_main_while0b_v680]
  refine congrArg (· + V (Proc.devRef .tc main_v671_3) (ix1 g)) (Finset.sum_congr rfl fun k _ => congrArg (· * V (Proc.devRef .tc main_v671_2) (ix2 g k))
    (congrArg (V (Proc.devRef .tc main_v671_0)) (funext fun b => Fin.ext ?_)))
  match b with
  | ⟨0, _⟩ => exact c0
  | ⟨1, _⟩ => exact (congrArg (· + s.val) c1).trans (Nat.zero_add _)
  | ⟨2, _⟩ => exact (congrArg (· + k.val) c2).trans (Nat.zero_add _)

/-- The backward input gates of a turn. -/
theorem gi_bwd (hc : V (Proc.devRef .tc main_v671_10) ix0 = BitVec.ofNat 32 n) (s : Fin 128) (g : Fin 768) :
    Value.res_main_while0b_v718 V (ix2 s g)
      = affine (fun k => V (Proc.devRef .tc main_v671_1) (ix3 (⟨n, hn⟩ : Fin 64) s k)) (fun k => V (Proc.devRef .tc main_v671_6) (ix2 g k)) (V (Proc.devRef .tc main_v671_7) (ix1 g)) := by
  obtain ⟨c0, c1, c2⟩ := slice_start (start V) sliceFits_S64x128x1395_S1x128x1395.1 n hn (start_at V n hn hc 0) (start_at V n hn hc 1) (start_at V n hn hc 2)
  pointwise [Value.res_main_while0b_v718]
  refine congrArg (· + V (Proc.devRef .tc main_v671_7) (ix1 g)) (Finset.sum_congr rfl fun k _ => congrArg (· * V (Proc.devRef .tc main_v671_6) (ix2 g k))
    (congrArg (V (Proc.devRef .tc main_v671_1)) (funext fun b => Fin.ext ?_)))
  match b with
  | ⟨0, _⟩ => exact c0
  | ⟨1, _⟩ => exact (congrArg (· + s.val) c1).trans (Nat.zero_add _)
  | ⟨2, _⟩ => exact (congrArg (· + k.val) c2).trans (Nat.zero_add _)

/-- The forward hidden gates of a turn. -/
theorem gh_fwd (s : Fin 128) (g : Fin 768) :
    Value.res_main_while0b_v685 V (ix2 s g)
      = affine (fun k => V (Proc.devRef .tc main_v671_11) (ix2 s k)) (fun k => V (Proc.devRef .tc main_v671_4) (ix2 g k)) (V (Proc.devRef .tc main_v671_5) (ix1 g)) := by
  pointwise [Value.res_main_while0b_v685]
  rfl

/-- The backward hidden gates of a turn. -/
theorem gh_bwd (s : Fin 128) (g : Fin 768) :
    Value.res_main_while0b_v723 V (ix2 s g)
      = affine (fun k => V (Proc.devRef .tc main_v671_12) (ix2 s k)) (fun k => V (Proc.devRef .tc main_v671_8) (ix2 g k)) (V (Proc.devRef .tc main_v671_9) (ix1 g)) := by
  pointwise [Value.res_main_while0b_v723]
  rfl

include hn in
/-- The forward state after a turn: one cell on the state before it. -/
theorem cell_fwd (hc : V (Proc.devRef .tc main_v671_10) ix0 = BitVec.ofNat 32 n) (s : Fin 128) (j : Fin 256) :
    Value.res_main_while0b_v713 V (ix2 s j)
      = cell (H := 256) (G := 768) rfl (fun g k => V (Proc.devRef .tc main_v671_4) (ix2 g k)) (fun g => V (Proc.devRef .tc main_v671_5) (ix1 g))
          (fun g => affine (fun k => V (Proc.devRef .tc main_v671_0) (ix3 (⟨n, hn⟩ : Fin 64) s k)) (fun k => V (Proc.devRef .tc main_v671_2) (ix2 g k)) (V (Proc.devRef .tc main_v671_3) (ix1 g)))
          (fun k => V (Proc.devRef .tc main_v671_11) (ix2 s k)) j := by
  pointwise [Value.res_main_while0b_v713, Value.res_main_while0b_v705]
  simp only [gi_fwd V n hn hc, gh_fwd V]
  rfl

include hn in
/-- The backward state after a turn. -/
theorem cell_bwd (hc : V (Proc.devRef .tc main_v671_10) ix0 = BitVec.ofNat 32 n) (s : Fin 128) (j : Fin 256) :
    Value.res_main_while0b_v751 V (ix2 s j)
      = cell (H := 256) (G := 768) rfl (fun g k => V (Proc.devRef .tc main_v671_8) (ix2 g k)) (fun g => V (Proc.devRef .tc main_v671_9) (ix1 g))
          (fun g => affine (fun k => V (Proc.devRef .tc main_v671_1) (ix3 (⟨n, hn⟩ : Fin 64) s k)) (fun k => V (Proc.devRef .tc main_v671_6) (ix2 g k)) (V (Proc.devRef .tc main_v671_7) (ix1 g)))
          (fun k => V (Proc.devRef .tc main_v671_12) (ix2 s k)) j := by
  pointwise [Value.res_main_while0b_v751, Value.res_main_while0b_v743]
  simp only [gi_bwd V n hn hc, gh_bwd V]
  rfl

include hn in
/-- The array of forward states after a turn: the new state in the counter's row, the other rows as they were. -/
theorem rows_fwd (hc : V (Proc.devRef .tc main_v671_10) ix0 = BitVec.ofNat 32 n) (t : Fin 64) (s : Fin 128) (j : Fin 256) :
    Value.STEP V (Proc.devRef .tc main_v671_13) (ix3 t s j)
      = if t.val = n then Value.res_main_while0b_v713 V (ix2 s j) else V (Proc.devRef .tc main_v671_13) (ix3 t s j) := by
  rw [Value.STEP_main_v671_13, Value.step_main_v671_13, id]
  refine (update_row _ _ _ _ n hn (start_at V n hn hc 0) (start_at V n hn hc 1) (start_at V n hn hc 2) t s j).trans ?_
  pointwise []

include hn in
/-- The array of backward states after a turn. -/
theorem rows_bwd (hc : V (Proc.devRef .tc main_v671_10) ix0 = BitVec.ofNat 32 n) (t : Fin 64) (s : Fin 128) (j : Fin 256) :
    Value.STEP V (Proc.devRef .tc main_v671_14) (ix3 t s j)
      = if t.val = n then Value.res_main_while0b_v751 V (ix2 s j) else V (Proc.devRef .tc main_v671_14) (ix3 t s j) := by
  rw [Value.STEP_main_v671_14, Value.step_main_v671_14, id]
  refine (update_row _ _ _ _ n hn (start_at V n hn hc 0) (start_at V n hn hc 1) (start_at V n hn hc 2) t s j).trans ?_
  pointwise []

end Cert.ReferenceIdeal.Val

end
-- ==== Proof.ReferenceIdealChar.lean ====
/- The character recurrence of the reference: the sixteen steps of its host lines, and the states they stack. -/
module

public import proofs.«01_k».proof.Proof.Gen.ReferenceIdeal.Run
public import proofs.«01_k».proof.Proof.Spec
public import Idealize.ShloMosaic.Lib.StableHlo.ReadAt
public import Idealize.ShloMosaic.Lib.Pointwise
@[expose] public section
set_option maxRecDepth 16384
noncomputable section
namespace Cert.ReferenceIdeal.Val
open Idealize.ShloMosaic Cert.ReferenceIdeal Cert.ReferenceIdeal.Gen
open Idealize.ShloMosaic.TcCoe Cert.Spec

/-- The lines of the character step `k`. -/
abbrev win (k : ℕ) : List (HloOp τ sig (Elt Ideal)) := (hostOps0_1.drop (2 + 45 * k)).take 45
variable (U : Valuation τ sig (Elt Ideal))
/-- The hidden state after `n` character steps, as the lines name it. -/
def stateOf : ℕ → Fin 8192 → Fin 64 → EReal
  | 0 => fun i j => U (Proc.devRef .tc main_v1) (ix2 i j)
  | 1 => fun i j => U (Proc.devRef .tc main_v41) (ix2 i j)
  | 2 => fun i j => U (Proc.devRef .tc main_v81) (ix2 i j)
  | 3 => fun i j => U (Proc.devRef .tc main_v121) (ix2 i j)
  | 4 => fun i j => U (Proc.devRef .tc main_v161) (ix2 i j)
  | 5 => fun i j => U (Proc.devRef .tc main_v201) (ix2 i j)
  | 6 => fun i j => U (Proc.devRef .tc main_v241) (ix2 i j)
  | 7 => fun i j => U (Proc.devRef .tc main_v281) (ix2 i j)
  | 8 => fun i j => U (Proc.devRef .tc main_v321) (ix2 i j)
  | 9 => fun i j => U (Proc.devRef .tc main_v361) (ix2 i j)
  | 10 => fun i j => U (Proc.devRef .tc main_v401) (ix2 i j)
  | 11 => fun i j => U (Proc.devRef .tc main_v441) (ix2 i j)
  | 12 => fun i j => U (Proc.devRef .tc main_v481) (ix2 i j)
  | 13 => fun i j => U (Proc.devRef .tc main_v521) (ix2 i j)
  | 14 => fun i j => U (Proc.devRef .tc main_v561) (ix2 i j)
  | 15 => fun i j => U (Proc.devRef .tc main_v601) (ix2 i j)
  | 16 => fun i j => U (Proc.devRef .tc main_v641) (ix2 i j)
  | _ => fun _ _ => 0

set_option maxHeartbeats 8000000 in
/-- One character step: the lines of step `k` are one gated cell on the state before it. -/
theorem step (k : Fin 16) (i : Fin 8192) (j : Fin 64) : stateOf (StableHlo.after (win k) U) (k.val + 1) i j
  = cell (H := 64) (G := 192) rfl (fun g k => U (Proc.devRef .tc main_arg7) (ix2 g k)) (fun g => U (Proc.devRef .tc main_arg9) (ix1 g))
      (fun g => affine (fun x => U (Proc.devRef .tc main_v0) (ix3 i k x)) (fun x => U (Proc.devRef .tc main_arg6) (ix2 g x)) (U (Proc.devRef .tc main_arg8) (ix1 g)))
      (stateOf U k.val i) j := by
  fin_cases k <;>
  · simp only [win, Nat.reduceMul, Nat.reduceAdd, List.drop_succ_cons, List.drop_zero, List.take_succ_cons, List.take_zero, stateOf]
    after_reads_at
    rfl
set_option maxHeartbeats 8000000 in
/-- The stacked states: row `t` is the state after `t + 1` steps. -/
theorem stack (t : Fin 16) (i : Fin 8192) (j : Fin 64) : StableHlo.after (hostOps0_1.drop 722) U (Proc.devRef .tc main_v658) (ix3 i t j) = stateOf U (t.val + 1) i j := by
  fin_cases t <;>
  · simp only [List.drop_succ_cons, List.drop_zero,stateOf]
    after_reads_at
    try after_reads_at

/-- Two stretches of lines run one after the other. -/
theorem after_join (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The buffers after the first `n` character steps. -/
def upTo (n : ℕ) : Valuation τ sig (Elt Ideal) := StableHlo.after (hostOps0_1.take (2 + 45 * n)) U

/-- The next character step runs on the buffers the steps before it left. -/
theorem upTo_succ (n : ℕ) : upTo U (n + 1) = StableHlo.after (win n) (upTo U n) := by
  unfold upTo win
  rw [← after_join, ← List.take_add]
  rfl

/-- What the character lines do not write, they keep. -/
theorem upTo_kept (n : ℕ) {r : Ref sig .tc} (hr : r ∉ Value.hostOps0_1_W) : upTo U n (Proc.devRef .tc r) = U (Proc.devRef .tc r) :=
  StableHlo.after_of_writes_sub (W := Value.hostOps0_1_W) _ U
    (List.forall_iff_forall_mem.2 fun op h => List.forall_iff_forall_mem.1 Value.hostOps0_1_writes op (List.mem_of_mem_take h)) hr

set_option maxHeartbeats 8000000 in
/-- The first state is zero. -/
theorem state_zero (i : Fin 8192) (j : Fin 64) : stateOf (upTo U 0) 0 i j = 0 := by
  simp only [upTo, Nat.mul_zero, Nat.add_zero, List.take_succ_cons, List.take_zero, stateOf]
  after_reads_at

/-- The state after `n` steps, from the table's rows and the weights. -/
theorem state_at (i : Fin 8192) : ∀ n : ℕ, n ≤ 16 → ∀ v : ℕ → Fin 128, ∀ emb : Fin 128 → Fin 64 → EReal,
    (∀ (k : Fin 16) (j : Fin 64), U (Proc.devRef .tc main_v0) (ix3 i k j) = emb (v k.val) j) → ∀ j : Fin 64,
    stateOf (upTo U n) n i j
      = charState emb (fun g k => U (Proc.devRef .tc main_arg6) (ix2 g k)) (fun g => U (Proc.devRef .tc main_arg8) (ix1 g))
          (fun g k => U (Proc.devRef .tc main_arg7) (ix2 g k)) (fun g => U (Proc.devRef .tc main_arg9) (ix1 g)) v n j := by
  intro n
  induction n with
  | zero => exact fun _ v emb _ j => state_zero U i j
  | succ n ih =>
    intro hn v emb hv j
    rw [upTo_succ]
    have hs := step (upTo U n) (⟨n, by omega⟩ : Fin 16) i j
    have h0 : (fun k : Fin 64 => stateOf (upTo U n) n i k) = _ := funext (ih (by omega) v emb hv)
    refine hs.trans ?_
    rw [upTo_kept U n (r := main_arg7) (by decide +kernel), upTo_kept U n (r := main_arg9) (by decide +kernel),
      upTo_kept U n (r := main_arg6) (by decide +kernel), upTo_kept U n (r := main_arg8) (by decide +kernel),
      upTo_kept U n (r := main_v0) (by decide +kernel)]
    simp only [hv]
    exact congrArg (fun h => cell (H := 64) (G := 192) rfl (fun g k => U (Proc.devRef .tc main_arg7) (ix2 g k)) (fun g => U (Proc.devRef .tc main_arg9) (ix1 g))
      (fun g => affine (emb (v n)) (fun x => U (Proc.devRef .tc main_arg6) (ix2 g x)) (U (Proc.devRef .tc main_arg8) (ix1 g))) h j) h0

set_option maxHeartbeats 8000000 in
/-- The steps after step `t` keep the state it leaves. -/
theorem state_kept (t : Fin 16) (V : Valuation τ sig (Elt Ideal)) (i : Fin 8192) (j : Fin 64) :
    stateOf (StableHlo.after ((hostOps0_1.take 722).drop (2 + 45 * (t.val + 1))) V) (t.val + 1) i j = stateOf V (t.val + 1) i j := by
  fin_cases t <;>
  · simp only [Nat.reduceMul, Nat.reduceAdd, List.drop_succ_cons, List.drop_zero, List.take_succ_cons, List.take_zero, stateOf]
    after_reads_at

/-- The stacked states after all the character lines. -/
theorem stack_at (i : Fin 8192) (v : ℕ → Fin 128) (emb : Fin 128 → Fin 64 → EReal)
    (hv : ∀ (k : Fin 16) (j : Fin 64), U (Proc.devRef .tc main_v0) (ix3 i k j) = emb (v k.val) j) (t : Fin 16) (j : Fin 64) :
    StableHlo.after hostOps0_1 U (Proc.devRef .tc main_v658) (ix3 i t j)
      = charState emb (fun g k => U (Proc.devRef .tc main_arg6) (ix2 g k)) (fun g => U (Proc.devRef .tc main_arg8) (ix1 g))
          (fun g k => U (Proc.devRef .tc main_arg7) (ix2 g k)) (fun g => U (Proc.devRef .tc main_arg9) (ix1 g)) v (t.val + 1) j := by
  have h1 : StableHlo.after hostOps0_1 U = StableHlo.after (hostOps0_1.drop 722) (StableHlo.after (hostOps0_1.take 722) U) := by
    rw [← after_join, List.take_append_drop]
  have h2 : StableHlo.after (hostOps0_1.take 722) U
      = StableHlo.after ((hostOps0_1.take 722).drop (2 + 45 * (t.val + 1))) (upTo U (t.val + 1)) := by
    have ht : hostOps0_1.take (2 + 45 * (t.val + 1)) = ((hostOps0_1 : List (HloOp τ sig (Elt Ideal))).take 722).take (2 + 45 * (t.val + 1)) := by
      rw [List.take_take, Nat.min_eq_left (by omega)]
    unfold upTo
    rw [← after_join, ht, List.take_append_drop]
  rw [h1, stack, h2, state_kept]
  exact state_at U i (t.val + 1) (by omega) v emb hv j

end Cert.ReferenceIdeal.Val

end
-- ==== Proof.ReferenceIdealTake.lean ====
/- The two gathers of the reference read at an index: the rows of the character table, and the character state of each word. -/
module

public import proofs.«01_k».proof.Proof.Gen.ReferenceIdeal.Run
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Val

open Idealize.ShloMosaic Cert.ReferenceIdeal Cert.ReferenceIdeal.Gen Cert.Spec
open Idealize.ShloMosaic.TcCoe

variable {α : Type}

/-- The rows of a table at the start indices, read signed and clamped into the table. -/
theorem gather_rows (x : S128x64.Idx → α) (idx : IVec S8192x16x1 32) (i : Fin 8192) (k : Fin 16) (j : Fin 64) :
    Host.gather gather_S128x64_S8192x16x1_S8192x16x64_2_0_n_n_0_2_164 x idx (ix3 i k j)
      = x (ix2 (⟨min (idx (ix3 i k (0 : Fin 1))).toInt.toNat 127, by omega⟩ : Fin 128) j) := by
  refine congrArg x (funext fun a => Fin.ext ?_)
  have hsi : ∀ c, gather_S128x64_S8192x16x1_S8192x16x64_2_0_n_n_0_2_164.siIdx (ix3 i k j) c = ix3 i k (0 : Fin 1) := by
    intro c
    have hc : c.val = 0 := by have : c.val < 1 := c.isLt; omega
    funext b
    refine Fin.ext ?_
    match b with
    | ⟨0, _⟩ => rfl
    | ⟨1, _⟩ => rfl
    | ⟨2, _⟩ => exact hc
  match a with
  | ⟨0, _⟩ =>
    show GatherDims.start _ _ idx 0 + GatherDims.batchCoord _ _ 0 + GatherDims.offCoord _ _ 0 = _
    rw [GatherDims.batchCoord_eq_zero _ _ _ (by decide), GatherDims.offCoord_eq_zero _ _ _ (by decide), GatherDims.start,
      dif_pos (by decide), hsi]
    rfl
  | ⟨1, _⟩ =>
    show GatherDims.start _ _ idx 1 + GatherDims.batchCoord _ _ 1 + GatherDims.offCoord _ _ 1 = _
    rw [GatherDims.batchCoord_eq_zero _ _ _ (by decide), GatherDims.start, dif_neg (by decide), Nat.add_zero, Nat.zero_add]
    rfl

/-- The state of each word at its start index, read signed and clamped into the word. -/
theorem gather_state (x : S8192x16x64.Idx → α) (idx : IVec S8192x1x1 32) (i : Fin 8192) (j : Fin 64) :
    Host.gather gather_S8192x16x64_S8192x1x1_S8192x1x64_2_1_0_0_1_2_1164 x idx (ix3 i (0 : Fin 1) j)
      = x (ix3 i (⟨min (idx (ix3 i (0 : Fin 1) (0 : Fin 1))).toInt.toNat 15, by omega⟩ : Fin 16) j) := by
  refine congrArg x (funext fun a => Fin.ext ?_)
  have hsi : ∀ c, gather_S8192x16x64_S8192x1x1_S8192x1x64_2_1_0_0_1_2_1164.siIdx (ix3 i (0 : Fin 1) j) c = ix3 i (0 : Fin 1) (0 : Fin 1) := by
    intro c
    have hc : c.val = 0 := by have : c.val < 1 := c.isLt; omega
    funext b
    refine Fin.ext ?_
    match b with
    | ⟨0, _⟩ => rfl
    | ⟨1, _⟩ => rfl
    | ⟨2, _⟩ => exact hc
  match a with
  | ⟨0, _⟩ =>
    show GatherDims.start _ _ idx 0 + GatherDims.batchCoord _ _ 0 + GatherDims.offCoord _ _ 0 = _
    rw [GatherDims.start_batching _ _ _ _ (by decide), GatherDims.offCoord_eq_zero _ _ _ (by decide), Nat.add_zero, Nat.zero_add]
    rfl
  | ⟨1, _⟩ =>
    show GatherDims.start _ _ idx 1 + GatherDims.batchCoord _ _ 1 + GatherDims.offCoord _ _ 1 = _
    rw [GatherDims.batchCoord_eq_zero _ _ _ (by decide), GatherDims.offCoord_eq_zero _ _ _ (by decide), GatherDims.start,
      dif_pos (by decide), hsi]
    rfl
  | ⟨2, _⟩ =>
    show GatherDims.start _ _ idx 2 + GatherDims.batchCoord _ _ 2 + GatherDims.offCoord _ _ 2 = _
    rw [GatherDims.batchCoord_eq_zero _ _ _ (by decide), GatherDims.start, dif_neg (by decide), Nat.add_zero, Nat.zero_add]
    rfl

/-- A word below `128` is not negative. -/
theorem slt_zero (n : ℕ) (h : n < 128) : IntOp.cmpi CmpIPredicate.slt (BitVec.ofNat 32 n) 0#32 = 0#1 :=
  (by decide : ∀ n : Fin 128, IntOp.cmpi CmpIPredicate.slt (BitVec.ofNat 32 n.val) 0#32 = 0#1) ⟨n, h⟩

/-- A word below `128` is at least zero. -/
theorem sge_zero (n : ℕ) (h : n < 128) : IntOp.cmpi CmpIPredicate.sge (BitVec.ofNat 32 n) 0#32 = 1#1 :=
  (by decide : ∀ n : Fin 128, IntOp.cmpi CmpIPredicate.sge (BitVec.ofNat 32 n.val) 0#32 = 1#1) ⟨n, h⟩

/-- A word below `128` is at most `127`. -/
theorem sle_127 (n : ℕ) (h : n < 128) : IntOp.cmpi CmpIPredicate.sle (BitVec.ofNat 32 n) 127#32 = 1#1 :=
  (by decide : ∀ n : Fin 128, IntOp.cmpi CmpIPredicate.sle (BitVec.ofNat 32 n.val) 127#32 = 1#1) ⟨n, h⟩

/-- A word below `16` is at most `15`. -/
theorem sle_15 (n : ℕ) (h : n < 16) : IntOp.cmpi CmpIPredicate.sle (BitVec.ofNat 32 n) 15#32 = 1#1 :=
  (by decide : ∀ n : Fin 16, IntOp.cmpi CmpIPredicate.sle (BitVec.ofNat 32 n.val) 15#32 = 1#1) ⟨n, h⟩

/-- A word below `128`, read signed, is its number. -/
theorem toInt_small (n : ℕ) (h : n < 128) : (BitVec.ofNat 32 n).toInt.toNat = n :=
  (by decide : ∀ n : Fin 128, (BitVec.ofNat 32 n.val).toInt.toNat = n.val) ⟨n, h⟩

/-- A selection on a false bit. -/
theorem select_zero (a b : α) : Scalar.select 0#1 a b = b := rfl

/-- A selection on a true bit. -/
theorem select_one (a b : α) : Scalar.select 1#1 a b = a := rfl

/-- The conjunction of one true bit. -/
theorem fold_and_one : Finset.fold IntOp.andi (1#1) (fun _ : Fin 1 => IntOp.andi 1#1 1#1) Finset.univ = 1#1 := by decide

variable (U : Valuation τ sig (Elt Ideal))

/-- The character table's rows, where the characters are in the table. -/
theorem take_at (i : Fin 8192) (k : Fin 16) (j : Fin 64) (n : ℕ) (hn : n < 128) (h : U (Proc.devRef .tc main_arg0) (ix2 i k) = BitVec.ofNat 32 n) :
    StableHlo.after hostOps0 U (Proc.devRef .tc main_v0) (ix3 i k j) = U (Proc.devRef .tc main_arg5) (ix2 (⟨n, hn⟩ : Fin 128) j) := by
  after_reads_at
  rw [gather_rows]
  pointwise []
  simp only [h, slt_zero n hn, select_zero, sge_zero n hn, sle_127 n hn, toInt_small n hn, fold_and_one, select_one]
  refine congrArg (fun r => U (Proc.devRef .tc main_arg5) (ix2 r j)) (Fin.ext ?_)
  show min n 127 = n
  omega

/-- The character state at the clipped position. -/
theorem along_at (i : Fin 8192) (j : Fin 64) (n : ℕ) (hn : n < 16) (h : U (Proc.devRef .tc main_v662) (ix3 i (0 : Fin 1) (0 : Fin 1)) = BitVec.ofNat 32 n) :
    StableHlo.after hostOps0_4 U (Proc.devRef .tc main_v663) (ix3 i (0 : Fin 1) j) = U (Proc.devRef .tc main_v658) (ix3 i (⟨n, hn⟩ : Fin 16) j) := by
  after_reads_at
  rw [gather_state]
  pointwise []
  have h' : ∀ x : Fin 1, U (Proc.devRef .tc main_v662) (ix3 i (0 : Fin 1) x) = BitVec.ofNat 32 n := fun x => by rw [Subsingleton.elim x 0, h]
  have hl : n < 128 := by omega
  simp only [h', slt_zero n hl, select_zero, sge_zero n hl, sle_15 n hn, toInt_small n hl, fold_and_one, select_one]
  refine congrArg (fun r => U (Proc.devRef .tc main_v658) (ix3 i r j)) (Fin.ext ?_)
  show min n 15 = n
  omega

end Cert.ReferenceIdeal.Val

end
-- ==== Proof.ReferenceIdealFeatures.lean ====
/- The reference's host lines before its loop, read in terms of the arguments: each word's character features, the row of features of
   a word, and the input gates they give. -/
module

public import proofs.«01_k».proof.Proof.ReferenceIdealChar
public import proofs.«01_k».proof.Proof.ReferenceIdealTake

@[expose] public section

set_option maxRecDepth 16384

noncomputable section

namespace Cert.ReferenceIdeal.Val

open Idealize.ShloMosaic Cert.ReferenceIdeal Cert.ReferenceIdeal.Gen Cert.Spec
open Idealize.ShloMosaic.TcCoe

variable (U : Valuation τ sig (Elt Ideal))

/-- The problem's arrays, as the argument buffers hold them. -/
def argsAt : Args where
  chars := U (Proc.devRef .tc main_arg0)
  lens := U (Proc.devRef .tc main_arg1)
  elmo := U (Proc.devRef .tc main_arg2)
  glove := U (Proc.devRef .tc main_arg3)
  onehot := U (Proc.devRef .tc main_arg4)
  cemb := U (Proc.devRef .tc main_arg5)
  cWih := U (Proc.devRef .tc main_arg6)
  cWhh := U (Proc.devRef .tc main_arg7)
  cbih := U (Proc.devRef .tc main_arg8)
  cbhh := U (Proc.devRef .tc main_arg9)
  fWih := U (Proc.devRef .tc main_arg10)
  fWhh := U (Proc.devRef .tc main_arg11)
  fbih := U (Proc.devRef .tc main_arg12)
  fbhh := U (Proc.devRef .tc main_arg13)
  bWih := U (Proc.devRef .tc main_arg14)
  bWhh := U (Proc.devRef .tc main_arg15)
  bbih := U (Proc.devRef .tc main_arg16)
  bbhh := U (Proc.devRef .tc main_arg17)

/-- The argument buffers. -/
def argRefs : List (Ref sig .tc) := [main_arg0, main_arg1, main_arg2, main_arg3, main_arg4, main_arg5, main_arg6, main_arg7, main_arg8,
  main_arg9, main_arg10, main_arg11, main_arg12, main_arg13, main_arg14, main_arg15, main_arg16, main_arg17]

/-! ### The buffers after each stretch of host lines -/

/-- After the first host stretch. -/
def U1 : Valuation τ sig (Elt Ideal) := StableHlo.after hostOps0 U

/-- After the first two host stretches. -/
def U2 : Valuation τ sig (Elt Ideal) := StableHlo.after hostOps0_1 (U1 U)

/-- After the first three host stretches. -/
def U3 : Valuation τ sig (Elt Ideal) := StableHlo.after hostOps0_2 (U2 U)

/-- After the first four host stretches. -/
def U4 : Valuation τ sig (Elt Ideal) := StableHlo.after hostOps0_3 (U3 U)

/-- After the first five host stretches. -/
def U5 : Valuation τ sig (Elt Ideal) := StableHlo.after hostOps0_4 (U4 U)

/-- After the first six host stretches. -/
def U6 : Valuation τ sig (Elt Ideal) := StableHlo.after hostOps0_5 (U5 U)

/-- After the first host stretch each argument is as before. -/
theorem U1_arg (a : Ref sig .tc) (h : a ∈ argRefs) : U1 U (Proc.devRef .tc a) = U (Proc.devRef .tc a) :=
  StableHlo.after_of_writes_sub _ _ Value.hostOps0_writes ((by decide +kernel : ∀ a ∈ argRefs, a ∉ Value.hostOps0_W) a h)

/-- After the first two host stretches each argument is as before. -/
theorem U2_arg (a : Ref sig .tc) (h : a ∈ argRefs) : U2 U (Proc.devRef .tc a) = U (Proc.devRef .tc a) :=
  (StableHlo.after_of_writes_sub _ _ Value.hostOps0_1_writes ((by decide +kernel : ∀ a ∈ argRefs, a ∉ Value.hostOps0_1_W) a h)).trans (U1_arg U a h)

/-- After the first five host stretches each argument is as before. -/
theorem U5_arg (a : Ref sig .tc) (h : a ∈ argRefs) : U5 U (Proc.devRef .tc a) = U (Proc.devRef .tc a) :=
  (StableHlo.after_of_writes_sub _ _ Value.hostOps0_4_writes ((by decide +kernel : ∀ a ∈ argRefs, a ∉ Value.hostOps0_4_W) a h)).trans
    ((StableHlo.after_of_writes_sub _ _ Value.hostOps0_3_writes ((by decide +kernel : ∀ a ∈ argRefs, a ∉ Value.hostOps0_3_W) a h)).trans
      ((StableHlo.after_of_writes_sub _ _ Value.hostOps0_2_writes ((by decide +kernel : ∀ a ∈ argRefs, a ∉ Value.hostOps0_2_W) a h)).trans (U2_arg U a h)))

/-! ### The character features -/

/-- A word's length less one. -/
theorem v660_at (V : Valuation τ sig (Elt Ideal)) (i : Fin 8192) :
    StableHlo.after hostOps0_1 V (Proc.devRef .tc main_v660) (ix1 i) = IntOp.subi (V (Proc.devRef .tc main_arg1) (ix1 i)) 1#32 := by
  after_reads_at

/-- The lower bound of the clipping. -/
theorem c_80_at (V : Valuation τ sig (Elt Ideal)) : StableHlo.after hostOps0_1 V (Proc.devRef .tc main_c_80) ix0 = 0#32 := by
  after_reads_at

/-- The upper bound of the clipping. -/
theorem c_81_at (V : Valuation τ sig (Elt Ideal)) : StableHlo.after hostOps0_1 V (Proc.devRef .tc main_c_81) ix0 = 15#32 := by
  after_reads_at

/-- The clip of the length less one to the word. -/
theorem v661_at (V : Valuation τ sig (Elt Ideal)) (i : Fin 8192) :
    StableHlo.after hostOps0_2 V (Proc.devRef .tc main_v661) (ix1 i)
      = IntOp.minsi (V (Proc.devRef .tc main_c_81) ix0) (IntOp.maxsi (V (Proc.devRef .tc main_c_80) ix0) (V (Proc.devRef .tc main_v660) (ix1 i))) := by
  after_reads_at
  rfl

/-- The clipped positions, with two axes of size one more. -/
theorem v662_at (V : Valuation τ sig (Elt Ideal)) (i : Fin 8192) :
    StableHlo.after hostOps0_3 V (Proc.devRef .tc main_v662) (ix3 i (0 : Fin 1) (0 : Fin 1)) = V (Proc.devRef .tc main_v661) (ix1 i) := by
  after_reads_at

/-- The character features, by position and sentence. -/
theorem v665_at (V : Valuation τ sig (Elt Ideal)) (t : Fin 64) (s : Fin 128) (k : Fin 64) :
    StableHlo.after hostOps0_5 V (Proc.devRef .tc main_v665) (ix3 t s k) = V (Proc.devRef .tc main_v663) (ix3 (Args.word t s) (0 : Fin 1) k) := by
  after_reads_at
  rfl

/-- The position whose state a word takes: its last character's. -/
theorem U4_v662 (i : Fin 8192) : U4 U (Proc.devRef .tc main_v662) (ix3 i (0 : Fin 1) (0 : Fin 1)) = BitVec.ofNat 32 ((argsAt U).lastOf i) := by
  refine (v662_at (U3 U) i).trans ((v661_at (U2 U) i).trans ?_)
  rw [← Args.lastWord_eq]
  refine congrArg₂ IntOp.minsi (c_81_at _) (congrArg₂ IntOp.maxsi (c_80_at _) ((v660_at (U1 U) i).trans ?_))
  rw [U1_arg U main_arg1 (by decide)]
  rfl

/-- The states of every word after each of its characters. -/
theorem U4_v658 (h : (argsAt U).InTable) (i : Fin 8192) (t : Fin 16) (j : Fin 64) : U4 U (Proc.devRef .tc main_v658) (ix3 i t j)
    = charState (fun x k => (argsAt U).cemb (ix2 x k)) (fun g k => (argsAt U).cWih (ix2 g k)) (fun g => (argsAt U).cbih (ix1 g))
        (fun g k => (argsAt U).cWhh (ix2 g k)) (fun g => (argsAt U).cbhh (ix1 g)) ((argsAt U).charOf i) (t.val + 1) j := by
  have k3 : U4 U (Proc.devRef .tc main_v658) = U3 U (Proc.devRef .tc main_v658) :=
    StableHlo.after_of_writes_sub _ _ Value.hostOps0_3_writes (by decide +kernel)
  have k2 : U3 U (Proc.devRef .tc main_v658) = U2 U (Proc.devRef .tc main_v658) :=
    StableHlo.after_of_writes_sub _ _ Value.hostOps0_2_writes (by decide +kernel)
  rw [k3, k2]
  refine (stack_at (U1 U) i ((argsAt U).charOf i) (fun x k => (argsAt U).cemb (ix2 x k)) (fun k j => ?_) t j).trans ?_
  · exact take_at U i k j _ ((argsAt U).charOf i k.val).isLt ((argsAt U).chars_eq h i k)
  · rw [U1_arg U main_arg6 (by decide), U1_arg U main_arg7 (by decide), U1_arg U main_arg8 (by decide), U1_arg U main_arg9 (by decide)]
    rfl

/-- The character features of a word. -/
theorem v665_eq (h : (argsAt U).InTable) (t : Fin 64) (s : Fin 128) (k : Fin 64) :
    StableHlo.after hostOps0_5 (U5 U) (Proc.devRef .tc main_v665) (ix3 t s k) = (argsAt U).wordChars (Args.word t s) k :=
  (v665_at (U5 U) t s k).trans ((along_at (U4 U) (Args.word t s) k _ ((argsAt U).lastOf_lt _) (U4_v662 U _)).trans (U4_v658 U h _ _ k))

/-! ### The row of features of a word -/

/-- The first 1024 features of a word are the ELMo ones. -/
theorem piece_elmo (V : Valuation τ sig (Elt Ideal)) (t : Fin 64) (s : Fin 128) (k : Fin 1024) :
    StableHlo.after hostOps0_5 V (Proc.devRef .tc main_v671_0) (ix3 t s (⟨k.val, by omega⟩ : Fin 1395)) = V (Proc.devRef .tc main_arg2) (ix3 t s k) := by
  after_reads_at
  unfold id
  pointwise []
  after_reads_at

/-- The next 300 are the GloVe ones. -/
theorem piece_glove (V : Valuation τ sig (Elt Ideal)) (t : Fin 64) (s : Fin 128) (k : Fin 300) :
    StableHlo.after hostOps0_5 V (Proc.devRef .tc main_v671_0) (ix3 t s (⟨1024 + k.val, by omega⟩ : Fin 1395)) = V (Proc.devRef .tc main_arg3) (ix3 t s k) := by
  after_reads_at
  unfold id
  pointwise []
  after_reads_at

/-- The next 64 are the character ones. -/
theorem piece_chars (V : Valuation τ sig (Elt Ideal)) (t : Fin 64) (s : Fin 128) (k : Fin 64) :
    StableHlo.after hostOps0_5 V (Proc.devRef .tc main_v671_0) (ix3 t s (⟨1324 + k.val, by omega⟩ : Fin 1395))
      = StableHlo.after hostOps0_5 V (Proc.devRef .tc main_v665) (ix3 t s k) := by
  after_reads_at
  unfold id
  pointwise []
  after_reads_at
  rw [dif_neg (by omega), dif_neg (by omega), dif_pos (by omega)]
  exact congrArg (fun r => V (Proc.devRef .tc main_v663) (ix3 (Args.word t s) (0 : Fin 1) r)) (Fin.ext (by show 1324 + k.val - 1024 - 300 = k.val; omega))

/-- The last seven are the one-hot ones. -/
theorem piece_onehot (V : Valuation τ sig (Elt Ideal)) (t : Fin 64) (s : Fin 128) (k : Fin 7) :
    StableHlo.after hostOps0_5 V (Proc.devRef .tc main_v671_0) (ix3 t s (⟨1388 + k.val, by omega⟩ : Fin 1395)) = V (Proc.devRef .tc main_arg4) (ix3 t s k) := by
  after_reads_at
  unfold id
  pointwise []
  after_reads_at
  rw [dif_neg (by omega), dif_neg (by omega), dif_neg (by omega)]
  exact congrArg (fun r => V (Proc.devRef .tc main_arg4) (ix3 t s r)) (Fin.ext (by show 1388 + k.val - 1024 - 300 - 64 = k.val; omega))

/-- Reversing the positions of an array, read at an index. -/
theorem reverse_rows {α : Type} {K : ℕ} (x : (⟨3, ![64, 128, K]⟩ : Shape).Idx → α) (t : Fin 64) (s : Fin 128) (k : Fin K) :
    Host.reverse [0] x (ix3 t s k) = x (ix3 (⟨63 - t.val, by omega⟩ : Fin 64) s k) := by
  refine congrArg x (funext fun a => Fin.ext ?_)
  match a with
  | ⟨0, _⟩ => show 64 - (t.val + 1) = 63 - t.val; omega
  | ⟨1, _⟩ => rfl
  | ⟨2, _⟩ => rfl

/-- The rows the backward recurrence takes: the forward ones from the last down. -/
theorem rev_at (V : Valuation τ sig (Elt Ideal)) (t : Fin 64) (s : Fin 128) (k : Fin 1395) :
    StableHlo.after hostOps0_5 V (Proc.devRef .tc main_v671_1) (ix3 t s k)
      = StableHlo.after hostOps0_5 V (Proc.devRef .tc main_v671_0) (ix3 (⟨63 - t.val, by omega⟩ : Fin 64) s k) := by
  after_reads_at
  exact reverse_rows _ t s k

/-- A sum over the features, piece by piece. -/
theorem sum_pieces (f : Fin 1395 → EReal) :
    ∑ k, f k = ∑ k : Fin 1024, f ⟨k.val, by omega⟩ + ∑ k : Fin 300, f ⟨1024 + k.val, by omega⟩ + ∑ k : Fin 64, f ⟨1324 + k.val, by omega⟩
      + ∑ k : Fin 7, f ⟨1388 + k.val, by omega⟩ :=
  (Fin.sum_univ_add (a := 1388) (b := 7) f).trans (congrArg (· + _) ((Fin.sum_univ_add (a := 1324) (b := 64) _).trans
    (congrArg (· + _) (Fin.sum_univ_add (a := 1024) (b := 300) _))))

/-- The product of a word's row of features with a gate's weights, and the bias, is the input gate. -/
theorem features_gate (h : (argsAt U).InTable) (W : (⟨2, ![768, 1395]⟩ : Shape).Idx → EReal) (b : (⟨1, ![768]⟩ : Shape).Idx → EReal)
    (t : Fin 64) (s : Fin 128) (g : Fin 768) :
    affine (fun k => U6 U (Proc.devRef .tc main_v671_0) (ix3 t s k)) (fun k => W (ix2 g k)) (b (ix1 g)) = (argsAt U).inputGate W b t s g := by
  unfold affine Args.inputGate wordGate
  rw [sum_pieces]
  have e1 : ∀ k : Fin 1024, U6 U (Proc.devRef .tc main_v671_0) (ix3 t s (⟨k.val, by omega⟩ : Fin 1395)) = (argsAt U).elmo (ix3 t s k) :=
    fun k => (piece_elmo (U5 U) t s k).trans (congrFun (U5_arg U main_arg2 (by decide)) _)
  have e2 : ∀ k : Fin 300, U6 U (Proc.devRef .tc main_v671_0) (ix3 t s (⟨1024 + k.val, by omega⟩ : Fin 1395)) = (argsAt U).glove (ix3 t s k) :=
    fun k => (piece_glove (U5 U) t s k).trans (congrFun (U5_arg U main_arg3 (by decide)) _)
  have e3 : ∀ k : Fin 64, U6 U (Proc.devRef .tc main_v671_0) (ix3 t s (⟨1324 + k.val, by omega⟩ : Fin 1395)) = (argsAt U).wordChars (Args.word t s) k :=
    fun k => (piece_chars (U5 U) t s k).trans (v665_eq U h t s k)
  have e4 : ∀ k : Fin 7, U6 U (Proc.devRef .tc main_v671_0) (ix3 t s (⟨1388 + k.val, by omega⟩ : Fin 1395)) = (argsAt U).onehot (ix3 t s k) :=
    fun k => (piece_onehot (U5 U) t s k).trans (congrFun (U5_arg U main_arg4 (by decide)) _)
  simp only [e1, e2, e3, e4]
  exact congrArg (· + b (ix1 g)) (add_right_comm _ _ _)

end Cert.ReferenceIdeal.Val

end
-- ==== Proof.ReferenceIdealLoop.lean ====
/- The reference's loop over the positions, and what the reference computes: after `n` turns the carried states are the two recurrences
   after `n` positions, and the rows written are their states so far. -/
module

public import proofs.«01_k».proof.Proof.ReferenceIdealCell
public import proofs.«01_k».proof.Proof.ReferenceIdealFeatures

@[expose] public section

set_option maxRecDepth 16384

noncomputable section

namespace Cert.ReferenceIdeal.Val

open Idealize.ShloMosaic Cert.ReferenceIdeal Cert.ReferenceIdeal.Gen Cert.Spec
open Idealize.ShloMosaic.TcCoe

/-- The buffers the loop only reads: the two arrays of features, and the weights and biases. -/
def readRefs : List (Ref sig .tc) := [main_v671_0, main_v671_1, main_v671_2, main_v671_3, main_v671_4, main_v671_5, main_v671_6, main_v671_7,
  main_v671_8, main_v671_9]

/-- A turn keeps what the loop only reads. -/
theorem step_keeps (V : Valuation τ sig (Elt Ideal)) : ∀ r ∈ readRefs, Value.STEP V (Proc.devRef .tc r) = V (Proc.devRef .tc r) := by
  unfold readRefs
  simp only [List.forall_mem_cons]
  exact ⟨Value.STEP_main_v671_0 V, Value.STEP_main_v671_1 V, Value.STEP_main_v671_2 V, Value.STEP_main_v671_3 V, Value.STEP_main_v671_4 V,
    Value.STEP_main_v671_5 V, Value.STEP_main_v671_6 V, Value.STEP_main_v671_7 V, Value.STEP_main_v671_8 V, Value.STEP_main_v671_9 V,
    fun _ h => nomatch h⟩

variable (U : Valuation τ sig (Elt Ideal))

/-- The buffers after `n` turns. -/
def turn (n : ℕ) : Valuation τ sig (Elt Ideal) := Value.STEP^[n] (U6 U)

/-- A turn more is one turn of the loop. -/
theorem turn_succ (n : ℕ) : turn U (n + 1) = Value.STEP (turn U n) := Function.iterate_succ_apply' _ _ _

/-- What the loop only reads is as at its entry. -/
theorem turn_keeps (r : Ref sig .tc) (h : r ∈ readRefs) : ∀ n, turn U n (Proc.devRef .tc r) = U6 U (Proc.devRef .tc r)
  | 0 => rfl
  | n + 1 => by rw [turn_succ]; exact (step_keeps _ r h).trans (turn_keeps r h n)

/-! ### The loop's entry -/

/-- The count starts at zero. -/
theorem entry_count (V : Valuation τ sig (Elt Ideal)) : StableHlo.after hostOps0_5 V (Proc.devRef .tc main_v671_10) ix0 = 0#32 := by
  after_reads_at
  rfl

/-- The forward state starts at zero. -/
theorem entry_fwd (V : Valuation τ sig (Elt Ideal)) (s : Fin 128) (j : Fin 256) : StableHlo.after hostOps0_5 V (Proc.devRef .tc main_v671_11) (ix2 s j) = (0 : EReal) := by
  after_reads_at
  unfold id
  pointwise []

/-- The backward state starts at zero. -/
theorem entry_bwd (V : Valuation τ sig (Elt Ideal)) (s : Fin 128) (j : Fin 256) : StableHlo.after hostOps0_5 V (Proc.devRef .tc main_v671_12) (ix2 s j) = (0 : EReal) := by
  after_reads_at
  unfold id
  pointwise []

/-- The forward input weights. -/
theorem entry_fWih (V : Valuation τ sig (Elt Ideal)) (g : Fin 768) (k : Fin 1395) :
    StableHlo.after hostOps0_5 V (Proc.devRef .tc main_v671_2) (ix2 g k) = V (Proc.devRef .tc main_arg10) (ix2 g k) := by after_reads_at; rfl

/-- The forward input biases. -/
theorem entry_fbih (V : Valuation τ sig (Elt Ideal)) (g : Fin 768) :
    StableHlo.after hostOps0_5 V (Proc.devRef .tc main_v671_3) (ix1 g) = V (Proc.devRef .tc main_arg12) (ix1 g) := by after_reads_at; rfl

/-- The forward hidden weights. -/
theorem entry_fWhh (V : Valuation τ sig (Elt Ideal)) (g : Fin 768) (k : Fin 256) :
    StableHlo.after hostOps0_5 V (Proc.devRef .tc main_v671_4) (ix2 g k) = V (Proc.devRef .tc main_arg11) (ix2 g k) := by after_reads_at; rfl

/-- The forward hidden biases. -/
theorem entry_fbhh (V : Valuation τ sig (Elt Ideal)) (g : Fin 768) :
    StableHlo.after hostOps0_5 V (Proc.devRef .tc main_v671_5) (ix1 g) = V (Proc.devRef .tc main_arg13) (ix1 g) := by after_reads_at; rfl

/-- The backward input weights. -/
theorem entry_bWih (V : Valuation τ sig (Elt Ideal)) (g : Fin 768) (k : Fin 1395) :
    StableHlo.after hostOps0_5 V (Proc.devRef .tc main_v671_6) (ix2 g k) = V (Proc.devRef .tc main_arg14) (ix2 g k) := by after_reads_at; rfl

/-- The backward input biases. -/
theorem entry_bbih (V : Valuation τ sig (Elt Ideal)) (g : Fin 768) :
    StableHlo.after hostOps0_5 V (Proc.devRef .tc main_v671_7) (ix1 g) = V (Proc.devRef .tc main_arg16) (ix1 g) := by after_reads_at; rfl

/-- The backward hidden weights. -/
theorem entry_bWhh (V : Valuation τ sig (Elt Ideal)) (g : Fin 768) (k : Fin 256) :
    StableHlo.after hostOps0_5 V (Proc.devRef .tc main_v671_8) (ix2 g k) = V (Proc.devRef .tc main_arg15) (ix2 g k) := by after_reads_at; rfl

/-- The backward hidden biases. -/
theorem entry_bbhh (V : Valuation τ sig (Elt Ideal)) (g : Fin 768) :
    StableHlo.after hostOps0_5 V (Proc.devRef .tc main_v671_9) (ix1 g) = V (Proc.devRef .tc main_arg17) (ix1 g) := by after_reads_at; rfl

/-! ### The turns -/

/-- The counter after `n` turns is `n`. -/
theorem turn_count : ∀ n, turn U n (Proc.devRef .tc main_v671_10) ix0 = BitVec.ofNat 32 n
  | 0 => entry_count _
  | n + 1 => by
    rw [turn_succ, Value.STEP_main_v671_10]
    show IntOp.addi (turn U n (Proc.devRef .tc main_v671_10) ix0) 1#32 = _
    rw [turn_count n]
    exact (BitVec.ofNat_add n 1).symm

/-- One forward turn: the cell of the position the counter names. -/
theorem fwd_cell (h : (argsAt U).InTable) (n : ℕ) (hn : n < 64) (s : Fin 128) (j : Fin 256)
    (ih : ∀ k : Fin 256, turn U n (Proc.devRef .tc main_v671_11) (ix2 s k) = (argsAt U).forward s n k) :
    Value.res_main_while0b_v713 (turn U n) (ix2 s j) = (argsAt U).forward s (n + 1) j := by
  rw [cell_fwd (turn U n) n hn (turn_count U n) s j]
  rw [turn_keeps U main_v671_0 (by decide), turn_keeps U main_v671_2 (by decide), turn_keeps U main_v671_3 (by decide),
    turn_keeps U main_v671_4 (by decide), turn_keeps U main_v671_5 (by decide)]
  have w : ∀ g k, U6 U (Proc.devRef .tc main_v671_2) (ix2 g k) = (argsAt U).fWih (ix2 g k) := fun g k => (entry_fWih (U5 U) g k).trans (congrFun (U5_arg U main_arg10 (by decide)) _)
  have b : ∀ g, U6 U (Proc.devRef .tc main_v671_3) (ix1 g) = (argsAt U).fbih (ix1 g) := fun g => (entry_fbih (U5 U) g).trans (congrFun (U5_arg U main_arg12 (by decide)) _)
  have w' : ∀ g k, U6 U (Proc.devRef .tc main_v671_4) (ix2 g k) = (argsAt U).fWhh (ix2 g k) := fun g k => (entry_fWhh (U5 U) g k).trans (congrFun (U5_arg U main_arg11 (by decide)) _)
  have b' : ∀ g, U6 U (Proc.devRef .tc main_v671_5) (ix1 g) = (argsAt U).fbhh (ix1 g) := fun g => (entry_fbhh (U5 U) g).trans (congrFun (U5_arg U main_arg13 (by decide)) _)
  have p : (⟨n, hn⟩ : Fin 64) = ⟨n % 64, Nat.mod_lt _ (by norm_num)⟩ := Fin.ext (Nat.mod_eq_of_lt hn).symm
  simp only [ih, w, b, w', b', features_gate U h, p]
  rfl

/-- One backward turn. -/
theorem bwd_cell (h : (argsAt U).InTable) (n : ℕ) (hn : n < 64) (s : Fin 128) (j : Fin 256)
    (ih : ∀ k : Fin 256, turn U n (Proc.devRef .tc main_v671_12) (ix2 s k) = (argsAt U).backward s n k) :
    Value.res_main_while0b_v751 (turn U n) (ix2 s j) = (argsAt U).backward s (n + 1) j := by
  rw [cell_bwd (turn U n) n hn (turn_count U n) s j]
  rw [turn_keeps U main_v671_1 (by decide), turn_keeps U main_v671_6 (by decide), turn_keeps U main_v671_7 (by decide),
    turn_keeps U main_v671_8 (by decide), turn_keeps U main_v671_9 (by decide)]
  have f : ∀ k : Fin 1395, U6 U (Proc.devRef .tc main_v671_1) (ix3 (⟨n, hn⟩ : Fin 64) s k) = U6 U (Proc.devRef .tc main_v671_0) (ix3 (⟨63 - n, by omega⟩ : Fin 64) s k) :=
    fun k => rev_at (U5 U) ⟨n, hn⟩ s k
  have w : ∀ g k, U6 U (Proc.devRef .tc main_v671_6) (ix2 g k) = (argsAt U).bWih (ix2 g k) := fun g k => (entry_bWih (U5 U) g k).trans (congrFun (U5_arg U main_arg14 (by decide)) _)
  have b : ∀ g, U6 U (Proc.devRef .tc main_v671_7) (ix1 g) = (argsAt U).bbih (ix1 g) := fun g => (entry_bbih (U5 U) g).trans (congrFun (U5_arg U main_arg16 (by decide)) _)
  have w' : ∀ g k, U6 U (Proc.devRef .tc main_v671_8) (ix2 g k) = (argsAt U).bWhh (ix2 g k) := fun g k => (entry_bWhh (U5 U) g k).trans (congrFun (U5_arg U main_arg15 (by decide)) _)
  have b' : ∀ g, U6 U (Proc.devRef .tc main_v671_9) (ix1 g) = (argsAt U).bbhh (ix1 g) := fun g => (entry_bbhh (U5 U) g).trans (congrFun (U5_arg U main_arg17 (by decide)) _)
  simp only [ih, f, w, b, w', b', features_gate U h]
  rfl

/-- The forward state after `n` turns. -/
theorem turn_fwd (h : (argsAt U).InTable) (s : Fin 128) : ∀ n ≤ 64, ∀ j : Fin 256, turn U n (Proc.devRef .tc main_v671_11) (ix2 s j) = (argsAt U).forward s n j
  | 0, _, j => entry_fwd _ s j
  | n + 1, hn, j => by
    rw [turn_succ, Value.STEP_main_v671_11]
    exact fwd_cell U h n (by omega) s j (turn_fwd h s n (by omega))

/-- The backward state after `n` turns. -/
theorem turn_bwd (h : (argsAt U).InTable) (s : Fin 128) : ∀ n ≤ 64, ∀ j : Fin 256, turn U n (Proc.devRef .tc main_v671_12) (ix2 s j) = (argsAt U).backward s n j
  | 0, _, j => entry_bwd _ s j
  | n + 1, hn, j => by
    rw [turn_succ, Value.STEP_main_v671_12]
    exact bwd_cell U h n (by omega) s j (turn_bwd h s n (by omega))

/-- The rows of forward states after `n` turns: row `t < n` is the state after `t + 1` positions. -/
theorem turn_fwd_rows (h : (argsAt U).InTable) (s : Fin 128) (j : Fin 256) (t : Fin 64) : ∀ n ≤ 64, t.val < n →
    turn U n (Proc.devRef .tc main_v671_13) (ix3 t s j) = (argsAt U).forward s (t.val + 1) j
  | 0, _, ht => absurd ht (by omega)
  | n + 1, hn, ht => by
    rw [turn_succ, rows_fwd (turn U n) n (by omega) (turn_count U n) t s j]
    by_cases e : t.val = n
    · rw [if_pos e, fwd_cell U h n (by omega) s j (turn_fwd U h s n (by omega)), e]
    · rw [if_neg e]
      exact turn_fwd_rows h s j t n (by omega) (by omega)

/-- The rows of backward states after `n` turns. -/
theorem turn_bwd_rows (h : (argsAt U).InTable) (s : Fin 128) (j : Fin 256) (t : Fin 64) : ∀ n ≤ 64, t.val < n →
    turn U n (Proc.devRef .tc main_v671_14) (ix3 t s j) = (argsAt U).backward s (t.val + 1) j
  | 0, _, ht => absurd ht (by omega)
  | n + 1, hn, ht => by
    rw [turn_succ, rows_bwd (turn U n) n (by omega) (turn_count U n) t s j]
    by_cases e : t.val = n
    · rw [if_pos e, bwd_cell U h n (by omega) s j (turn_bwd U h s n (by omega)), e]
    · rw [if_neg e]
      exact turn_bwd_rows h s j t n (by omega) (by omega)

/-- Forward rows beside the reversed backward rows, read at an index. -/
theorem beside_at (x y : S64x128x256.Idx → EReal) (hc : Shape.Concatenates [S64x128x256, S64x128x256] S64x128x512 2) (t : Fin 64) (s : Fin 128) (j : Fin 512) :
    concatenate S64x128x512 2 [⟨S64x128x256, x⟩, ⟨S64x128x256, Host.reverse [0] y⟩] hc (ix3 t s j)
      = if h : j.val < 256 then x (ix3 t s (⟨j.val, h⟩ : Fin 256)) else y (ix3 (⟨63 - t.val, by omega⟩ : Fin 64) s (⟨j.val - 256, by omega⟩ : Fin 256)) := by
  pointwise []
  by_cases hj : j.val < 256
  · rw [dif_pos hj, dif_pos hj]
  · rw [dif_neg hj, dif_neg hj]
    refine congrArg y (funext fun a => Fin.ext ?_)
    match a with
    | ⟨0, _⟩ => show 64 - (t.val + 1) = 63 - t.val; omega
    | ⟨1, _⟩ => rfl
    | ⟨2, _⟩ => rfl

/-- What the reference returns: the forward states beside the reversed rows of the backward ones. -/
theorem out_eq (h : (argsAt U).InTable) :
    Value.out_main_v673 (turn U 64) = fun y : S64x128x512.Idx => (argsAt U).result (y 0) (y 1) (y 2) := by
  funext y
  obtain ⟨t, s, j, rfl⟩ : ∃ (t : Fin 64) (s : Fin 128) (j : Fin 512), y = ix3 t s j := ⟨y 0, y 1, y 2, by
    funext a
    match a with
    | ⟨0, _⟩ => rfl
    | ⟨1, _⟩ => rfl
    | ⟨2, _⟩ => rfl⟩
  show _ = (argsAt U).result t s j
  unfold Value.out_main_v673 Args.result
  rw [beside_at]
  by_cases hj : j.val < 256
  · rw [dif_pos hj, dif_pos hj]
    exact turn_fwd_rows U h s _ t 64 (by omega) t.isLt
  · rw [dif_neg hj, dif_neg hj]
    rw [turn_bwd_rows U h s _ (⟨63 - t.val, by omega⟩ : Fin 64) 64 (by omega) (by show 63 - t.val < 64; omega)]
    have e : (⟨63 - t.val, by omega⟩ : Fin 64).val + 1 = 64 - t.val := by show 63 - t.val + 1 = 64 - t.val; omega
    rw [e]

end Cert.ReferenceIdeal.Val

end
-- ==== Proof.Claims.lean ====
/- The two programs compute one result: the precondition read at a character, the two arrays of arguments identified, and the
   algebraic claim. -/
module

public import proofs.«01_k».proof.Defs
public import proofs.«01_k».proof.Proof.KernelIdealResult
public import proofs.«01_k».proof.Proof.ReferenceIdealLoop

@[expose] public section

set_option maxRecDepth 16384

noncomputable section

namespace Cert.Proof

open Idealize.ShloMosaic Idealize.SL.Sem Cert.Spec
open Idealize.ShloMosaic.TcCoe

/-- The one shape relation the precondition takes: a scalar broadcasts to the array of characters. -/
theorem pre_facts : Cert.Pre_chars_in_table.Facts := ⟨by decide⟩

/-- A word at least zero and less than `128`, both signed, is a number below `128`. -/
theorem lt_of_ge_slt (w : BitVec 32) (h : IntOp.andi (IntOp.cmpi .sge w 0#32) (IntOp.cmpi .slt w 128#32) = 1#1) : w.toNat < 128 := by
  have hand : ∀ a b : BitVec 1, IntOp.andi a b = 1#1 → a = 1#1 ∧ b = 1#1 := by decide
  obtain ⟨h0, h1⟩ := hand _ _ h
  have hbit : ∀ b : Bool, BitVec.ofBool b = 1#1 → b = true := by decide
  rw [WordCmp.cmpi_sge_eq] at h0
  rw [WordCmp.cmpi_slt_eq] at h1
  have e0 := of_decide_eq_true (hbit _ h0)
  have e1 := of_decide_eq_true (hbit _ h1)
  rw [show (0#32).toInt = 0 by decide, BitVec.toInt_eq_toNat_cond] at e0
  rw [show (128#32).toInt = 128 by decide, BitVec.toInt_eq_toNat_cond] at e1
  split at e0 <;> split at e1 <;> omega

/-- Under the precondition every character is in the table. -/
theorem in_table (m : (ℓ : Loc Cert.KernelIdeal.nD Cert.KernelIdeal.τ Cert.KernelIdeal.sig) → Buf (Elt Ideal) ℓ)
    (h : Cert.Pre_KernelIdeal_chars_in_table (hPre_chars_in_table := pre_facts) m) (c : Dev Cert.KernelIdeal.nD) :
    (Cert.KernelIdeal.Val.argsOf m c).InTable := by
  intro i
  exact lt_of_ge_slt _ (congrFun (h c) i)

/-- The reference's run from its own arguments: the result is the two recurrences beside each other, the arguments end as launched. -/
theorem reference_result (m : (ℓ : Loc Cert.ReferenceIdeal.nD Cert.ReferenceIdeal.τ Cert.ReferenceIdeal.sig) → Buf (Elt Ideal) ℓ)
    (c : Dev Cert.ReferenceIdeal.nD) (h : (Cert.ReferenceIdeal.Val.argsAt (StableHlo.launchContents m c)).InTable) :
    Cert.ReferenceIdeal.Value.out_main_v673 (Cert.ReferenceIdeal.Value.STEP^[64] (StableHlo.entryContents Cert.ReferenceIdeal.Value.preI m c))
      = fun y : Cert.ReferenceIdeal.S64x128x512.Idx => (Cert.ReferenceIdeal.Val.argsAt (StableHlo.launchContents m c)).result (y 0) (y 1) (y 2) :=
  Cert.ReferenceIdeal.Val.out_eq (StableHlo.launchContents m c) h

section
open Cert.KernelIdeal Cert.KernelIdeal.Run

/-- The kernel's run: the result is the two recurrences beside each other, the arguments end as launched. -/
theorem kernel_result (m : (ℓ : Loc nD τ sig) → Buf (Elt Ideal) ℓ) (g : Dev nD → PrngReg) (h : ∀ c, (Val.argsOf m c).InTable) :
    θ_run (defs (F := Ideal)) (onTc (τ := τ) (main (F := Ideal))) ⟨m, fun _ => 0, g⟩ (fun r => ∀ c : Dev nD,
      r.2.mem ((c.tc : Thread nD τ).loc main_v33) = (fun y : S64x128x512.Idx => (Val.argsOf m c).result (y 0) (y 1) (y 2))
      ∧ ∀ a ∈ argRefs, r.2.mem ((c.tc : Thread nD τ).loc a) = m ((c.tc : Thread nD τ).loc a)) :=
  (θ_run defs _ _).mono (fun r hr c => ⟨((hr.1 c _ (mem_uc main_v33 (by decide))).trans (W6_result m g c)).trans (Val.outFinal_eq m g c (h c)),
    fun a ha => arg_kept m g c r.2 (hr.1 c) a ha ((by decide : ∀ a ∈ argRefs, ¬ (Proc.devRef .tc a : DevRef τ sig).isScoped) a ha)⟩) (run_all m g)

end

/-- The idealized kernel and the idealized reference, from the same arguments with every character in the table, end with equal results. -/
theorem algebraic : Cert.algebraic_KernelIdeal_ReferenceIdeal_pre_chars_in_table (hKernelIdeal := Cert.KernelIdeal.Gen.facts)
    (hReferenceIdeal := Cert.ReferenceIdeal.Gen.facts) (hPre_chars_in_table := pre_facts) := fun m g m' g' hpre hargs => by
  have ht : ∀ c, (Cert.KernelIdeal.Val.argsOf m c).InTable := in_table m hpre
  refine ⟨fun c y => (Cert.KernelIdeal.Val.argsOf m c).result (y 0) (y 1) (y 2), ?_, ?_⟩
  · refine (θ_run Cert.KernelIdeal.defs _ _).mono (fun r h c => ⟨(h c).1, ?_⟩) (kernel_result m g ht)
    simpa only [Cert.KernelIdeal.Run.argRefs, List.forall_mem_cons, List.not_mem_nil, false_implies, implies_true, and_true] using (h c).2
  · refine (θ_run Cert.ReferenceIdeal.defs _ _).mono (fun r h c => ⟨(h c).1.trans ?_, (h c).2⟩) (Cert.ReferenceIdeal.Value.run m' g')
    have e : Cert.ReferenceIdeal.Val.argsAt (StableHlo.launchContents m' c) = Cert.KernelIdeal.Val.argsOf m c :=
      (Args.mk.injEq _ _ _ _ _ _ _ _ _ _ _ _ _ _ _ _ _ _ _ _ _ _ _ _ _ _ _ _ _ _ _ _ _ _ _ _).mpr (hargs c)
    rw [reference_result m' c (by rw [e]; exact ht c), e]
    rfl

end Cert.Proof

end
-- ==== Proof.lean ====
module

public import proofs.«01_k».proof.Defs
public import proofs.«01_k».proof.Proof.KernelRun
public import proofs.«01_k».proof.Proof.KernelIdealRun
public import proofs.«01_k».proof.Proof.Gen.ReferenceIdeal.Run
public import proofs.«01_k».proof.Proof.Claims

@[expose] public section

noncomputable section

namespace Cert.Proof

open Idealize.ShloMosaic Idealize.SL.Sem

/-- The idealized reference ends with its arguments unchanged; it declares no semaphore. -/
theorem frame_ReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The claims: with the frames, what the precondition adds to them is not used; the algebraic claim takes it. -/
theorem claim : Cert.Claim := ⟨Cert.Kernel.Gen.facts, Cert.KernelIdeal.Gen.facts, Cert.ReferenceIdeal.Gen.facts, pre_facts,
  fun m g _ => Cert.Kernel.Run.frame m g, fun m g _ => Cert.KernelIdeal.Run.frame m g, fun m g _ => Cert.KernelIdeal.Run.frame m g,
  frame_ReferenceIdeal, fun m g _ => frame_ReferenceIdeal m g trivial, trivial, algebraic⟩

end Cert.Proof

end
